-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S16384x26 : Shape := ⟨2, ![16384, 26]⟩
abbrev S26x100000x32 : Shape := ⟨3, ![26, 100000, 32]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S26x100000x32 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S26x100000x32 : Shape := ⟨3, ![26, 100000, 32]⟩
abbrev S26x16384 : Shape := ⟨2, ![26, 16384]⟩
abbrev S26x32x100000 : Shape := ⟨3, ![26, 32, 100000]⟩
abbrev S832x16384 : Shape := ⟨2, ![832, 16384]⟩
abbrev S100000 : Shape := ⟨1, ![100000]⟩
abbrev S16384 : Shape := ⟨1, ![16384]⟩
abbrev S2048 : Shape := ⟨1, ![2048]⟩
abbrev S_ : Shape := ⟨0, ![]⟩
abbrev S1x1x100000 : Shape := ⟨3, ![1, 1, 100000]⟩
abbrev S1x16384 : Shape := ⟨2, ![1, 16384]⟩
abbrev S1x2048 : Shape := ⟨2, ![1, 2048]⟩
abbrev S16 : Shape := ⟨1, ![16]⟩
abbrev S16384x832 : Shape := ⟨2, ![16384, 832]⟩

abbrev nBuf : Table → Nat
  | .hbm => 6
  | .local .scVector .vmem => 4
  | _ => 0

abbrev bufTy : (tb : Table) → Fin (nBuf tb) → BufTy
  | .hbm, ⟨0, _⟩ => ⟨S16384x26, .i32⟩
  | .hbm, ⟨1, _⟩ => ⟨S26x100000x32, .f32⟩
  | .hbm, ⟨2, _⟩ => ⟨S26x16384, .i32⟩
  | .hbm, ⟨3, _⟩ => ⟨S26x32x100000, .f32⟩
  | .hbm, ⟨4, _⟩ => ⟨S832x16384, .f32⟩
  | .hbm, ⟨5, _⟩ => ⟨S16384x832, .f32⟩
  | .local .scVector .vmem, ⟨0, _⟩ => ⟨S100000, .f32⟩
  | .local .scVector .vmem, ⟨1, _⟩ => ⟨S16384, .i32⟩
  | .local .scVector .vmem, ⟨2, _⟩ => ⟨S2048, .f32⟩
  | .local .scVector .vmem, ⟨3, _⟩ => ⟨S2048, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c26_i32_1 : BitVec 32 := 26#32
  let v3 : BitVec 32 := Scalar.addi c0_i32_0 c26_i32_1
  let c1_i32 : BitVec 32 := 1#32
  ⟨c0_i32_0, v3, c1_i32⟩
def k0_off1 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let c0_i32_0 : BitVec 32 := 0#32
  let c1_i32 : BitVec 32 := 1#32
  let arg13 : BitVec 32 := Scf.iv c0_i32_0 c1_i32 k0_t1
  let v12 : BitVec 32 := Scalar.addi v2 arg13
  let c0_i32_9 : BitVec 32 := 0#32
  let v14 : BitVec 1 := Scalar.cmpi .sgt v12 c0_i32_9
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c32_i32 : BitVec 32 := 32#32
  let c0_i32_11 : BitVec 32 := 0#32
  let v19 : BitVec 1 := Scalar.cmpi .sgt c32_i32 c0_i32_11
  let v20 : BitVec 32 := Scalar.extui v19
  let c0_i32_12 : BitVec 32 := 0#32
  let v21 : BitVec 1 := Scalar.cmpi .slt c32_i32 c0_i32_12
  let v22 : BitVec 32 := Scalar.extui v21
  let v23 : BitVec 32 := Scalar.subi v20 v22
  let v24 : BitVec 1 := Scalar.cmpi .ne v18 v23
  let v25 : BitVec 32 := Scalar.remsi v12 c32_i32
  let c0_i32_13 : BitVec 32 := 0#32
  let v26 : BitVec 1 := Scalar.cmpi .ne v25 c0_i32_13
  let v27 : BitVec 1 := Scalar.andi v24 v26
  let v13 : BitVec 32 := Scalar.divsi v12 c32_i32
  let c1_i32_14 : BitVec 32 := 1#32
  let v28 : BitVec 32 := Scalar.subi v13 c1_i32_14
  let v29 : BitVec 32 := Scalar.select v27 v28 v13
  let c32_i32_15 : BitVec 32 := 32#32
  let c0_i32_16 : BitVec 32 := 0#32
  let v30 : BitVec 1 := Scalar.cmpi .eq c32_i32_15 c0_i32_16
  let c1_i32_17 : BitVec 32 := 1#32
  let v31 : BitVec 32 := Scalar.select v30 c1_i32_17 c32_i32_15
  let v32 : BitVec 32 := Scalar.remsi v12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c0_i32_21 : BitVec 32 := 0#32
  ![v29.toNat, v39.toNat, 0]
def k0_cond1 (i : grid0.Coords) (k0_t1 : Fin k0_t1_loop.trips) : BitVec 1 :=
  let c0_i32_0 : BitVec 32 := 0#32
  let c1_i32 : BitVec 32 := 1#32
  let arg13 : BitVec 32 := Scf.iv c0_i32_0 c1_i32 k0_t1
  let c0_i32_23 : BitVec 32 := 0#32
  let v44 : BitVec 1 := Scalar.cmpi .eq arg13 c0_i32_23
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let v12 : BitVec 32 := Scalar.addi v2 arg13
  let c32_i32_15 : BitVec 32 := 32#32
  let c0_i32_16 : BitVec 32 := 0#32
  let v30 : BitVec 1 := Scalar.cmpi .eq c32_i32_15 c0_i32_16
  let c1_i32_17 : BitVec 32 := 1#32
  let v31 : BitVec 32 := Scalar.select v30 c1_i32_17 c32_i32_15
  let v32 : BitVec 32 := Scalar.remsi v12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c0_i32_24 : BitVec 32 := 0#32
  let v45 : BitVec 1 := Scalar.cmpi .eq v39 c0_i32_24
  let v46 : BitVec 1 := Scalar.ori v44 v45
  let v47 : BitVec 32 := Scalar.extui v46
  let c0_i32_25 : BitVec 32 := 0#32
  let v48 : BitVec 1 := Scalar.cmpi .ne v47 c0_i32_25
  v48

def k0_off2 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let c0_i32_0 : BitVec 32 := 0#32
  let c1_i32 : BitVec 32 := 1#32
  let arg13 : BitVec 32 := Scf.iv c0_i32_0 c1_i32 k0_t1
  let v12 : BitVec 32 := Scalar.addi v2 arg13
  let c0_i32_9 : BitVec 32 := 0#32
  let v14 : BitVec 1 := Scalar.cmpi .sgt v12 c0_i32_9
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c32_i32 : BitVec 32 := 32#32
  let c0_i32_11 : BitVec 32 := 0#32
  let v19 : BitVec 1 := Scalar.cmpi .sgt c32_i32 c0_i32_11
  let v20 : BitVec 32 := Scalar.extui v19
  let c0_i32_12 : BitVec 32 := 0#32
  let v21 : BitVec 1 := Scalar.cmpi .slt c32_i32 c0_i32_12
  let v22 : BitVec 32 := Scalar.extui v21
  let v23 : BitVec 32 := Scalar.subi v20 v22
  let v24 : BitVec 1 := Scalar.cmpi .ne v18 v23
  let v25 : BitVec 32 := Scalar.remsi v12 c32_i32
  let c0_i32_13 : BitVec 32 := 0#32
  let v26 : BitVec 1 := Scalar.cmpi .ne v25 c0_i32_13
  let v27 : BitVec 1 := Scalar.andi v24 v26
  let v13 : BitVec 32 := Scalar.divsi v12 c32_i32
  let c1_i32_14 : BitVec 32 := 1#32
  let v28 : BitVec 32 := Scalar.subi v13 c1_i32_14
  let v29 : BitVec 32 := Scalar.select v27 v28 v13
  let c0_i32_100 : BitVec 32 := 0#32
  ![v29.toNat, 0]
@[reducible] def k0_t2_loop : Scf.Loop 32 :=
  let c0_i32_33 : BitVec 32 := 0#32
  let c8_i32 : BitVec 32 := 8#32
  let v56 : BitVec 32 := Scalar.addi c0_i32_33 c8_i32
  let c1_i32_34 : BitVec 32 := 1#32
  ⟨c0_i32_33, v56, c1_i32_34⟩
def k0_off3 (k0_t2 : Fin k0_t2_loop.trips) : Fin 1 → Nat :=
  let c0_i32_101 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c0_i32_100 : BitVec 32 := 0#32
  let v124 : BitVec 32 := Scalar.addi v123 c0_i32_100
  let v125 : BitVec 32 := Scalar.addi c0_i32_101 v124
  let v126 : Index := Scalar.indexCast v125
  ![v126.toNat]

def k0_chk1 (v127 : IVec S16 32) : Prop :=
  (∀ a x, ((![v127] : Fin 1 → IVec S16 32) a x).toNat < S100000.size a)
theorem k0_idx1_inb : ∀ (v127 : IVec S16 32) (k0_hw1 : k0_chk1 v127), ∀ a x, ((![v127] : Fin 1 → IVec S16 32) a x).toNat < S100000.size a := fun v127 k0_hw1 => k0_hw1
def k0_off4 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c0_i32_100 : BitVec 32 := 0#32
  let v124 : BitVec 32 := Scalar.addi v123 c0_i32_100
  let v129 : Index := Scalar.indexCast v124
  ![v129.toNat]
def k0_off5 (k0_t2 : Fin k0_t2_loop.trips) : Fin 1 → Nat :=
  let c0_i32_103 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c16_i32_102 : BitVec 32 := 16#32
  let v131 : BitVec 32 := Scalar.addi v123 c16_i32_102
  let v132 : BitVec 32 := Scalar.addi c0_i32_103 v131
  let v133 : Index := Scalar.indexCast v132
  ![v133.toNat]

def k0_chk2 (v134 : IVec S16 32) : Prop :=
  (∀ a x, ((![v134] : Fin 1 → IVec S16 32) a x).toNat < S100000.size a)
theorem k0_idx2_inb : ∀ (v134 : IVec S16 32) (k0_hw2 : k0_chk2 v134), ∀ a x, ((![v134] : Fin 1 → IVec S16 32) a x).toNat < S100000.size a := fun v134 k0_hw2 => k0_hw2
def k0_off6 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c16_i32_102 : BitVec 32 := 16#32
  let v131 : BitVec 32 := Scalar.addi v123 c16_i32_102
  let v136 : Index := Scalar.indexCast v131
  ![v136.toNat]
def k0_off7 (k0_t2 : Fin k0_t2_loop.trips) : Fin 1 → Nat :=
  let c0_i32_105 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c32_i32_104 : BitVec 32 := 32#32
  let v138 : BitVec 32 := Scalar.addi v123 c32_i32_104
  let v139 : BitVec 32 := Scalar.addi c0_i32_105 v138
  let v140 : Index := Scalar.indexCast v139
  ![v140.toNat]

def k0_chk3 (v141 : IVec S16 32) : Prop :=
  (∀ a x, ((![v141] : Fin 1 → IVec S16 32) a x).toNat < S100000.size a)
theorem k0_idx3_inb : ∀ (v141 : IVec S16 32) (k0_hw3 : k0_chk3 v141), ∀ a x, ((![v141] : Fin 1 → IVec S16 32) a x).toNat < S100000.size a := fun v141 k0_hw3 => k0_hw3
def k0_off8 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c32_i32_104 : BitVec 32 := 32#32
  let v138 : BitVec 32 := Scalar.addi v123 c32_i32_104
  let v143 : Index := Scalar.indexCast v138
  ![v143.toNat]
def k0_off9 (k0_t2 : Fin k0_t2_loop.trips) : Fin 1 → Nat :=
  let c0_i32_106 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c48_i32 : BitVec 32 := 48#32
  let v145 : BitVec 32 := Scalar.addi v123 c48_i32
  let v146 : BitVec 32 := Scalar.addi c0_i32_106 v145
  let v147 : Index := Scalar.indexCast v146
  ![v147.toNat]

def k0_chk4 (v148 : IVec S16 32) : Prop :=
  (∀ a x, ((![v148] : Fin 1 → IVec S16 32) a x).toNat < S100000.size a)
theorem k0_idx4_inb : ∀ (v148 : IVec S16 32) (k0_hw4 : k0_chk4 v148), ∀ a x, ((![v148] : Fin 1 → IVec S16 32) a x).toNat < S100000.size a := fun v148 k0_hw4 => k0_hw4
def k0_off10 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c48_i32 : BitVec 32 := 48#32
  let v145 : BitVec 32 := Scalar.addi v123 c48_i32
  let v150 : Index := Scalar.indexCast v145
  ![v150.toNat]
def k0_off11 (k0_t2 : Fin k0_t2_loop.trips) : Fin 1 → Nat :=
  let c0_i32_107 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c64_i32 : BitVec 32 := 64#32
  let v152 : BitVec 32 := Scalar.addi v123 c64_i32
  let v153 : BitVec 32 := Scalar.addi c0_i32_107 v152
  let v154 : Index := Scalar.indexCast v153
  ![v154.toNat]

def k0_chk5 (v155 : IVec S16 32) : Prop :=
  (∀ a x, ((![v155] : Fin 1 → IVec S16 32) a x).toNat < S100000.size a)
theorem k0_idx5_inb : ∀ (v155 : IVec S16 32) (k0_hw5 : k0_chk5 v155), ∀ a x, ((![v155] : Fin 1 → IVec S16 32) a x).toNat < S100000.size a := fun v155 k0_hw5 => k0_hw5
def k0_off12 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c64_i32 : BitVec 32 := 64#32
  let v152 : BitVec 32 := Scalar.addi v123 c64_i32
  let v157 : Index := Scalar.indexCast v152
  ![v157.toNat]
def k0_off13 (k0_t2 : Fin k0_t2_loop.trips) : Fin 1 → Nat :=
  let c0_i32_108 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c80_i32 : BitVec 32 := 80#32
  let v159 : BitVec 32 := Scalar.addi v123 c80_i32
  let v160 : BitVec 32 := Scalar.addi c0_i32_108 v159
  let v161 : Index := Scalar.indexCast v160
  ![v161.toNat]

def k0_chk6 (v162 : IVec S16 32) : Prop :=
  (∀ a x, ((![v162] : Fin 1 → IVec S16 32) a x).toNat < S100000.size a)
theorem k0_idx6_inb : ∀ (v162 : IVec S16 32) (k0_hw6 : k0_chk6 v162), ∀ a x, ((![v162] : Fin 1 → IVec S16 32) a x).toNat < S100000.size a := fun v162 k0_hw6 => k0_hw6
def k0_off14 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c80_i32 : BitVec 32 := 80#32
  let v159 : BitVec 32 := Scalar.addi v123 c80_i32
  let v164 : Index := Scalar.indexCast v159
  ![v164.toNat]
def k0_off15 (k0_t2 : Fin k0_t2_loop.trips) : Fin 1 → Nat :=
  let c0_i32_109 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c96_i32 : BitVec 32 := 96#32
  let v166 : BitVec 32 := Scalar.addi v123 c96_i32
  let v167 : BitVec 32 := Scalar.addi c0_i32_109 v166
  let v168 : Index := Scalar.indexCast v167
  ![v168.toNat]

def k0_chk7 (v169 : IVec S16 32) : Prop :=
  (∀ a x, ((![v169] : Fin 1 → IVec S16 32) a x).toNat < S100000.size a)
theorem k0_idx7_inb : ∀ (v169 : IVec S16 32) (k0_hw7 : k0_chk7 v169), ∀ a x, ((![v169] : Fin 1 → IVec S16 32) a x).toNat < S100000.size a := fun v169 k0_hw7 => k0_hw7
def k0_off16 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c96_i32 : BitVec 32 := 96#32
  let v166 : BitVec 32 := Scalar.addi v123 c96_i32
  let v171 : Index := Scalar.indexCast v166
  ![v171.toNat]
def k0_off17 (k0_t2 : Fin k0_t2_loop.trips) : Fin 1 → Nat :=
  let c0_i32_110 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c112_i32 : BitVec 32 := 112#32
  let v173 : BitVec 32 := Scalar.addi v123 c112_i32
  let v174 : BitVec 32 := Scalar.addi c0_i32_110 v173
  let v175 : Index := Scalar.indexCast v174
  ![v175.toNat]

def k0_chk8 (v176 : IVec S16 32) : Prop :=
  (∀ a x, ((![v176] : Fin 1 → IVec S16 32) a x).toNat < S100000.size a)
theorem k0_idx8_inb : ∀ (v176 : IVec S16 32) (k0_hw8 : k0_chk8 v176), ∀ a x, ((![v176] : Fin 1 → IVec S16 32) a x).toNat < S100000.size a := fun v176 k0_hw8 => k0_hw8
def k0_off18 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c112_i32 : BitVec 32 := 112#32
  let v173 : BitVec 32 := Scalar.addi v123 c112_i32
  let v178 : Index := Scalar.indexCast v173
  ![v178.toNat]
def k0_off19 (k0_t2 : Fin k0_t2_loop.trips) : Fin 1 → Nat :=
  let c0_i32_111 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c128_i32 : BitVec 32 := 128#32
  let v180 : BitVec 32 := Scalar.addi v123 c128_i32
  let v181 : BitVec 32 := Scalar.addi c0_i32_111 v180
  let v182 : Index := Scalar.indexCast v181
  ![v182.toNat]

def k0_chk9 (v183 : IVec S16 32) : Prop :=
  (∀ a x, ((![v183] : Fin 1 → IVec S16 32) a x).toNat < S100000.size a)
theorem k0_idx9_inb : ∀ (v183 : IVec S16 32) (k0_hw9 : k0_chk9 v183), ∀ a x, ((![v183] : Fin 1 → IVec S16 32) a x).toNat < S100000.size a := fun v183 k0_hw9 => k0_hw9
def k0_off20 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c128_i32 : BitVec 32 := 128#32
  let v180 : BitVec 32 := Scalar.addi v123 c128_i32
  let v185 : Index := Scalar.indexCast v180
  ![v185.toNat]
def k0_off21 (k0_t2 : Fin k0_t2_loop.trips) : Fin 1 → Nat :=
  let c0_i32_112 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c144_i32 : BitVec 32 := 144#32
  let v187 : BitVec 32 := Scalar.addi v123 c144_i32
  let v188 : BitVec 32 := Scalar.addi c0_i32_112 v187
  let v189 : Index := Scalar.indexCast v188
  ![v189.toNat]

def k0_chk10 (v190 : IVec S16 32) : Prop :=
  (∀ a x, ((![v190] : Fin 1 → IVec S16 32) a x).toNat < S100000.size a)
theorem k0_idx10_inb : ∀ (v190 : IVec S16 32) (k0_hw10 : k0_chk10 v190), ∀ a x, ((![v190] : Fin 1 → IVec S16 32) a x).toNat < S100000.size a := fun v190 k0_hw10 => k0_hw10
def k0_off22 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c144_i32 : BitVec 32 := 144#32
  let v187 : BitVec 32 := Scalar.addi v123 c144_i32
  let v192 : Index := Scalar.indexCast v187
  ![v192.toNat]
def k0_off23 (k0_t2 : Fin k0_t2_loop.trips) : Fin 1 → Nat :=
  let c0_i32_113 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c160_i32 : BitVec 32 := 160#32
  let v194 : BitVec 32 := Scalar.addi v123 c160_i32
  let v195 : BitVec 32 := Scalar.addi c0_i32_113 v194
  let v196 : Index := Scalar.indexCast v195
  ![v196.toNat]

def k0_chk11 (v197 : IVec S16 32) : Prop :=
  (∀ a x, ((![v197] : Fin 1 → IVec S16 32) a x).toNat < S100000.size a)
theorem k0_idx11_inb : ∀ (v197 : IVec S16 32) (k0_hw11 : k0_chk11 v197), ∀ a x, ((![v197] : Fin 1 → IVec S16 32) a x).toNat < S100000.size a := fun v197 k0_hw11 => k0_hw11
def k0_off24 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c160_i32 : BitVec 32 := 160#32
  let v194 : BitVec 32 := Scalar.addi v123 c160_i32
  let v199 : Index := Scalar.indexCast v194
  ![v199.toNat]
def k0_off25 (k0_t2 : Fin k0_t2_loop.trips) : Fin 1 → Nat :=
  let c0_i32_114 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c176_i32 : BitVec 32 := 176#32
  let v201 : BitVec 32 := Scalar.addi v123 c176_i32
  let v202 : BitVec 32 := Scalar.addi c0_i32_114 v201
  let v203 : Index := Scalar.indexCast v202
  ![v203.toNat]

def k0_chk12 (v204 : IVec S16 32) : Prop :=
  (∀ a x, ((![v204] : Fin 1 → IVec S16 32) a x).toNat < S100000.size a)
theorem k0_idx12_inb : ∀ (v204 : IVec S16 32) (k0_hw12 : k0_chk12 v204), ∀ a x, ((![v204] : Fin 1 → IVec S16 32) a x).toNat < S100000.size a := fun v204 k0_hw12 => k0_hw12
def k0_off26 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c176_i32 : BitVec 32 := 176#32
  let v201 : BitVec 32 := Scalar.addi v123 c176_i32
  let v206 : Index := Scalar.indexCast v201
  ![v206.toNat]
def k0_off27 (k0_t2 : Fin k0_t2_loop.trips) : Fin 1 → Nat :=
  let c0_i32_115 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c192_i32 : BitVec 32 := 192#32
  let v208 : BitVec 32 := Scalar.addi v123 c192_i32
  let v209 : BitVec 32 := Scalar.addi c0_i32_115 v208
  let v210 : Index := Scalar.indexCast v209
  ![v210.toNat]

def k0_chk13 (v211 : IVec S16 32) : Prop :=
  (∀ a x, ((![v211] : Fin 1 → IVec S16 32) a x).toNat < S100000.size a)
theorem k0_idx13_inb : ∀ (v211 : IVec S16 32) (k0_hw13 : k0_chk13 v211), ∀ a x, ((![v211] : Fin 1 → IVec S16 32) a x).toNat < S100000.size a := fun v211 k0_hw13 => k0_hw13
def k0_off28 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c192_i32 : BitVec 32 := 192#32
  let v208 : BitVec 32 := Scalar.addi v123 c192_i32
  let v213 : Index := Scalar.indexCast v208
  ![v213.toNat]
def k0_off29 (k0_t2 : Fin k0_t2_loop.trips) : Fin 1 → Nat :=
  let c0_i32_116 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c208_i32 : BitVec 32 := 208#32
  let v215 : BitVec 32 := Scalar.addi v123 c208_i32
  let v216 : BitVec 32 := Scalar.addi c0_i32_116 v215
  let v217 : Index := Scalar.indexCast v216
  ![v217.toNat]

def k0_chk14 (v218 : IVec S16 32) : Prop :=
  (∀ a x, ((![v218] : Fin 1 → IVec S16 32) a x).toNat < S100000.size a)
theorem k0_idx14_inb : ∀ (v218 : IVec S16 32) (k0_hw14 : k0_chk14 v218), ∀ a x, ((![v218] : Fin 1 → IVec S16 32) a x).toNat < S100000.size a := fun v218 k0_hw14 => k0_hw14
def k0_off30 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c208_i32 : BitVec 32 := 208#32
  let v215 : BitVec 32 := Scalar.addi v123 c208_i32
  let v220 : Index := Scalar.indexCast v215
  ![v220.toNat]
def k0_off31 (k0_t2 : Fin k0_t2_loop.trips) : Fin 1 → Nat :=
  let c0_i32_117 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c224_i32 : BitVec 32 := 224#32
  let v222 : BitVec 32 := Scalar.addi v123 c224_i32
  let v223 : BitVec 32 := Scalar.addi c0_i32_117 v222
  let v224 : Index := Scalar.indexCast v223
  ![v224.toNat]

def k0_chk15 (v225 : IVec S16 32) : Prop :=
  (∀ a x, ((![v225] : Fin 1 → IVec S16 32) a x).toNat < S100000.size a)
theorem k0_idx15_inb : ∀ (v225 : IVec S16 32) (k0_hw15 : k0_chk15 v225), ∀ a x, ((![v225] : Fin 1 → IVec S16 32) a x).toNat < S100000.size a := fun v225 k0_hw15 => k0_hw15
def k0_off32 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c224_i32 : BitVec 32 := 224#32
  let v222 : BitVec 32 := Scalar.addi v123 c224_i32
  let v227 : Index := Scalar.indexCast v222
  ![v227.toNat]
def k0_off33 (k0_t2 : Fin k0_t2_loop.trips) : Fin 1 → Nat :=
  let c0_i32_118 : BitVec 32 := 0#32
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c240_i32 : BitVec 32 := 240#32
  let v229 : BitVec 32 := Scalar.addi v123 c240_i32
  let v230 : BitVec 32 := Scalar.addi c0_i32_118 v229
  let v231 : Index := Scalar.indexCast v230
  ![v231.toNat]

def k0_chk16 (v232 : IVec S16 32) : Prop :=
  (∀ a x, ((![v232] : Fin 1 → IVec S16 32) a x).toNat < S100000.size a)
theorem k0_idx16_inb : ∀ (v232 : IVec S16 32) (k0_hw16 : k0_chk16 v232), ∀ a x, ((![v232] : Fin 1 → IVec S16 32) a x).toNat < S100000.size a := fun v232 k0_hw16 => k0_hw16
def k0_off34 (k0_t2 : Fin k0_t2_loop.trips) : Fin 1 → Nat :=
  let c0_i32_33 : BitVec 32 := 0#32
  let c1_i32_34 : BitVec 32 := 1#32
  let arg14 : BitVec 32 := Scf.iv c0_i32_33 c1_i32_34 k0_t2
  let c256_i32 : BitVec 32 := 256#32
  let v123 : BitVec 32 := Scalar.muli arg14 c256_i32
  let c240_i32 : BitVec 32 := 240#32
  let v229 : BitVec 32 := Scalar.addi v123 c240_i32
  let v234 : Index := Scalar.indexCast v229
  ![v234.toNat]
def k0_off35 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let c0_i32_0 : BitVec 32 := 0#32
  let c1_i32 : BitVec 32 := 1#32
  let arg13 : BitVec 32 := Scf.iv c0_i32_0 c1_i32 k0_t1
  let v12 : BitVec 32 := Scalar.addi v2 arg13
  let c0_i32_36 : BitVec 32 := 0#32
  ![v12.toNat, 0]
@[reducible] def k0_t3_loop : Scf.Loop 32 :=
  let c0_i32_41 : BitVec 32 := 0#32
  let c8_i32_42 : BitVec 32 := 8#32
  let v64 : BitVec 32 := Scalar.addi c0_i32_41 c8_i32_42
  let c1_i32_43 : BitVec 32 := 1#32
  ⟨c0_i32_41, v64, c1_i32_43⟩
def k0_off36 (k0_t3 : Fin k0_t3_loop.trips) : Fin 1 → Nat :=
  let c2048_i32_101 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c0_i32_100 : BitVec 32 := 0#32
  let v124 : BitVec 32 := Scalar.addi v123 c0_i32_100
  let v125 : BitVec 32 := Scalar.addi c2048_i32_101 v124
  let v126 : Index := Scalar.indexCast v125
  ![v126.toNat]

def k0_chk17 (v127 : IVec S16 32) : Prop :=
  (∀ a x, ((![v127] : Fin 1 → IVec S16 32) a x).toNat < S100000.size a)
theorem k0_idx17_inb : ∀ (v127 : IVec S16 32) (k0_hw17 : k0_chk17 v127), ∀ a x, ((![v127] : Fin 1 → IVec S16 32) a x).toNat < S100000.size a := fun v127 k0_hw17 => k0_hw17
def k0_off37 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c0_i32_100 : BitVec 32 := 0#32
  let v124 : BitVec 32 := Scalar.addi v123 c0_i32_100
  let v129 : Index := Scalar.indexCast v124
  ![v129.toNat]
def k0_off38 (k0_t3 : Fin k0_t3_loop.trips) : Fin 1 → Nat :=
  let c2048_i32_103 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c16_i32_102 : BitVec 32 := 16#32
  let v131 : BitVec 32 := Scalar.addi v123 c16_i32_102
  let v132 : BitVec 32 := Scalar.addi c2048_i32_103 v131
  let v133 : Index := Scalar.indexCast v132
  ![v133.toNat]

def k0_chk18 (v134 : IVec S16 32) : Prop :=
  (∀ a x, ((![v134] : Fin 1 → IVec S16 32) a x).toNat < S100000.size a)
theorem k0_idx18_inb : ∀ (v134 : IVec S16 32) (k0_hw18 : k0_chk18 v134), ∀ a x, ((![v134] : Fin 1 → IVec S16 32) a x).toNat < S100000.size a := fun v134 k0_hw18 => k0_hw18
def k0_off39 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c16_i32_102 : BitVec 32 := 16#32
  let v131 : BitVec 32 := Scalar.addi v123 c16_i32_102
  let v136 : Index := Scalar.indexCast v131
  ![v136.toNat]
def k0_off40 (k0_t3 : Fin k0_t3_loop.trips) : Fin 1 → Nat :=
  let c2048_i32_105 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c32_i32_104 : BitVec 32 := 32#32
  let v138 : BitVec 32 := Scalar.addi v123 c32_i32_104
  let v139 : BitVec 32 := Scalar.addi c2048_i32_105 v138
  let v140 : Index := Scalar.indexCast v139
  ![v140.toNat]

def k0_chk19 (v141 : IVec S16 32) : Prop :=
  (∀ a x, ((![v141] : Fin 1 → IVec S16 32) a x).toNat < S100000.size a)
theorem k0_idx19_inb : ∀ (v141 : IVec S16 32) (k0_hw19 : k0_chk19 v141), ∀ a x, ((![v141] : Fin 1 → IVec S16 32) a x).toNat < S100000.size a := fun v141 k0_hw19 => k0_hw19
def k0_off41 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c32_i32_104 : BitVec 32 := 32#32
  let v138 : BitVec 32 := Scalar.addi v123 c32_i32_104
  let v143 : Index := Scalar.indexCast v138
  ![v143.toNat]
def k0_off42 (k0_t3 : Fin k0_t3_loop.trips) : Fin 1 → Nat :=
  let c2048_i32_106 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c48_i32 : BitVec 32 := 48#32
  let v145 : BitVec 32 := Scalar.addi v123 c48_i32
  let v146 : BitVec 32 := Scalar.addi c2048_i32_106 v145
  let v147 : Index := Scalar.indexCast v146
  ![v147.toNat]

def k0_chk20 (v148 : IVec S16 32) : Prop :=
  (∀ a x, ((![v148] : Fin 1 → IVec S16 32) a x).toNat < S100000.size a)
theorem k0_idx20_inb : ∀ (v148 : IVec S16 32) (k0_hw20 : k0_chk20 v148), ∀ a x, ((![v148] : Fin 1 → IVec S16 32) a x).toNat < S100000.size a := fun v148 k0_hw20 => k0_hw20
def k0_off43 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c48_i32 : BitVec 32 := 48#32
  let v145 : BitVec 32 := Scalar.addi v123 c48_i32
  let v150 : Index := Scalar.indexCast v145
  ![v150.toNat]
def k0_off44 (k0_t3 : Fin k0_t3_loop.trips) : Fin 1 → Nat :=
  let c2048_i32_107 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c64_i32 : BitVec 32 := 64#32
  let v152 : BitVec 32 := Scalar.addi v123 c64_i32
  let v153 : BitVec 32 := Scalar.addi c2048_i32_107 v152
  let v154 : Index := Scalar.indexCast v153
  ![v154.toNat]

def k0_chk21 (v155 : IVec S16 32) : Prop :=
  (∀ a x, ((![v155] : Fin 1 → IVec S16 32) a x).toNat < S100000.size a)
theorem k0_idx21_inb : ∀ (v155 : IVec S16 32) (k0_hw21 : k0_chk21 v155), ∀ a x, ((![v155] : Fin 1 → IVec S16 32) a x).toNat < S100000.size a := fun v155 k0_hw21 => k0_hw21
def k0_off45 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c64_i32 : BitVec 32 := 64#32
  let v152 : BitVec 32 := Scalar.addi v123 c64_i32
  let v157 : Index := Scalar.indexCast v152
  ![v157.toNat]
def k0_off46 (k0_t3 : Fin k0_t3_loop.trips) : Fin 1 → Nat :=
  let c2048_i32_108 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c80_i32 : BitVec 32 := 80#32
  let v159 : BitVec 32 := Scalar.addi v123 c80_i32
  let v160 : BitVec 32 := Scalar.addi c2048_i32_108 v159
  let v161 : Index := Scalar.indexCast v160
  ![v161.toNat]

def k0_chk22 (v162 : IVec S16 32) : Prop :=
  (∀ a x, ((![v162] : Fin 1 → IVec S16 32) a x).toNat < S100000.size a)
theorem k0_idx22_inb : ∀ (v162 : IVec S16 32) (k0_hw22 : k0_chk22 v162), ∀ a x, ((![v162] : Fin 1 → IVec S16 32) a x).toNat < S100000.size a := fun v162 k0_hw22 => k0_hw22
def k0_off47 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c80_i32 : BitVec 32 := 80#32
  let v159 : BitVec 32 := Scalar.addi v123 c80_i32
  let v164 : Index := Scalar.indexCast v159
  ![v164.toNat]
def k0_off48 (k0_t3 : Fin k0_t3_loop.trips) : Fin 1 → Nat :=
  let c2048_i32_109 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c96_i32 : BitVec 32 := 96#32
  let v166 : BitVec 32 := Scalar.addi v123 c96_i32
  let v167 : BitVec 32 := Scalar.addi c2048_i32_109 v166
  let v168 : Index := Scalar.indexCast v167
  ![v168.toNat]

def k0_chk23 (v169 : IVec S16 32) : Prop :=
  (∀ a x, ((![v169] : Fin 1 → IVec S16 32) a x).toNat < S100000.size a)
theorem k0_idx23_inb : ∀ (v169 : IVec S16 32) (k0_hw23 : k0_chk23 v169), ∀ a x, ((![v169] : Fin 1 → IVec S16 32) a x).toNat < S100000.size a := fun v169 k0_hw23 => k0_hw23
def k0_off49 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c96_i32 : BitVec 32 := 96#32
  let v166 : BitVec 32 := Scalar.addi v123 c96_i32
  let v171 : Index := Scalar.indexCast v166
  ![v171.toNat]
def k0_off50 (k0_t3 : Fin k0_t3_loop.trips) : Fin 1 → Nat :=
  let c2048_i32_110 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c112_i32 : BitVec 32 := 112#32
  let v173 : BitVec 32 := Scalar.addi v123 c112_i32
  let v174 : BitVec 32 := Scalar.addi c2048_i32_110 v173
  let v175 : Index := Scalar.indexCast v174
  ![v175.toNat]

def k0_chk24 (v176 : IVec S16 32) : Prop :=
  (∀ a x, ((![v176] : Fin 1 → IVec S16 32) a x).toNat < S100000.size a)
theorem k0_idx24_inb : ∀ (v176 : IVec S16 32) (k0_hw24 : k0_chk24 v176), ∀ a x, ((![v176] : Fin 1 → IVec S16 32) a x).toNat < S100000.size a := fun v176 k0_hw24 => k0_hw24
def k0_off51 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c112_i32 : BitVec 32 := 112#32
  let v173 : BitVec 32 := Scalar.addi v123 c112_i32
  let v178 : Index := Scalar.indexCast v173
  ![v178.toNat]
def k0_off52 (k0_t3 : Fin k0_t3_loop.trips) : Fin 1 → Nat :=
  let c2048_i32_111 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c128_i32 : BitVec 32 := 128#32
  let v180 : BitVec 32 := Scalar.addi v123 c128_i32
  let v181 : BitVec 32 := Scalar.addi c2048_i32_111 v180
  let v182 : Index := Scalar.indexCast v181
  ![v182.toNat]

def k0_chk25 (v183 : IVec S16 32) : Prop :=
  (∀ a x, ((![v183] : Fin 1 → IVec S16 32) a x).toNat < S100000.size a)
theorem k0_idx25_inb : ∀ (v183 : IVec S16 32) (k0_hw25 : k0_chk25 v183), ∀ a x, ((![v183] : Fin 1 → IVec S16 32) a x).toNat < S100000.size a := fun v183 k0_hw25 => k0_hw25
def k0_off53 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c128_i32 : BitVec 32 := 128#32
  let v180 : BitVec 32 := Scalar.addi v123 c128_i32
  let v185 : Index := Scalar.indexCast v180
  ![v185.toNat]
def k0_off54 (k0_t3 : Fin k0_t3_loop.trips) : Fin 1 → Nat :=
  let c2048_i32_112 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c144_i32 : BitVec 32 := 144#32
  let v187 : BitVec 32 := Scalar.addi v123 c144_i32
  let v188 : BitVec 32 := Scalar.addi c2048_i32_112 v187
  let v189 : Index := Scalar.indexCast v188
  ![v189.toNat]

def k0_chk26 (v190 : IVec S16 32) : Prop :=
  (∀ a x, ((![v190] : Fin 1 → IVec S16 32) a x).toNat < S100000.size a)
theorem k0_idx26_inb : ∀ (v190 : IVec S16 32) (k0_hw26 : k0_chk26 v190), ∀ a x, ((![v190] : Fin 1 → IVec S16 32) a x).toNat < S100000.size a := fun v190 k0_hw26 => k0_hw26
def k0_off55 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c144_i32 : BitVec 32 := 144#32
  let v187 : BitVec 32 := Scalar.addi v123 c144_i32
  let v192 : Index := Scalar.indexCast v187
  ![v192.toNat]
def k0_off56 (k0_t3 : Fin k0_t3_loop.trips) : Fin 1 → Nat :=
  let c2048_i32_113 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c160_i32 : BitVec 32 := 160#32
  let v194 : BitVec 32 := Scalar.addi v123 c160_i32
  let v195 : BitVec 32 := Scalar.addi c2048_i32_113 v194
  let v196 : Index := Scalar.indexCast v195
  ![v196.toNat]

def k0_chk27 (v197 : IVec S16 32) : Prop :=
  (∀ a x, ((![v197] : Fin 1 → IVec S16 32) a x).toNat < S100000.size a)
theorem k0_idx27_inb : ∀ (v197 : IVec S16 32) (k0_hw27 : k0_chk27 v197), ∀ a x, ((![v197] : Fin 1 → IVec S16 32) a x).toNat < S100000.size a := fun v197 k0_hw27 => k0_hw27
def k0_off57 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c160_i32 : BitVec 32 := 160#32
  let v194 : BitVec 32 := Scalar.addi v123 c160_i32
  let v199 : Index := Scalar.indexCast v194
  ![v199.toNat]
def k0_off58 (k0_t3 : Fin k0_t3_loop.trips) : Fin 1 → Nat :=
  let c2048_i32_114 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c176_i32 : BitVec 32 := 176#32
  let v201 : BitVec 32 := Scalar.addi v123 c176_i32
  let v202 : BitVec 32 := Scalar.addi c2048_i32_114 v201
  let v203 : Index := Scalar.indexCast v202
  ![v203.toNat]

def k0_chk28 (v204 : IVec S16 32) : Prop :=
  (∀ a x, ((![v204] : Fin 1 → IVec S16 32) a x).toNat < S100000.size a)
theorem k0_idx28_inb : ∀ (v204 : IVec S16 32) (k0_hw28 : k0_chk28 v204), ∀ a x, ((![v204] : Fin 1 → IVec S16 32) a x).toNat < S100000.size a := fun v204 k0_hw28 => k0_hw28
def k0_off59 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c176_i32 : BitVec 32 := 176#32
  let v201 : BitVec 32 := Scalar.addi v123 c176_i32
  let v206 : Index := Scalar.indexCast v201
  ![v206.toNat]
def k0_off60 (k0_t3 : Fin k0_t3_loop.trips) : Fin 1 → Nat :=
  let c2048_i32_115 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c192_i32 : BitVec 32 := 192#32
  let v208 : BitVec 32 := Scalar.addi v123 c192_i32
  let v209 : BitVec 32 := Scalar.addi c2048_i32_115 v208
  let v210 : Index := Scalar.indexCast v209
  ![v210.toNat]

def k0_chk29 (v211 : IVec S16 32) : Prop :=
  (∀ a x, ((![v211] : Fin 1 → IVec S16 32) a x).toNat < S100000.size a)
theorem k0_idx29_inb : ∀ (v211 : IVec S16 32) (k0_hw29 : k0_chk29 v211), ∀ a x, ((![v211] : Fin 1 → IVec S16 32) a x).toNat < S100000.size a := fun v211 k0_hw29 => k0_hw29
def k0_off61 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c192_i32 : BitVec 32 := 192#32
  let v208 : BitVec 32 := Scalar.addi v123 c192_i32
  let v213 : Index := Scalar.indexCast v208
  ![v213.toNat]
def k0_off62 (k0_t3 : Fin k0_t3_loop.trips) : Fin 1 → Nat :=
  let c2048_i32_116 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c208_i32 : BitVec 32 := 208#32
  let v215 : BitVec 32 := Scalar.addi v123 c208_i32
  let v216 : BitVec 32 := Scalar.addi c2048_i32_116 v215
  let v217 : Index := Scalar.indexCast v216
  ![v217.toNat]

def k0_chk30 (v218 : IVec S16 32) : Prop :=
  (∀ a x, ((![v218] : Fin 1 → IVec S16 32) a x).toNat < S100000.size a)
theorem k0_idx30_inb : ∀ (v218 : IVec S16 32) (k0_hw30 : k0_chk30 v218), ∀ a x, ((![v218] : Fin 1 → IVec S16 32) a x).toNat < S100000.size a := fun v218 k0_hw30 => k0_hw30
def k0_off63 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c208_i32 : BitVec 32 := 208#32
  let v215 : BitVec 32 := Scalar.addi v123 c208_i32
  let v220 : Index := Scalar.indexCast v215
  ![v220.toNat]
def k0_off64 (k0_t3 : Fin k0_t3_loop.trips) : Fin 1 → Nat :=
  let c2048_i32_117 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c224_i32 : BitVec 32 := 224#32
  let v222 : BitVec 32 := Scalar.addi v123 c224_i32
  let v223 : BitVec 32 := Scalar.addi c2048_i32_117 v222
  let v224 : Index := Scalar.indexCast v223
  ![v224.toNat]

def k0_chk31 (v225 : IVec S16 32) : Prop :=
  (∀ a x, ((![v225] : Fin 1 → IVec S16 32) a x).toNat < S100000.size a)
theorem k0_idx31_inb : ∀ (v225 : IVec S16 32) (k0_hw31 : k0_chk31 v225), ∀ a x, ((![v225] : Fin 1 → IVec S16 32) a x).toNat < S100000.size a := fun v225 k0_hw31 => k0_hw31
def k0_off65 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c224_i32 : BitVec 32 := 224#32
  let v222 : BitVec 32 := Scalar.addi v123 c224_i32
  let v227 : Index := Scalar.indexCast v222
  ![v227.toNat]
def k0_off66 (k0_t3 : Fin k0_t3_loop.trips) : Fin 1 → Nat :=
  let c2048_i32_118 : BitVec 32 := 2048#32
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c240_i32 : BitVec 32 := 240#32
  let v229 : BitVec 32 := Scalar.addi v123 c240_i32
  let v230 : BitVec 32 := Scalar.addi c2048_i32_118 v229
  let v231 : Index := Scalar.indexCast v230
  ![v231.toNat]

def k0_chk32 (v232 : IVec S16 32) : Prop :=
  (∀ a x, ((![v232] : Fin 1 → IVec S16 32) a x).toNat < S100000.size a)
theorem k0_idx32_inb : ∀ (v232 : IVec S16 32) (k0_hw32 : k0_chk32 v232), ∀ a x, ((![v232] : Fin 1 → IVec S16 32) a x).toNat < S100000.size a := fun v232 k0_hw32 => k0_hw32
def k0_off67 (k0_t3 : Fin k0_t3_loop.trips) : Fin 1 → Nat :=
  let c0_i32_41 : BitVec 32 := 0#32
  let c1_i32_43 : BitVec 32 := 1#32
  let arg14 : BitVec 32 := Scf.iv c0_i32_41 c1_i32_43 k0_t3
  let c256_i32 : BitVec 32 := 256#32
  let v123 : BitVec 32 := Scalar.muli arg14 c256_i32
  let c240_i32 : BitVec 32 := 240#32
  let v229 : BitVec 32 := Scalar.addi v123 c240_i32
  let v234 : Index := Scalar.indexCast v229
  ![v234.toNat]
def k0_off68 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let c0_i32_0 : BitVec 32 := 0#32
  let c1_i32 : BitVec 32 := 1#32
  let arg13 : BitVec 32 := Scf.iv c0_i32_0 c1_i32 k0_t1
  let v12 : BitVec 32 := Scalar.addi v2 arg13
  let c2048_i32 : BitVec 32 := 2048#32
  ![v12.toNat, 2048]
@[reducible] def k0_t4_loop : Scf.Loop 32 :=
  let c0_i32_50 : BitVec 32 := 0#32
  let c8_i32_51 : BitVec 32 := 8#32
  let v73 : BitVec 32 := Scalar.addi c0_i32_50 c8_i32_51
  let c1_i32_52 : BitVec 32 := 1#32
  ⟨c0_i32_50, v73, c1_i32_52⟩
def k0_off69 (k0_t4 : Fin k0_t4_loop.trips) : Fin 1 → Nat :=
  let c4096_i32_101 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c0_i32_100 : BitVec 32 := 0#32
  let v124 : BitVec 32 := Scalar.addi v123 c0_i32_100
  let v125 : BitVec 32 := Scalar.addi c4096_i32_101 v124
  let v126 : Index := Scalar.indexCast v125
  ![v126.toNat]

def k0_chk33 (v127 : IVec S16 32) : Prop :=
  (∀ a x, ((![v127] : Fin 1 → IVec S16 32) a x).toNat < S100000.size a)
theorem k0_idx33_inb : ∀ (v127 : IVec S16 32) (k0_hw33 : k0_chk33 v127), ∀ a x, ((![v127] : Fin 1 → IVec S16 32) a x).toNat < S100000.size a := fun v127 k0_hw33 => k0_hw33
def k0_off70 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c0_i32_100 : BitVec 32 := 0#32
  let v124 : BitVec 32 := Scalar.addi v123 c0_i32_100
  let v129 : Index := Scalar.indexCast v124
  ![v129.toNat]
def k0_off71 (k0_t4 : Fin k0_t4_loop.trips) : Fin 1 → Nat :=
  let c4096_i32_103 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c16_i32_102 : BitVec 32 := 16#32
  let v131 : BitVec 32 := Scalar.addi v123 c16_i32_102
  let v132 : BitVec 32 := Scalar.addi c4096_i32_103 v131
  let v133 : Index := Scalar.indexCast v132
  ![v133.toNat]

def k0_chk34 (v134 : IVec S16 32) : Prop :=
  (∀ a x, ((![v134] : Fin 1 → IVec S16 32) a x).toNat < S100000.size a)
theorem k0_idx34_inb : ∀ (v134 : IVec S16 32) (k0_hw34 : k0_chk34 v134), ∀ a x, ((![v134] : Fin 1 → IVec S16 32) a x).toNat < S100000.size a := fun v134 k0_hw34 => k0_hw34
def k0_off72 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c16_i32_102 : BitVec 32 := 16#32
  let v131 : BitVec 32 := Scalar.addi v123 c16_i32_102
  let v136 : Index := Scalar.indexCast v131
  ![v136.toNat]
def k0_off73 (k0_t4 : Fin k0_t4_loop.trips) : Fin 1 → Nat :=
  let c4096_i32_105 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c32_i32_104 : BitVec 32 := 32#32
  let v138 : BitVec 32 := Scalar.addi v123 c32_i32_104
  let v139 : BitVec 32 := Scalar.addi c4096_i32_105 v138
  let v140 : Index := Scalar.indexCast v139
  ![v140.toNat]

def k0_chk35 (v141 : IVec S16 32) : Prop :=
  (∀ a x, ((![v141] : Fin 1 → IVec S16 32) a x).toNat < S100000.size a)
theorem k0_idx35_inb : ∀ (v141 : IVec S16 32) (k0_hw35 : k0_chk35 v141), ∀ a x, ((![v141] : Fin 1 → IVec S16 32) a x).toNat < S100000.size a := fun v141 k0_hw35 => k0_hw35
def k0_off74 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c32_i32_104 : BitVec 32 := 32#32
  let v138 : BitVec 32 := Scalar.addi v123 c32_i32_104
  let v143 : Index := Scalar.indexCast v138
  ![v143.toNat]
def k0_off75 (k0_t4 : Fin k0_t4_loop.trips) : Fin 1 → Nat :=
  let c4096_i32_106 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c48_i32 : BitVec 32 := 48#32
  let v145 : BitVec 32 := Scalar.addi v123 c48_i32
  let v146 : BitVec 32 := Scalar.addi c4096_i32_106 v145
  let v147 : Index := Scalar.indexCast v146
  ![v147.toNat]

def k0_chk36 (v148 : IVec S16 32) : Prop :=
  (∀ a x, ((![v148] : Fin 1 → IVec S16 32) a x).toNat < S100000.size a)
theorem k0_idx36_inb : ∀ (v148 : IVec S16 32) (k0_hw36 : k0_chk36 v148), ∀ a x, ((![v148] : Fin 1 → IVec S16 32) a x).toNat < S100000.size a := fun v148 k0_hw36 => k0_hw36
def k0_off76 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c48_i32 : BitVec 32 := 48#32
  let v145 : BitVec 32 := Scalar.addi v123 c48_i32
  let v150 : Index := Scalar.indexCast v145
  ![v150.toNat]
def k0_off77 (k0_t4 : Fin k0_t4_loop.trips) : Fin 1 → Nat :=
  let c4096_i32_107 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c64_i32 : BitVec 32 := 64#32
  let v152 : BitVec 32 := Scalar.addi v123 c64_i32
  let v153 : BitVec 32 := Scalar.addi c4096_i32_107 v152
  let v154 : Index := Scalar.indexCast v153
  ![v154.toNat]

def k0_chk37 (v155 : IVec S16 32) : Prop :=
  (∀ a x, ((![v155] : Fin 1 → IVec S16 32) a x).toNat < S100000.size a)
theorem k0_idx37_inb : ∀ (v155 : IVec S16 32) (k0_hw37 : k0_chk37 v155), ∀ a x, ((![v155] : Fin 1 → IVec S16 32) a x).toNat < S100000.size a := fun v155 k0_hw37 => k0_hw37
def k0_off78 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c64_i32 : BitVec 32 := 64#32
  let v152 : BitVec 32 := Scalar.addi v123 c64_i32
  let v157 : Index := Scalar.indexCast v152
  ![v157.toNat]
def k0_off79 (k0_t4 : Fin k0_t4_loop.trips) : Fin 1 → Nat :=
  let c4096_i32_108 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c80_i32 : BitVec 32 := 80#32
  let v159 : BitVec 32 := Scalar.addi v123 c80_i32
  let v160 : BitVec 32 := Scalar.addi c4096_i32_108 v159
  let v161 : Index := Scalar.indexCast v160
  ![v161.toNat]

def k0_chk38 (v162 : IVec S16 32) : Prop :=
  (∀ a x, ((![v162] : Fin 1 → IVec S16 32) a x).toNat < S100000.size a)
theorem k0_idx38_inb : ∀ (v162 : IVec S16 32) (k0_hw38 : k0_chk38 v162), ∀ a x, ((![v162] : Fin 1 → IVec S16 32) a x).toNat < S100000.size a := fun v162 k0_hw38 => k0_hw38
def k0_off80 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c80_i32 : BitVec 32 := 80#32
  let v159 : BitVec 32 := Scalar.addi v123 c80_i32
  let v164 : Index := Scalar.indexCast v159
  ![v164.toNat]
def k0_off81 (k0_t4 : Fin k0_t4_loop.trips) : Fin 1 → Nat :=
  let c4096_i32_109 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c96_i32 : BitVec 32 := 96#32
  let v166 : BitVec 32 := Scalar.addi v123 c96_i32
  let v167 : BitVec 32 := Scalar.addi c4096_i32_109 v166
  let v168 : Index := Scalar.indexCast v167
  ![v168.toNat]

def k0_chk39 (v169 : IVec S16 32) : Prop :=
  (∀ a x, ((![v169] : Fin 1 → IVec S16 32) a x).toNat < S100000.size a)
theorem k0_idx39_inb : ∀ (v169 : IVec S16 32) (k0_hw39 : k0_chk39 v169), ∀ a x, ((![v169] : Fin 1 → IVec S16 32) a x).toNat < S100000.size a := fun v169 k0_hw39 => k0_hw39
def k0_off82 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c96_i32 : BitVec 32 := 96#32
  let v166 : BitVec 32 := Scalar.addi v123 c96_i32
  let v171 : Index := Scalar.indexCast v166
  ![v171.toNat]
def k0_off83 (k0_t4 : Fin k0_t4_loop.trips) : Fin 1 → Nat :=
  let c4096_i32_110 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c112_i32 : BitVec 32 := 112#32
  let v173 : BitVec 32 := Scalar.addi v123 c112_i32
  let v174 : BitVec 32 := Scalar.addi c4096_i32_110 v173
  let v175 : Index := Scalar.indexCast v174
  ![v175.toNat]

def k0_chk40 (v176 : IVec S16 32) : Prop :=
  (∀ a x, ((![v176] : Fin 1 → IVec S16 32) a x).toNat < S100000.size a)
theorem k0_idx40_inb : ∀ (v176 : IVec S16 32) (k0_hw40 : k0_chk40 v176), ∀ a x, ((![v176] : Fin 1 → IVec S16 32) a x).toNat < S100000.size a := fun v176 k0_hw40 => k0_hw40
def k0_off84 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c112_i32 : BitVec 32 := 112#32
  let v173 : BitVec 32 := Scalar.addi v123 c112_i32
  let v178 : Index := Scalar.indexCast v173
  ![v178.toNat]
def k0_off85 (k0_t4 : Fin k0_t4_loop.trips) : Fin 1 → Nat :=
  let c4096_i32_111 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c128_i32 : BitVec 32 := 128#32
  let v180 : BitVec 32 := Scalar.addi v123 c128_i32
  let v181 : BitVec 32 := Scalar.addi c4096_i32_111 v180
  let v182 : Index := Scalar.indexCast v181
  ![v182.toNat]

def k0_chk41 (v183 : IVec S16 32) : Prop :=
  (∀ a x, ((![v183] : Fin 1 → IVec S16 32) a x).toNat < S100000.size a)
theorem k0_idx41_inb : ∀ (v183 : IVec S16 32) (k0_hw41 : k0_chk41 v183), ∀ a x, ((![v183] : Fin 1 → IVec S16 32) a x).toNat < S100000.size a := fun v183 k0_hw41 => k0_hw41
def k0_off86 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c128_i32 : BitVec 32 := 128#32
  let v180 : BitVec 32 := Scalar.addi v123 c128_i32
  let v185 : Index := Scalar.indexCast v180
  ![v185.toNat]
def k0_off87 (k0_t4 : Fin k0_t4_loop.trips) : Fin 1 → Nat :=
  let c4096_i32_112 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c144_i32 : BitVec 32 := 144#32
  let v187 : BitVec 32 := Scalar.addi v123 c144_i32
  let v188 : BitVec 32 := Scalar.addi c4096_i32_112 v187
  let v189 : Index := Scalar.indexCast v188
  ![v189.toNat]

def k0_chk42 (v190 : IVec S16 32) : Prop :=
  (∀ a x, ((![v190] : Fin 1 → IVec S16 32) a x).toNat < S100000.size a)
theorem k0_idx42_inb : ∀ (v190 : IVec S16 32) (k0_hw42 : k0_chk42 v190), ∀ a x, ((![v190] : Fin 1 → IVec S16 32) a x).toNat < S100000.size a := fun v190 k0_hw42 => k0_hw42
def k0_off88 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c144_i32 : BitVec 32 := 144#32
  let v187 : BitVec 32 := Scalar.addi v123 c144_i32
  let v192 : Index := Scalar.indexCast v187
  ![v192.toNat]
def k0_off89 (k0_t4 : Fin k0_t4_loop.trips) : Fin 1 → Nat :=
  let c4096_i32_113 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c160_i32 : BitVec 32 := 160#32
  let v194 : BitVec 32 := Scalar.addi v123 c160_i32
  let v195 : BitVec 32 := Scalar.addi c4096_i32_113 v194
  let v196 : Index := Scalar.indexCast v195
  ![v196.toNat]

def k0_chk43 (v197 : IVec S16 32) : Prop :=
  (∀ a x, ((![v197] : Fin 1 → IVec S16 32) a x).toNat < S100000.size a)
theorem k0_idx43_inb : ∀ (v197 : IVec S16 32) (k0_hw43 : k0_chk43 v197), ∀ a x, ((![v197] : Fin 1 → IVec S16 32) a x).toNat < S100000.size a := fun v197 k0_hw43 => k0_hw43
def k0_off90 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c160_i32 : BitVec 32 := 160#32
  let v194 : BitVec 32 := Scalar.addi v123 c160_i32
  let v199 : Index := Scalar.indexCast v194
  ![v199.toNat]
def k0_off91 (k0_t4 : Fin k0_t4_loop.trips) : Fin 1 → Nat :=
  let c4096_i32_114 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c176_i32 : BitVec 32 := 176#32
  let v201 : BitVec 32 := Scalar.addi v123 c176_i32
  let v202 : BitVec 32 := Scalar.addi c4096_i32_114 v201
  let v203 : Index := Scalar.indexCast v202
  ![v203.toNat]

def k0_chk44 (v204 : IVec S16 32) : Prop :=
  (∀ a x, ((![v204] : Fin 1 → IVec S16 32) a x).toNat < S100000.size a)
theorem k0_idx44_inb : ∀ (v204 : IVec S16 32) (k0_hw44 : k0_chk44 v204), ∀ a x, ((![v204] : Fin 1 → IVec S16 32) a x).toNat < S100000.size a := fun v204 k0_hw44 => k0_hw44
def k0_off92 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c176_i32 : BitVec 32 := 176#32
  let v201 : BitVec 32 := Scalar.addi v123 c176_i32
  let v206 : Index := Scalar.indexCast v201
  ![v206.toNat]
def k0_off93 (k0_t4 : Fin k0_t4_loop.trips) : Fin 1 → Nat :=
  let c4096_i32_115 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c192_i32 : BitVec 32 := 192#32
  let v208 : BitVec 32 := Scalar.addi v123 c192_i32
  let v209 : BitVec 32 := Scalar.addi c4096_i32_115 v208
  let v210 : Index := Scalar.indexCast v209
  ![v210.toNat]

def k0_chk45 (v211 : IVec S16 32) : Prop :=
  (∀ a x, ((![v211] : Fin 1 → IVec S16 32) a x).toNat < S100000.size a)
theorem k0_idx45_inb : ∀ (v211 : IVec S16 32) (k0_hw45 : k0_chk45 v211), ∀ a x, ((![v211] : Fin 1 → IVec S16 32) a x).toNat < S100000.size a := fun v211 k0_hw45 => k0_hw45
def k0_off94 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c192_i32 : BitVec 32 := 192#32
  let v208 : BitVec 32 := Scalar.addi v123 c192_i32
  let v213 : Index := Scalar.indexCast v208
  ![v213.toNat]
def k0_off95 (k0_t4 : Fin k0_t4_loop.trips) : Fin 1 → Nat :=
  let c4096_i32_116 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c208_i32 : BitVec 32 := 208#32
  let v215 : BitVec 32 := Scalar.addi v123 c208_i32
  let v216 : BitVec 32 := Scalar.addi c4096_i32_116 v215
  let v217 : Index := Scalar.indexCast v216
  ![v217.toNat]

def k0_chk46 (v218 : IVec S16 32) : Prop :=
  (∀ a x, ((![v218] : Fin 1 → IVec S16 32) a x).toNat < S100000.size a)
theorem k0_idx46_inb : ∀ (v218 : IVec S16 32) (k0_hw46 : k0_chk46 v218), ∀ a x, ((![v218] : Fin 1 → IVec S16 32) a x).toNat < S100000.size a := fun v218 k0_hw46 => k0_hw46
def k0_off96 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c208_i32 : BitVec 32 := 208#32
  let v215 : BitVec 32 := Scalar.addi v123 c208_i32
  let v220 : Index := Scalar.indexCast v215
  ![v220.toNat]
def k0_off97 (k0_t4 : Fin k0_t4_loop.trips) : Fin 1 → Nat :=
  let c4096_i32_117 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c224_i32 : BitVec 32 := 224#32
  let v222 : BitVec 32 := Scalar.addi v123 c224_i32
  let v223 : BitVec 32 := Scalar.addi c4096_i32_117 v222
  let v224 : Index := Scalar.indexCast v223
  ![v224.toNat]

def k0_chk47 (v225 : IVec S16 32) : Prop :=
  (∀ a x, ((![v225] : Fin 1 → IVec S16 32) a x).toNat < S100000.size a)
theorem k0_idx47_inb : ∀ (v225 : IVec S16 32) (k0_hw47 : k0_chk47 v225), ∀ a x, ((![v225] : Fin 1 → IVec S16 32) a x).toNat < S100000.size a := fun v225 k0_hw47 => k0_hw47
def k0_off98 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c224_i32 : BitVec 32 := 224#32
  let v222 : BitVec 32 := Scalar.addi v123 c224_i32
  let v227 : Index := Scalar.indexCast v222
  ![v227.toNat]
def k0_off99 (k0_t4 : Fin k0_t4_loop.trips) : Fin 1 → Nat :=
  let c4096_i32_118 : BitVec 32 := 4096#32
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c240_i32 : BitVec 32 := 240#32
  let v229 : BitVec 32 := Scalar.addi v123 c240_i32
  let v230 : BitVec 32 := Scalar.addi c4096_i32_118 v229
  let v231 : Index := Scalar.indexCast v230
  ![v231.toNat]

def k0_chk48 (v232 : IVec S16 32) : Prop :=
  (∀ a x, ((![v232] : Fin 1 → IVec S16 32) a x).toNat < S100000.size a)
theorem k0_idx48_inb : ∀ (v232 : IVec S16 32) (k0_hw48 : k0_chk48 v232), ∀ a x, ((![v232] : Fin 1 → IVec S16 32) a x).toNat < S100000.size a := fun v232 k0_hw48 => k0_hw48
def k0_off100 (k0_t4 : Fin k0_t4_loop.trips) : Fin 1 → Nat :=
  let c0_i32_50 : BitVec 32 := 0#32
  let c1_i32_52 : BitVec 32 := 1#32
  let arg14 : BitVec 32 := Scf.iv c0_i32_50 c1_i32_52 k0_t4
  let c256_i32 : BitVec 32 := 256#32
  let v123 : BitVec 32 := Scalar.muli arg14 c256_i32
  let c240_i32 : BitVec 32 := 240#32
  let v229 : BitVec 32 := Scalar.addi v123 c240_i32
  let v234 : Index := Scalar.indexCast v229
  ![v234.toNat]
def k0_off101 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let c0_i32_0 : BitVec 32 := 0#32
  let c1_i32 : BitVec 32 := 1#32
  let arg13 : BitVec 32 := Scf.iv c0_i32_0 c1_i32 k0_t1
  let v12 : BitVec 32 := Scalar.addi v2 arg13
  let c4096_i32 : BitVec 32 := 4096#32
  ![v12.toNat, 4096]
@[reducible] def k0_t5_loop : Scf.Loop 32 :=
  let c0_i32_59 : BitVec 32 := 0#32
  let c8_i32_60 : BitVec 32 := 8#32
  let v82 : BitVec 32 := Scalar.addi c0_i32_59 c8_i32_60
  let c1_i32_61 : BitVec 32 := 1#32
  ⟨c0_i32_59, v82, c1_i32_61⟩
def k0_off102 (k0_t5 : Fin k0_t5_loop.trips) : Fin 1 → Nat :=
  let c6144_i32_101 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c0_i32_100 : BitVec 32 := 0#32
  let v124 : BitVec 32 := Scalar.addi v123 c0_i32_100
  let v125 : BitVec 32 := Scalar.addi c6144_i32_101 v124
  let v126 : Index := Scalar.indexCast v125
  ![v126.toNat]

def k0_chk49 (v127 : IVec S16 32) : Prop :=
  (∀ a x, ((![v127] : Fin 1 → IVec S16 32) a x).toNat < S100000.size a)
theorem k0_idx49_inb : ∀ (v127 : IVec S16 32) (k0_hw49 : k0_chk49 v127), ∀ a x, ((![v127] : Fin 1 → IVec S16 32) a x).toNat < S100000.size a := fun v127 k0_hw49 => k0_hw49
def k0_off103 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c0_i32_100 : BitVec 32 := 0#32
  let v124 : BitVec 32 := Scalar.addi v123 c0_i32_100
  let v129 : Index := Scalar.indexCast v124
  ![v129.toNat]
def k0_off104 (k0_t5 : Fin k0_t5_loop.trips) : Fin 1 → Nat :=
  let c6144_i32_103 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c16_i32_102 : BitVec 32 := 16#32
  let v131 : BitVec 32 := Scalar.addi v123 c16_i32_102
  let v132 : BitVec 32 := Scalar.addi c6144_i32_103 v131
  let v133 : Index := Scalar.indexCast v132
  ![v133.toNat]

def k0_chk50 (v134 : IVec S16 32) : Prop :=
  (∀ a x, ((![v134] : Fin 1 → IVec S16 32) a x).toNat < S100000.size a)
theorem k0_idx50_inb : ∀ (v134 : IVec S16 32) (k0_hw50 : k0_chk50 v134), ∀ a x, ((![v134] : Fin 1 → IVec S16 32) a x).toNat < S100000.size a := fun v134 k0_hw50 => k0_hw50
def k0_off105 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c16_i32_102 : BitVec 32 := 16#32
  let v131 : BitVec 32 := Scalar.addi v123 c16_i32_102
  let v136 : Index := Scalar.indexCast v131
  ![v136.toNat]
def k0_off106 (k0_t5 : Fin k0_t5_loop.trips) : Fin 1 → Nat :=
  let c6144_i32_105 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c32_i32_104 : BitVec 32 := 32#32
  let v138 : BitVec 32 := Scalar.addi v123 c32_i32_104
  let v139 : BitVec 32 := Scalar.addi c6144_i32_105 v138
  let v140 : Index := Scalar.indexCast v139
  ![v140.toNat]

def k0_chk51 (v141 : IVec S16 32) : Prop :=
  (∀ a x, ((![v141] : Fin 1 → IVec S16 32) a x).toNat < S100000.size a)
theorem k0_idx51_inb : ∀ (v141 : IVec S16 32) (k0_hw51 : k0_chk51 v141), ∀ a x, ((![v141] : Fin 1 → IVec S16 32) a x).toNat < S100000.size a := fun v141 k0_hw51 => k0_hw51
def k0_off107 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c32_i32_104 : BitVec 32 := 32#32
  let v138 : BitVec 32 := Scalar.addi v123 c32_i32_104
  let v143 : Index := Scalar.indexCast v138
  ![v143.toNat]
def k0_off108 (k0_t5 : Fin k0_t5_loop.trips) : Fin 1 → Nat :=
  let c6144_i32_106 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c48_i32 : BitVec 32 := 48#32
  let v145 : BitVec 32 := Scalar.addi v123 c48_i32
  let v146 : BitVec 32 := Scalar.addi c6144_i32_106 v145
  let v147 : Index := Scalar.indexCast v146
  ![v147.toNat]

def k0_chk52 (v148 : IVec S16 32) : Prop :=
  (∀ a x, ((![v148] : Fin 1 → IVec S16 32) a x).toNat < S100000.size a)
theorem k0_idx52_inb : ∀ (v148 : IVec S16 32) (k0_hw52 : k0_chk52 v148), ∀ a x, ((![v148] : Fin 1 → IVec S16 32) a x).toNat < S100000.size a := fun v148 k0_hw52 => k0_hw52
def k0_off109 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c48_i32 : BitVec 32 := 48#32
  let v145 : BitVec 32 := Scalar.addi v123 c48_i32
  let v150 : Index := Scalar.indexCast v145
  ![v150.toNat]
def k0_off110 (k0_t5 : Fin k0_t5_loop.trips) : Fin 1 → Nat :=
  let c6144_i32_107 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c64_i32 : BitVec 32 := 64#32
  let v152 : BitVec 32 := Scalar.addi v123 c64_i32
  let v153 : BitVec 32 := Scalar.addi c6144_i32_107 v152
  let v154 : Index := Scalar.indexCast v153
  ![v154.toNat]

def k0_chk53 (v155 : IVec S16 32) : Prop :=
  (∀ a x, ((![v155] : Fin 1 → IVec S16 32) a x).toNat < S100000.size a)
theorem k0_idx53_inb : ∀ (v155 : IVec S16 32) (k0_hw53 : k0_chk53 v155), ∀ a x, ((![v155] : Fin 1 → IVec S16 32) a x).toNat < S100000.size a := fun v155 k0_hw53 => k0_hw53
def k0_off111 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c64_i32 : BitVec 32 := 64#32
  let v152 : BitVec 32 := Scalar.addi v123 c64_i32
  let v157 : Index := Scalar.indexCast v152
  ![v157.toNat]
def k0_off112 (k0_t5 : Fin k0_t5_loop.trips) : Fin 1 → Nat :=
  let c6144_i32_108 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c80_i32 : BitVec 32 := 80#32
  let v159 : BitVec 32 := Scalar.addi v123 c80_i32
  let v160 : BitVec 32 := Scalar.addi c6144_i32_108 v159
  let v161 : Index := Scalar.indexCast v160
  ![v161.toNat]

def k0_chk54 (v162 : IVec S16 32) : Prop :=
  (∀ a x, ((![v162] : Fin 1 → IVec S16 32) a x).toNat < S100000.size a)
theorem k0_idx54_inb : ∀ (v162 : IVec S16 32) (k0_hw54 : k0_chk54 v162), ∀ a x, ((![v162] : Fin 1 → IVec S16 32) a x).toNat < S100000.size a := fun v162 k0_hw54 => k0_hw54
def k0_off113 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c80_i32 : BitVec 32 := 80#32
  let v159 : BitVec 32 := Scalar.addi v123 c80_i32
  let v164 : Index := Scalar.indexCast v159
  ![v164.toNat]
def k0_off114 (k0_t5 : Fin k0_t5_loop.trips) : Fin 1 → Nat :=
  let c6144_i32_109 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c96_i32 : BitVec 32 := 96#32
  let v166 : BitVec 32 := Scalar.addi v123 c96_i32
  let v167 : BitVec 32 := Scalar.addi c6144_i32_109 v166
  let v168 : Index := Scalar.indexCast v167
  ![v168.toNat]

def k0_chk55 (v169 : IVec S16 32) : Prop :=
  (∀ a x, ((![v169] : Fin 1 → IVec S16 32) a x).toNat < S100000.size a)
theorem k0_idx55_inb : ∀ (v169 : IVec S16 32) (k0_hw55 : k0_chk55 v169), ∀ a x, ((![v169] : Fin 1 → IVec S16 32) a x).toNat < S100000.size a := fun v169 k0_hw55 => k0_hw55
def k0_off115 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c96_i32 : BitVec 32 := 96#32
  let v166 : BitVec 32 := Scalar.addi v123 c96_i32
  let v171 : Index := Scalar.indexCast v166
  ![v171.toNat]
def k0_off116 (k0_t5 : Fin k0_t5_loop.trips) : Fin 1 → Nat :=
  let c6144_i32_110 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c112_i32 : BitVec 32 := 112#32
  let v173 : BitVec 32 := Scalar.addi v123 c112_i32
  let v174 : BitVec 32 := Scalar.addi c6144_i32_110 v173
  let v175 : Index := Scalar.indexCast v174
  ![v175.toNat]

def k0_chk56 (v176 : IVec S16 32) : Prop :=
  (∀ a x, ((![v176] : Fin 1 → IVec S16 32) a x).toNat < S100000.size a)
theorem k0_idx56_inb : ∀ (v176 : IVec S16 32) (k0_hw56 : k0_chk56 v176), ∀ a x, ((![v176] : Fin 1 → IVec S16 32) a x).toNat < S100000.size a := fun v176 k0_hw56 => k0_hw56
def k0_off117 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c112_i32 : BitVec 32 := 112#32
  let v173 : BitVec 32 := Scalar.addi v123 c112_i32
  let v178 : Index := Scalar.indexCast v173
  ![v178.toNat]
def k0_off118 (k0_t5 : Fin k0_t5_loop.trips) : Fin 1 → Nat :=
  let c6144_i32_111 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c128_i32 : BitVec 32 := 128#32
  let v180 : BitVec 32 := Scalar.addi v123 c128_i32
  let v181 : BitVec 32 := Scalar.addi c6144_i32_111 v180
  let v182 : Index := Scalar.indexCast v181
  ![v182.toNat]

def k0_chk57 (v183 : IVec S16 32) : Prop :=
  (∀ a x, ((![v183] : Fin 1 → IVec S16 32) a x).toNat < S100000.size a)
theorem k0_idx57_inb : ∀ (v183 : IVec S16 32) (k0_hw57 : k0_chk57 v183), ∀ a x, ((![v183] : Fin 1 → IVec S16 32) a x).toNat < S100000.size a := fun v183 k0_hw57 => k0_hw57
def k0_off119 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c128_i32 : BitVec 32 := 128#32
  let v180 : BitVec 32 := Scalar.addi v123 c128_i32
  let v185 : Index := Scalar.indexCast v180
  ![v185.toNat]
def k0_off120 (k0_t5 : Fin k0_t5_loop.trips) : Fin 1 → Nat :=
  let c6144_i32_112 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c144_i32 : BitVec 32 := 144#32
  let v187 : BitVec 32 := Scalar.addi v123 c144_i32
  let v188 : BitVec 32 := Scalar.addi c6144_i32_112 v187
  let v189 : Index := Scalar.indexCast v188
  ![v189.toNat]

def k0_chk58 (v190 : IVec S16 32) : Prop :=
  (∀ a x, ((![v190] : Fin 1 → IVec S16 32) a x).toNat < S100000.size a)
theorem k0_idx58_inb : ∀ (v190 : IVec S16 32) (k0_hw58 : k0_chk58 v190), ∀ a x, ((![v190] : Fin 1 → IVec S16 32) a x).toNat < S100000.size a := fun v190 k0_hw58 => k0_hw58
def k0_off121 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c144_i32 : BitVec 32 := 144#32
  let v187 : BitVec 32 := Scalar.addi v123 c144_i32
  let v192 : Index := Scalar.indexCast v187
  ![v192.toNat]
def k0_off122 (k0_t5 : Fin k0_t5_loop.trips) : Fin 1 → Nat :=
  let c6144_i32_113 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c160_i32 : BitVec 32 := 160#32
  let v194 : BitVec 32 := Scalar.addi v123 c160_i32
  let v195 : BitVec 32 := Scalar.addi c6144_i32_113 v194
  let v196 : Index := Scalar.indexCast v195
  ![v196.toNat]

def k0_chk59 (v197 : IVec S16 32) : Prop :=
  (∀ a x, ((![v197] : Fin 1 → IVec S16 32) a x).toNat < S100000.size a)
theorem k0_idx59_inb : ∀ (v197 : IVec S16 32) (k0_hw59 : k0_chk59 v197), ∀ a x, ((![v197] : Fin 1 → IVec S16 32) a x).toNat < S100000.size a := fun v197 k0_hw59 => k0_hw59
def k0_off123 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c160_i32 : BitVec 32 := 160#32
  let v194 : BitVec 32 := Scalar.addi v123 c160_i32
  let v199 : Index := Scalar.indexCast v194
  ![v199.toNat]
def k0_off124 (k0_t5 : Fin k0_t5_loop.trips) : Fin 1 → Nat :=
  let c6144_i32_114 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c176_i32 : BitVec 32 := 176#32
  let v201 : BitVec 32 := Scalar.addi v123 c176_i32
  let v202 : BitVec 32 := Scalar.addi c6144_i32_114 v201
  let v203 : Index := Scalar.indexCast v202
  ![v203.toNat]

def k0_chk60 (v204 : IVec S16 32) : Prop :=
  (∀ a x, ((![v204] : Fin 1 → IVec S16 32) a x).toNat < S100000.size a)
theorem k0_idx60_inb : ∀ (v204 : IVec S16 32) (k0_hw60 : k0_chk60 v204), ∀ a x, ((![v204] : Fin 1 → IVec S16 32) a x).toNat < S100000.size a := fun v204 k0_hw60 => k0_hw60
def k0_off125 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c176_i32 : BitVec 32 := 176#32
  let v201 : BitVec 32 := Scalar.addi v123 c176_i32
  let v206 : Index := Scalar.indexCast v201
  ![v206.toNat]
def k0_off126 (k0_t5 : Fin k0_t5_loop.trips) : Fin 1 → Nat :=
  let c6144_i32_115 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c192_i32 : BitVec 32 := 192#32
  let v208 : BitVec 32 := Scalar.addi v123 c192_i32
  let v209 : BitVec 32 := Scalar.addi c6144_i32_115 v208
  let v210 : Index := Scalar.indexCast v209
  ![v210.toNat]

def k0_chk61 (v211 : IVec S16 32) : Prop :=
  (∀ a x, ((![v211] : Fin 1 → IVec S16 32) a x).toNat < S100000.size a)
theorem k0_idx61_inb : ∀ (v211 : IVec S16 32) (k0_hw61 : k0_chk61 v211), ∀ a x, ((![v211] : Fin 1 → IVec S16 32) a x).toNat < S100000.size a := fun v211 k0_hw61 => k0_hw61
def k0_off127 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c192_i32 : BitVec 32 := 192#32
  let v208 : BitVec 32 := Scalar.addi v123 c192_i32
  let v213 : Index := Scalar.indexCast v208
  ![v213.toNat]
def k0_off128 (k0_t5 : Fin k0_t5_loop.trips) : Fin 1 → Nat :=
  let c6144_i32_116 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c208_i32 : BitVec 32 := 208#32
  let v215 : BitVec 32 := Scalar.addi v123 c208_i32
  let v216 : BitVec 32 := Scalar.addi c6144_i32_116 v215
  let v217 : Index := Scalar.indexCast v216
  ![v217.toNat]

def k0_chk62 (v218 : IVec S16 32) : Prop :=
  (∀ a x, ((![v218] : Fin 1 → IVec S16 32) a x).toNat < S100000.size a)
theorem k0_idx62_inb : ∀ (v218 : IVec S16 32) (k0_hw62 : k0_chk62 v218), ∀ a x, ((![v218] : Fin 1 → IVec S16 32) a x).toNat < S100000.size a := fun v218 k0_hw62 => k0_hw62
def k0_off129 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c208_i32 : BitVec 32 := 208#32
  let v215 : BitVec 32 := Scalar.addi v123 c208_i32
  let v220 : Index := Scalar.indexCast v215
  ![v220.toNat]
def k0_off130 (k0_t5 : Fin k0_t5_loop.trips) : Fin 1 → Nat :=
  let c6144_i32_117 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c224_i32 : BitVec 32 := 224#32
  let v222 : BitVec 32 := Scalar.addi v123 c224_i32
  let v223 : BitVec 32 := Scalar.addi c6144_i32_117 v222
  let v224 : Index := Scalar.indexCast v223
  ![v224.toNat]

def k0_chk63 (v225 : IVec S16 32) : Prop :=
  (∀ a x, ((![v225] : Fin 1 → IVec S16 32) a x).toNat < S100000.size a)
theorem k0_idx63_inb : ∀ (v225 : IVec S16 32) (k0_hw63 : k0_chk63 v225), ∀ a x, ((![v225] : Fin 1 → IVec S16 32) a x).toNat < S100000.size a := fun v225 k0_hw63 => k0_hw63
def k0_off131 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c224_i32 : BitVec 32 := 224#32
  let v222 : BitVec 32 := Scalar.addi v123 c224_i32
  let v227 : Index := Scalar.indexCast v222
  ![v227.toNat]
def k0_off132 (k0_t5 : Fin k0_t5_loop.trips) : Fin 1 → Nat :=
  let c6144_i32_118 : BitVec 32 := 6144#32
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c240_i32 : BitVec 32 := 240#32
  let v229 : BitVec 32 := Scalar.addi v123 c240_i32
  let v230 : BitVec 32 := Scalar.addi c6144_i32_118 v229
  let v231 : Index := Scalar.indexCast v230
  ![v231.toNat]

def k0_chk64 (v232 : IVec S16 32) : Prop :=
  (∀ a x, ((![v232] : Fin 1 → IVec S16 32) a x).toNat < S100000.size a)
theorem k0_idx64_inb : ∀ (v232 : IVec S16 32) (k0_hw64 : k0_chk64 v232), ∀ a x, ((![v232] : Fin 1 → IVec S16 32) a x).toNat < S100000.size a := fun v232 k0_hw64 => k0_hw64
def k0_off133 (k0_t5 : Fin k0_t5_loop.trips) : Fin 1 → Nat :=
  let c0_i32_59 : BitVec 32 := 0#32
  let c1_i32_61 : BitVec 32 := 1#32
  let arg14 : BitVec 32 := Scf.iv c0_i32_59 c1_i32_61 k0_t5
  let c256_i32 : BitVec 32 := 256#32
  let v123 : BitVec 32 := Scalar.muli arg14 c256_i32
  let c240_i32 : BitVec 32 := 240#32
  let v229 : BitVec 32 := Scalar.addi v123 c240_i32
  let v234 : Index := Scalar.indexCast v229
  ![v234.toNat]
def k0_off134 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let c0_i32_0 : BitVec 32 := 0#32
  let c1_i32 : BitVec 32 := 1#32
  let arg13 : BitVec 32 := Scf.iv c0_i32_0 c1_i32 k0_t1
  let v12 : BitVec 32 := Scalar.addi v2 arg13
  let c6144_i32 : BitVec 32 := 6144#32
  ![v12.toNat, 6144]
@[reducible] def k0_t6_loop : Scf.Loop 32 :=
  let c0_i32_68 : BitVec 32 := 0#32
  let c8_i32_69 : BitVec 32 := 8#32
  let v91 : BitVec 32 := Scalar.addi c0_i32_68 c8_i32_69
  let c1_i32_70 : BitVec 32 := 1#32
  ⟨c0_i32_68, v91, c1_i32_70⟩
def k0_off135 (k0_t6 : Fin k0_t6_loop.trips) : Fin 1 → Nat :=
  let c8192_i32_101 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c0_i32_100 : BitVec 32 := 0#32
  let v124 : BitVec 32 := Scalar.addi v123 c0_i32_100
  let v125 : BitVec 32 := Scalar.addi c8192_i32_101 v124
  let v126 : Index := Scalar.indexCast v125
  ![v126.toNat]

def k0_chk65 (v127 : IVec S16 32) : Prop :=
  (∀ a x, ((![v127] : Fin 1 → IVec S16 32) a x).toNat < S100000.size a)
theorem k0_idx65_inb : ∀ (v127 : IVec S16 32) (k0_hw65 : k0_chk65 v127), ∀ a x, ((![v127] : Fin 1 → IVec S16 32) a x).toNat < S100000.size a := fun v127 k0_hw65 => k0_hw65
def k0_off136 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c0_i32_100 : BitVec 32 := 0#32
  let v124 : BitVec 32 := Scalar.addi v123 c0_i32_100
  let v129 : Index := Scalar.indexCast v124
  ![v129.toNat]
def k0_off137 (k0_t6 : Fin k0_t6_loop.trips) : Fin 1 → Nat :=
  let c8192_i32_103 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c16_i32_102 : BitVec 32 := 16#32
  let v131 : BitVec 32 := Scalar.addi v123 c16_i32_102
  let v132 : BitVec 32 := Scalar.addi c8192_i32_103 v131
  let v133 : Index := Scalar.indexCast v132
  ![v133.toNat]

def k0_chk66 (v134 : IVec S16 32) : Prop :=
  (∀ a x, ((![v134] : Fin 1 → IVec S16 32) a x).toNat < S100000.size a)
theorem k0_idx66_inb : ∀ (v134 : IVec S16 32) (k0_hw66 : k0_chk66 v134), ∀ a x, ((![v134] : Fin 1 → IVec S16 32) a x).toNat < S100000.size a := fun v134 k0_hw66 => k0_hw66
def k0_off138 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c16_i32_102 : BitVec 32 := 16#32
  let v131 : BitVec 32 := Scalar.addi v123 c16_i32_102
  let v136 : Index := Scalar.indexCast v131
  ![v136.toNat]
def k0_off139 (k0_t6 : Fin k0_t6_loop.trips) : Fin 1 → Nat :=
  let c8192_i32_105 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c32_i32_104 : BitVec 32 := 32#32
  let v138 : BitVec 32 := Scalar.addi v123 c32_i32_104
  let v139 : BitVec 32 := Scalar.addi c8192_i32_105 v138
  let v140 : Index := Scalar.indexCast v139
  ![v140.toNat]

def k0_chk67 (v141 : IVec S16 32) : Prop :=
  (∀ a x, ((![v141] : Fin 1 → IVec S16 32) a x).toNat < S100000.size a)
theorem k0_idx67_inb : ∀ (v141 : IVec S16 32) (k0_hw67 : k0_chk67 v141), ∀ a x, ((![v141] : Fin 1 → IVec S16 32) a x).toNat < S100000.size a := fun v141 k0_hw67 => k0_hw67
def k0_off140 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c32_i32_104 : BitVec 32 := 32#32
  let v138 : BitVec 32 := Scalar.addi v123 c32_i32_104
  let v143 : Index := Scalar.indexCast v138
  ![v143.toNat]
def k0_off141 (k0_t6 : Fin k0_t6_loop.trips) : Fin 1 → Nat :=
  let c8192_i32_106 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c48_i32 : BitVec 32 := 48#32
  let v145 : BitVec 32 := Scalar.addi v123 c48_i32
  let v146 : BitVec 32 := Scalar.addi c8192_i32_106 v145
  let v147 : Index := Scalar.indexCast v146
  ![v147.toNat]

def k0_chk68 (v148 : IVec S16 32) : Prop :=
  (∀ a x, ((![v148] : Fin 1 → IVec S16 32) a x).toNat < S100000.size a)
theorem k0_idx68_inb : ∀ (v148 : IVec S16 32) (k0_hw68 : k0_chk68 v148), ∀ a x, ((![v148] : Fin 1 → IVec S16 32) a x).toNat < S100000.size a := fun v148 k0_hw68 => k0_hw68
def k0_off142 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c48_i32 : BitVec 32 := 48#32
  let v145 : BitVec 32 := Scalar.addi v123 c48_i32
  let v150 : Index := Scalar.indexCast v145
  ![v150.toNat]
def k0_off143 (k0_t6 : Fin k0_t6_loop.trips) : Fin 1 → Nat :=
  let c8192_i32_107 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c64_i32 : BitVec 32 := 64#32
  let v152 : BitVec 32 := Scalar.addi v123 c64_i32
  let v153 : BitVec 32 := Scalar.addi c8192_i32_107 v152
  let v154 : Index := Scalar.indexCast v153
  ![v154.toNat]

def k0_chk69 (v155 : IVec S16 32) : Prop :=
  (∀ a x, ((![v155] : Fin 1 → IVec S16 32) a x).toNat < S100000.size a)
theorem k0_idx69_inb : ∀ (v155 : IVec S16 32) (k0_hw69 : k0_chk69 v155), ∀ a x, ((![v155] : Fin 1 → IVec S16 32) a x).toNat < S100000.size a := fun v155 k0_hw69 => k0_hw69
def k0_off144 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c64_i32 : BitVec 32 := 64#32
  let v152 : BitVec 32 := Scalar.addi v123 c64_i32
  let v157 : Index := Scalar.indexCast v152
  ![v157.toNat]
def k0_off145 (k0_t6 : Fin k0_t6_loop.trips) : Fin 1 → Nat :=
  let c8192_i32_108 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c80_i32 : BitVec 32 := 80#32
  let v159 : BitVec 32 := Scalar.addi v123 c80_i32
  let v160 : BitVec 32 := Scalar.addi c8192_i32_108 v159
  let v161 : Index := Scalar.indexCast v160
  ![v161.toNat]

def k0_chk70 (v162 : IVec S16 32) : Prop :=
  (∀ a x, ((![v162] : Fin 1 → IVec S16 32) a x).toNat < S100000.size a)
theorem k0_idx70_inb : ∀ (v162 : IVec S16 32) (k0_hw70 : k0_chk70 v162), ∀ a x, ((![v162] : Fin 1 → IVec S16 32) a x).toNat < S100000.size a := fun v162 k0_hw70 => k0_hw70
def k0_off146 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c80_i32 : BitVec 32 := 80#32
  let v159 : BitVec 32 := Scalar.addi v123 c80_i32
  let v164 : Index := Scalar.indexCast v159
  ![v164.toNat]
def k0_off147 (k0_t6 : Fin k0_t6_loop.trips) : Fin 1 → Nat :=
  let c8192_i32_109 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c96_i32 : BitVec 32 := 96#32
  let v166 : BitVec 32 := Scalar.addi v123 c96_i32
  let v167 : BitVec 32 := Scalar.addi c8192_i32_109 v166
  let v168 : Index := Scalar.indexCast v167
  ![v168.toNat]

def k0_chk71 (v169 : IVec S16 32) : Prop :=
  (∀ a x, ((![v169] : Fin 1 → IVec S16 32) a x).toNat < S100000.size a)
theorem k0_idx71_inb : ∀ (v169 : IVec S16 32) (k0_hw71 : k0_chk71 v169), ∀ a x, ((![v169] : Fin 1 → IVec S16 32) a x).toNat < S100000.size a := fun v169 k0_hw71 => k0_hw71
def k0_off148 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c96_i32 : BitVec 32 := 96#32
  let v166 : BitVec 32 := Scalar.addi v123 c96_i32
  let v171 : Index := Scalar.indexCast v166
  ![v171.toNat]
def k0_off149 (k0_t6 : Fin k0_t6_loop.trips) : Fin 1 → Nat :=
  let c8192_i32_110 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c112_i32 : BitVec 32 := 112#32
  let v173 : BitVec 32 := Scalar.addi v123 c112_i32
  let v174 : BitVec 32 := Scalar.addi c8192_i32_110 v173
  let v175 : Index := Scalar.indexCast v174
  ![v175.toNat]

def k0_chk72 (v176 : IVec S16 32) : Prop :=
  (∀ a x, ((![v176] : Fin 1 → IVec S16 32) a x).toNat < S100000.size a)
theorem k0_idx72_inb : ∀ (v176 : IVec S16 32) (k0_hw72 : k0_chk72 v176), ∀ a x, ((![v176] : Fin 1 → IVec S16 32) a x).toNat < S100000.size a := fun v176 k0_hw72 => k0_hw72
def k0_off150 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c112_i32 : BitVec 32 := 112#32
  let v173 : BitVec 32 := Scalar.addi v123 c112_i32
  let v178 : Index := Scalar.indexCast v173
  ![v178.toNat]
def k0_off151 (k0_t6 : Fin k0_t6_loop.trips) : Fin 1 → Nat :=
  let c8192_i32_111 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c128_i32 : BitVec 32 := 128#32
  let v180 : BitVec 32 := Scalar.addi v123 c128_i32
  let v181 : BitVec 32 := Scalar.addi c8192_i32_111 v180
  let v182 : Index := Scalar.indexCast v181
  ![v182.toNat]

def k0_chk73 (v183 : IVec S16 32) : Prop :=
  (∀ a x, ((![v183] : Fin 1 → IVec S16 32) a x).toNat < S100000.size a)
theorem k0_idx73_inb : ∀ (v183 : IVec S16 32) (k0_hw73 : k0_chk73 v183), ∀ a x, ((![v183] : Fin 1 → IVec S16 32) a x).toNat < S100000.size a := fun v183 k0_hw73 => k0_hw73
def k0_off152 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c128_i32 : BitVec 32 := 128#32
  let v180 : BitVec 32 := Scalar.addi v123 c128_i32
  let v185 : Index := Scalar.indexCast v180
  ![v185.toNat]
def k0_off153 (k0_t6 : Fin k0_t6_loop.trips) : Fin 1 → Nat :=
  let c8192_i32_112 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c144_i32 : BitVec 32 := 144#32
  let v187 : BitVec 32 := Scalar.addi v123 c144_i32
  let v188 : BitVec 32 := Scalar.addi c8192_i32_112 v187
  let v189 : Index := Scalar.indexCast v188
  ![v189.toNat]

def k0_chk74 (v190 : IVec S16 32) : Prop :=
  (∀ a x, ((![v190] : Fin 1 → IVec S16 32) a x).toNat < S100000.size a)
theorem k0_idx74_inb : ∀ (v190 : IVec S16 32) (k0_hw74 : k0_chk74 v190), ∀ a x, ((![v190] : Fin 1 → IVec S16 32) a x).toNat < S100000.size a := fun v190 k0_hw74 => k0_hw74
def k0_off154 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c144_i32 : BitVec 32 := 144#32
  let v187 : BitVec 32 := Scalar.addi v123 c144_i32
  let v192 : Index := Scalar.indexCast v187
  ![v192.toNat]
def k0_off155 (k0_t6 : Fin k0_t6_loop.trips) : Fin 1 → Nat :=
  let c8192_i32_113 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c160_i32 : BitVec 32 := 160#32
  let v194 : BitVec 32 := Scalar.addi v123 c160_i32
  let v195 : BitVec 32 := Scalar.addi c8192_i32_113 v194
  let v196 : Index := Scalar.indexCast v195
  ![v196.toNat]

def k0_chk75 (v197 : IVec S16 32) : Prop :=
  (∀ a x, ((![v197] : Fin 1 → IVec S16 32) a x).toNat < S100000.size a)
theorem k0_idx75_inb : ∀ (v197 : IVec S16 32) (k0_hw75 : k0_chk75 v197), ∀ a x, ((![v197] : Fin 1 → IVec S16 32) a x).toNat < S100000.size a := fun v197 k0_hw75 => k0_hw75
def k0_off156 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c160_i32 : BitVec 32 := 160#32
  let v194 : BitVec 32 := Scalar.addi v123 c160_i32
  let v199 : Index := Scalar.indexCast v194
  ![v199.toNat]
def k0_off157 (k0_t6 : Fin k0_t6_loop.trips) : Fin 1 → Nat :=
  let c8192_i32_114 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c176_i32 : BitVec 32 := 176#32
  let v201 : BitVec 32 := Scalar.addi v123 c176_i32
  let v202 : BitVec 32 := Scalar.addi c8192_i32_114 v201
  let v203 : Index := Scalar.indexCast v202
  ![v203.toNat]

def k0_chk76 (v204 : IVec S16 32) : Prop :=
  (∀ a x, ((![v204] : Fin 1 → IVec S16 32) a x).toNat < S100000.size a)
theorem k0_idx76_inb : ∀ (v204 : IVec S16 32) (k0_hw76 : k0_chk76 v204), ∀ a x, ((![v204] : Fin 1 → IVec S16 32) a x).toNat < S100000.size a := fun v204 k0_hw76 => k0_hw76
def k0_off158 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c176_i32 : BitVec 32 := 176#32
  let v201 : BitVec 32 := Scalar.addi v123 c176_i32
  let v206 : Index := Scalar.indexCast v201
  ![v206.toNat]
def k0_off159 (k0_t6 : Fin k0_t6_loop.trips) : Fin 1 → Nat :=
  let c8192_i32_115 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c192_i32 : BitVec 32 := 192#32
  let v208 : BitVec 32 := Scalar.addi v123 c192_i32
  let v209 : BitVec 32 := Scalar.addi c8192_i32_115 v208
  let v210 : Index := Scalar.indexCast v209
  ![v210.toNat]

def k0_chk77 (v211 : IVec S16 32) : Prop :=
  (∀ a x, ((![v211] : Fin 1 → IVec S16 32) a x).toNat < S100000.size a)
theorem k0_idx77_inb : ∀ (v211 : IVec S16 32) (k0_hw77 : k0_chk77 v211), ∀ a x, ((![v211] : Fin 1 → IVec S16 32) a x).toNat < S100000.size a := fun v211 k0_hw77 => k0_hw77
def k0_off160 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c192_i32 : BitVec 32 := 192#32
  let v208 : BitVec 32 := Scalar.addi v123 c192_i32
  let v213 : Index := Scalar.indexCast v208
  ![v213.toNat]
def k0_off161 (k0_t6 : Fin k0_t6_loop.trips) : Fin 1 → Nat :=
  let c8192_i32_116 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c208_i32 : BitVec 32 := 208#32
  let v215 : BitVec 32 := Scalar.addi v123 c208_i32
  let v216 : BitVec 32 := Scalar.addi c8192_i32_116 v215
  let v217 : Index := Scalar.indexCast v216
  ![v217.toNat]

def k0_chk78 (v218 : IVec S16 32) : Prop :=
  (∀ a x, ((![v218] : Fin 1 → IVec S16 32) a x).toNat < S100000.size a)
theorem k0_idx78_inb : ∀ (v218 : IVec S16 32) (k0_hw78 : k0_chk78 v218), ∀ a x, ((![v218] : Fin 1 → IVec S16 32) a x).toNat < S100000.size a := fun v218 k0_hw78 => k0_hw78
def k0_off162 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c208_i32 : BitVec 32 := 208#32
  let v215 : BitVec 32 := Scalar.addi v123 c208_i32
  let v220 : Index := Scalar.indexCast v215
  ![v220.toNat]
def k0_off163 (k0_t6 : Fin k0_t6_loop.trips) : Fin 1 → Nat :=
  let c8192_i32_117 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c224_i32 : BitVec 32 := 224#32
  let v222 : BitVec 32 := Scalar.addi v123 c224_i32
  let v223 : BitVec 32 := Scalar.addi c8192_i32_117 v222
  let v224 : Index := Scalar.indexCast v223
  ![v224.toNat]

def k0_chk79 (v225 : IVec S16 32) : Prop :=
  (∀ a x, ((![v225] : Fin 1 → IVec S16 32) a x).toNat < S100000.size a)
theorem k0_idx79_inb : ∀ (v225 : IVec S16 32) (k0_hw79 : k0_chk79 v225), ∀ a x, ((![v225] : Fin 1 → IVec S16 32) a x).toNat < S100000.size a := fun v225 k0_hw79 => k0_hw79
def k0_off164 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c224_i32 : BitVec 32 := 224#32
  let v222 : BitVec 32 := Scalar.addi v123 c224_i32
  let v227 : Index := Scalar.indexCast v222
  ![v227.toNat]
def k0_off165 (k0_t6 : Fin k0_t6_loop.trips) : Fin 1 → Nat :=
  let c8192_i32_118 : BitVec 32 := 8192#32
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c240_i32 : BitVec 32 := 240#32
  let v229 : BitVec 32 := Scalar.addi v123 c240_i32
  let v230 : BitVec 32 := Scalar.addi c8192_i32_118 v229
  let v231 : Index := Scalar.indexCast v230
  ![v231.toNat]

def k0_chk80 (v232 : IVec S16 32) : Prop :=
  (∀ a x, ((![v232] : Fin 1 → IVec S16 32) a x).toNat < S100000.size a)
theorem k0_idx80_inb : ∀ (v232 : IVec S16 32) (k0_hw80 : k0_chk80 v232), ∀ a x, ((![v232] : Fin 1 → IVec S16 32) a x).toNat < S100000.size a := fun v232 k0_hw80 => k0_hw80
def k0_off166 (k0_t6 : Fin k0_t6_loop.trips) : Fin 1 → Nat :=
  let c0_i32_68 : BitVec 32 := 0#32
  let c1_i32_70 : BitVec 32 := 1#32
  let arg14 : BitVec 32 := Scf.iv c0_i32_68 c1_i32_70 k0_t6
  let c256_i32 : BitVec 32 := 256#32
  let v123 : BitVec 32 := Scalar.muli arg14 c256_i32
  let c240_i32 : BitVec 32 := 240#32
  let v229 : BitVec 32 := Scalar.addi v123 c240_i32
  let v234 : Index := Scalar.indexCast v229
  ![v234.toNat]
def k0_off167 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let c0_i32_0 : BitVec 32 := 0#32
  let c1_i32 : BitVec 32 := 1#32
  let arg13 : BitVec 32 := Scf.iv c0_i32_0 c1_i32 k0_t1
  let v12 : BitVec 32 := Scalar.addi v2 arg13
  let c8192_i32 : BitVec 32 := 8192#32
  ![v12.toNat, 8192]
@[reducible] def k0_t7_loop : Scf.Loop 32 :=
  let c0_i32_77 : BitVec 32 := 0#32
  let c8_i32_78 : BitVec 32 := 8#32
  let v100 : BitVec 32 := Scalar.addi c0_i32_77 c8_i32_78
  let c1_i32_79 : BitVec 32 := 1#32
  ⟨c0_i32_77, v100, c1_i32_79⟩
def k0_off168 (k0_t7 : Fin k0_t7_loop.trips) : Fin 1 → Nat :=
  let c10240_i32_101 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c0_i32_100 : BitVec 32 := 0#32
  let v124 : BitVec 32 := Scalar.addi v123 c0_i32_100
  let v125 : BitVec 32 := Scalar.addi c10240_i32_101 v124
  let v126 : Index := Scalar.indexCast v125
  ![v126.toNat]

def k0_chk81 (v127 : IVec S16 32) : Prop :=
  (∀ a x, ((![v127] : Fin 1 → IVec S16 32) a x).toNat < S100000.size a)
theorem k0_idx81_inb : ∀ (v127 : IVec S16 32) (k0_hw81 : k0_chk81 v127), ∀ a x, ((![v127] : Fin 1 → IVec S16 32) a x).toNat < S100000.size a := fun v127 k0_hw81 => k0_hw81
def k0_off169 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c0_i32_100 : BitVec 32 := 0#32
  let v124 : BitVec 32 := Scalar.addi v123 c0_i32_100
  let v129 : Index := Scalar.indexCast v124
  ![v129.toNat]
def k0_off170 (k0_t7 : Fin k0_t7_loop.trips) : Fin 1 → Nat :=
  let c10240_i32_103 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c16_i32_102 : BitVec 32 := 16#32
  let v131 : BitVec 32 := Scalar.addi v123 c16_i32_102
  let v132 : BitVec 32 := Scalar.addi c10240_i32_103 v131
  let v133 : Index := Scalar.indexCast v132
  ![v133.toNat]

def k0_chk82 (v134 : IVec S16 32) : Prop :=
  (∀ a x, ((![v134] : Fin 1 → IVec S16 32) a x).toNat < S100000.size a)
theorem k0_idx82_inb : ∀ (v134 : IVec S16 32) (k0_hw82 : k0_chk82 v134), ∀ a x, ((![v134] : Fin 1 → IVec S16 32) a x).toNat < S100000.size a := fun v134 k0_hw82 => k0_hw82
def k0_off171 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c16_i32_102 : BitVec 32 := 16#32
  let v131 : BitVec 32 := Scalar.addi v123 c16_i32_102
  let v136 : Index := Scalar.indexCast v131
  ![v136.toNat]
def k0_off172 (k0_t7 : Fin k0_t7_loop.trips) : Fin 1 → Nat :=
  let c10240_i32_105 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c32_i32_104 : BitVec 32 := 32#32
  let v138 : BitVec 32 := Scalar.addi v123 c32_i32_104
  let v139 : BitVec 32 := Scalar.addi c10240_i32_105 v138
  let v140 : Index := Scalar.indexCast v139
  ![v140.toNat]

def k0_chk83 (v141 : IVec S16 32) : Prop :=
  (∀ a x, ((![v141] : Fin 1 → IVec S16 32) a x).toNat < S100000.size a)
theorem k0_idx83_inb : ∀ (v141 : IVec S16 32) (k0_hw83 : k0_chk83 v141), ∀ a x, ((![v141] : Fin 1 → IVec S16 32) a x).toNat < S100000.size a := fun v141 k0_hw83 => k0_hw83
def k0_off173 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c32_i32_104 : BitVec 32 := 32#32
  let v138 : BitVec 32 := Scalar.addi v123 c32_i32_104
  let v143 : Index := Scalar.indexCast v138
  ![v143.toNat]
def k0_off174 (k0_t7 : Fin k0_t7_loop.trips) : Fin 1 → Nat :=
  let c10240_i32_106 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c48_i32 : BitVec 32 := 48#32
  let v145 : BitVec 32 := Scalar.addi v123 c48_i32
  let v146 : BitVec 32 := Scalar.addi c10240_i32_106 v145
  let v147 : Index := Scalar.indexCast v146
  ![v147.toNat]

def k0_chk84 (v148 : IVec S16 32) : Prop :=
  (∀ a x, ((![v148] : Fin 1 → IVec S16 32) a x).toNat < S100000.size a)
theorem k0_idx84_inb : ∀ (v148 : IVec S16 32) (k0_hw84 : k0_chk84 v148), ∀ a x, ((![v148] : Fin 1 → IVec S16 32) a x).toNat < S100000.size a := fun v148 k0_hw84 => k0_hw84
def k0_off175 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c48_i32 : BitVec 32 := 48#32
  let v145 : BitVec 32 := Scalar.addi v123 c48_i32
  let v150 : Index := Scalar.indexCast v145
  ![v150.toNat]
def k0_off176 (k0_t7 : Fin k0_t7_loop.trips) : Fin 1 → Nat :=
  let c10240_i32_107 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c64_i32 : BitVec 32 := 64#32
  let v152 : BitVec 32 := Scalar.addi v123 c64_i32
  let v153 : BitVec 32 := Scalar.addi c10240_i32_107 v152
  let v154 : Index := Scalar.indexCast v153
  ![v154.toNat]

def k0_chk85 (v155 : IVec S16 32) : Prop :=
  (∀ a x, ((![v155] : Fin 1 → IVec S16 32) a x).toNat < S100000.size a)
theorem k0_idx85_inb : ∀ (v155 : IVec S16 32) (k0_hw85 : k0_chk85 v155), ∀ a x, ((![v155] : Fin 1 → IVec S16 32) a x).toNat < S100000.size a := fun v155 k0_hw85 => k0_hw85
def k0_off177 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c64_i32 : BitVec 32 := 64#32
  let v152 : BitVec 32 := Scalar.addi v123 c64_i32
  let v157 : Index := Scalar.indexCast v152
  ![v157.toNat]
def k0_off178 (k0_t7 : Fin k0_t7_loop.trips) : Fin 1 → Nat :=
  let c10240_i32_108 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c80_i32 : BitVec 32 := 80#32
  let v159 : BitVec 32 := Scalar.addi v123 c80_i32
  let v160 : BitVec 32 := Scalar.addi c10240_i32_108 v159
  let v161 : Index := Scalar.indexCast v160
  ![v161.toNat]

def k0_chk86 (v162 : IVec S16 32) : Prop :=
  (∀ a x, ((![v162] : Fin 1 → IVec S16 32) a x).toNat < S100000.size a)
theorem k0_idx86_inb : ∀ (v162 : IVec S16 32) (k0_hw86 : k0_chk86 v162), ∀ a x, ((![v162] : Fin 1 → IVec S16 32) a x).toNat < S100000.size a := fun v162 k0_hw86 => k0_hw86
def k0_off179 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c80_i32 : BitVec 32 := 80#32
  let v159 : BitVec 32 := Scalar.addi v123 c80_i32
  let v164 : Index := Scalar.indexCast v159
  ![v164.toNat]
def k0_off180 (k0_t7 : Fin k0_t7_loop.trips) : Fin 1 → Nat :=
  let c10240_i32_109 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c96_i32 : BitVec 32 := 96#32
  let v166 : BitVec 32 := Scalar.addi v123 c96_i32
  let v167 : BitVec 32 := Scalar.addi c10240_i32_109 v166
  let v168 : Index := Scalar.indexCast v167
  ![v168.toNat]

def k0_chk87 (v169 : IVec S16 32) : Prop :=
  (∀ a x, ((![v169] : Fin 1 → IVec S16 32) a x).toNat < S100000.size a)
theorem k0_idx87_inb : ∀ (v169 : IVec S16 32) (k0_hw87 : k0_chk87 v169), ∀ a x, ((![v169] : Fin 1 → IVec S16 32) a x).toNat < S100000.size a := fun v169 k0_hw87 => k0_hw87
def k0_off181 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c96_i32 : BitVec 32 := 96#32
  let v166 : BitVec 32 := Scalar.addi v123 c96_i32
  let v171 : Index := Scalar.indexCast v166
  ![v171.toNat]
def k0_off182 (k0_t7 : Fin k0_t7_loop.trips) : Fin 1 → Nat :=
  let c10240_i32_110 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c112_i32 : BitVec 32 := 112#32
  let v173 : BitVec 32 := Scalar.addi v123 c112_i32
  let v174 : BitVec 32 := Scalar.addi c10240_i32_110 v173
  let v175 : Index := Scalar.indexCast v174
  ![v175.toNat]

def k0_chk88 (v176 : IVec S16 32) : Prop :=
  (∀ a x, ((![v176] : Fin 1 → IVec S16 32) a x).toNat < S100000.size a)
theorem k0_idx88_inb : ∀ (v176 : IVec S16 32) (k0_hw88 : k0_chk88 v176), ∀ a x, ((![v176] : Fin 1 → IVec S16 32) a x).toNat < S100000.size a := fun v176 k0_hw88 => k0_hw88
def k0_off183 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c112_i32 : BitVec 32 := 112#32
  let v173 : BitVec 32 := Scalar.addi v123 c112_i32
  let v178 : Index := Scalar.indexCast v173
  ![v178.toNat]
def k0_off184 (k0_t7 : Fin k0_t7_loop.trips) : Fin 1 → Nat :=
  let c10240_i32_111 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c128_i32 : BitVec 32 := 128#32
  let v180 : BitVec 32 := Scalar.addi v123 c128_i32
  let v181 : BitVec 32 := Scalar.addi c10240_i32_111 v180
  let v182 : Index := Scalar.indexCast v181
  ![v182.toNat]

def k0_chk89 (v183 : IVec S16 32) : Prop :=
  (∀ a x, ((![v183] : Fin 1 → IVec S16 32) a x).toNat < S100000.size a)
theorem k0_idx89_inb : ∀ (v183 : IVec S16 32) (k0_hw89 : k0_chk89 v183), ∀ a x, ((![v183] : Fin 1 → IVec S16 32) a x).toNat < S100000.size a := fun v183 k0_hw89 => k0_hw89
def k0_off185 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c128_i32 : BitVec 32 := 128#32
  let v180 : BitVec 32 := Scalar.addi v123 c128_i32
  let v185 : Index := Scalar.indexCast v180
  ![v185.toNat]
def k0_off186 (k0_t7 : Fin k0_t7_loop.trips) : Fin 1 → Nat :=
  let c10240_i32_112 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c144_i32 : BitVec 32 := 144#32
  let v187 : BitVec 32 := Scalar.addi v123 c144_i32
  let v188 : BitVec 32 := Scalar.addi c10240_i32_112 v187
  let v189 : Index := Scalar.indexCast v188
  ![v189.toNat]

def k0_chk90 (v190 : IVec S16 32) : Prop :=
  (∀ a x, ((![v190] : Fin 1 → IVec S16 32) a x).toNat < S100000.size a)
theorem k0_idx90_inb : ∀ (v190 : IVec S16 32) (k0_hw90 : k0_chk90 v190), ∀ a x, ((![v190] : Fin 1 → IVec S16 32) a x).toNat < S100000.size a := fun v190 k0_hw90 => k0_hw90
def k0_off187 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c144_i32 : BitVec 32 := 144#32
  let v187 : BitVec 32 := Scalar.addi v123 c144_i32
  let v192 : Index := Scalar.indexCast v187
  ![v192.toNat]
def k0_off188 (k0_t7 : Fin k0_t7_loop.trips) : Fin 1 → Nat :=
  let c10240_i32_113 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c160_i32 : BitVec 32 := 160#32
  let v194 : BitVec 32 := Scalar.addi v123 c160_i32
  let v195 : BitVec 32 := Scalar.addi c10240_i32_113 v194
  let v196 : Index := Scalar.indexCast v195
  ![v196.toNat]

def k0_chk91 (v197 : IVec S16 32) : Prop :=
  (∀ a x, ((![v197] : Fin 1 → IVec S16 32) a x).toNat < S100000.size a)
theorem k0_idx91_inb : ∀ (v197 : IVec S16 32) (k0_hw91 : k0_chk91 v197), ∀ a x, ((![v197] : Fin 1 → IVec S16 32) a x).toNat < S100000.size a := fun v197 k0_hw91 => k0_hw91
def k0_off189 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c160_i32 : BitVec 32 := 160#32
  let v194 : BitVec 32 := Scalar.addi v123 c160_i32
  let v199 : Index := Scalar.indexCast v194
  ![v199.toNat]
def k0_off190 (k0_t7 : Fin k0_t7_loop.trips) : Fin 1 → Nat :=
  let c10240_i32_114 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c176_i32 : BitVec 32 := 176#32
  let v201 : BitVec 32 := Scalar.addi v123 c176_i32
  let v202 : BitVec 32 := Scalar.addi c10240_i32_114 v201
  let v203 : Index := Scalar.indexCast v202
  ![v203.toNat]

def k0_chk92 (v204 : IVec S16 32) : Prop :=
  (∀ a x, ((![v204] : Fin 1 → IVec S16 32) a x).toNat < S100000.size a)
theorem k0_idx92_inb : ∀ (v204 : IVec S16 32) (k0_hw92 : k0_chk92 v204), ∀ a x, ((![v204] : Fin 1 → IVec S16 32) a x).toNat < S100000.size a := fun v204 k0_hw92 => k0_hw92
def k0_off191 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c176_i32 : BitVec 32 := 176#32
  let v201 : BitVec 32 := Scalar.addi v123 c176_i32
  let v206 : Index := Scalar.indexCast v201
  ![v206.toNat]
def k0_off192 (k0_t7 : Fin k0_t7_loop.trips) : Fin 1 → Nat :=
  let c10240_i32_115 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c192_i32 : BitVec 32 := 192#32
  let v208 : BitVec 32 := Scalar.addi v123 c192_i32
  let v209 : BitVec 32 := Scalar.addi c10240_i32_115 v208
  let v210 : Index := Scalar.indexCast v209
  ![v210.toNat]

def k0_chk93 (v211 : IVec S16 32) : Prop :=
  (∀ a x, ((![v211] : Fin 1 → IVec S16 32) a x).toNat < S100000.size a)
theorem k0_idx93_inb : ∀ (v211 : IVec S16 32) (k0_hw93 : k0_chk93 v211), ∀ a x, ((![v211] : Fin 1 → IVec S16 32) a x).toNat < S100000.size a := fun v211 k0_hw93 => k0_hw93
def k0_off193 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c192_i32 : BitVec 32 := 192#32
  let v208 : BitVec 32 := Scalar.addi v123 c192_i32
  let v213 : Index := Scalar.indexCast v208
  ![v213.toNat]
def k0_off194 (k0_t7 : Fin k0_t7_loop.trips) : Fin 1 → Nat :=
  let c10240_i32_116 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c208_i32 : BitVec 32 := 208#32
  let v215 : BitVec 32 := Scalar.addi v123 c208_i32
  let v216 : BitVec 32 := Scalar.addi c10240_i32_116 v215
  let v217 : Index := Scalar.indexCast v216
  ![v217.toNat]

def k0_chk94 (v218 : IVec S16 32) : Prop :=
  (∀ a x, ((![v218] : Fin 1 → IVec S16 32) a x).toNat < S100000.size a)
theorem k0_idx94_inb : ∀ (v218 : IVec S16 32) (k0_hw94 : k0_chk94 v218), ∀ a x, ((![v218] : Fin 1 → IVec S16 32) a x).toNat < S100000.size a := fun v218 k0_hw94 => k0_hw94
def k0_off195 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c208_i32 : BitVec 32 := 208#32
  let v215 : BitVec 32 := Scalar.addi v123 c208_i32
  let v220 : Index := Scalar.indexCast v215
  ![v220.toNat]
def k0_off196 (k0_t7 : Fin k0_t7_loop.trips) : Fin 1 → Nat :=
  let c10240_i32_117 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c224_i32 : BitVec 32 := 224#32
  let v222 : BitVec 32 := Scalar.addi v123 c224_i32
  let v223 : BitVec 32 := Scalar.addi c10240_i32_117 v222
  let v224 : Index := Scalar.indexCast v223
  ![v224.toNat]

def k0_chk95 (v225 : IVec S16 32) : Prop :=
  (∀ a x, ((![v225] : Fin 1 → IVec S16 32) a x).toNat < S100000.size a)
theorem k0_idx95_inb : ∀ (v225 : IVec S16 32) (k0_hw95 : k0_chk95 v225), ∀ a x, ((![v225] : Fin 1 → IVec S16 32) a x).toNat < S100000.size a := fun v225 k0_hw95 => k0_hw95
def k0_off197 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c224_i32 : BitVec 32 := 224#32
  let v222 : BitVec 32 := Scalar.addi v123 c224_i32
  let v227 : Index := Scalar.indexCast v222
  ![v227.toNat]
def k0_off198 (k0_t7 : Fin k0_t7_loop.trips) : Fin 1 → Nat :=
  let c10240_i32_118 : BitVec 32 := 10240#32
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c240_i32 : BitVec 32 := 240#32
  let v229 : BitVec 32 := Scalar.addi v123 c240_i32
  let v230 : BitVec 32 := Scalar.addi c10240_i32_118 v229
  let v231 : Index := Scalar.indexCast v230
  ![v231.toNat]

def k0_chk96 (v232 : IVec S16 32) : Prop :=
  (∀ a x, ((![v232] : Fin 1 → IVec S16 32) a x).toNat < S100000.size a)
theorem k0_idx96_inb : ∀ (v232 : IVec S16 32) (k0_hw96 : k0_chk96 v232), ∀ a x, ((![v232] : Fin 1 → IVec S16 32) a x).toNat < S100000.size a := fun v232 k0_hw96 => k0_hw96
def k0_off199 (k0_t7 : Fin k0_t7_loop.trips) : Fin 1 → Nat :=
  let c0_i32_77 : BitVec 32 := 0#32
  let c1_i32_79 : BitVec 32 := 1#32
  let arg14 : BitVec 32 := Scf.iv c0_i32_77 c1_i32_79 k0_t7
  let c256_i32 : BitVec 32 := 256#32
  let v123 : BitVec 32 := Scalar.muli arg14 c256_i32
  let c240_i32 : BitVec 32 := 240#32
  let v229 : BitVec 32 := Scalar.addi v123 c240_i32
  let v234 : Index := Scalar.indexCast v229
  ![v234.toNat]
def k0_off200 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let c0_i32_0 : BitVec 32 := 0#32
  let c1_i32 : BitVec 32 := 1#32
  let arg13 : BitVec 32 := Scf.iv c0_i32_0 c1_i32 k0_t1
  let v12 : BitVec 32 := Scalar.addi v2 arg13
  let c10240_i32 : BitVec 32 := 10240#32
  ![v12.toNat, 10240]
@[reducible] def k0_t8_loop : Scf.Loop 32 :=
  let c0_i32_86 : BitVec 32 := 0#32
  let c8_i32_87 : BitVec 32 := 8#32
  let v109 : BitVec 32 := Scalar.addi c0_i32_86 c8_i32_87
  let c1_i32_88 : BitVec 32 := 1#32
  ⟨c0_i32_86, v109, c1_i32_88⟩
def k0_off201 (k0_t8 : Fin k0_t8_loop.trips) : Fin 1 → Nat :=
  let c12288_i32_101 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c0_i32_100 : BitVec 32 := 0#32
  let v124 : BitVec 32 := Scalar.addi v123 c0_i32_100
  let v125 : BitVec 32 := Scalar.addi c12288_i32_101 v124
  let v126 : Index := Scalar.indexCast v125
  ![v126.toNat]

def k0_chk97 (v127 : IVec S16 32) : Prop :=
  (∀ a x, ((![v127] : Fin 1 → IVec S16 32) a x).toNat < S100000.size a)
theorem k0_idx97_inb : ∀ (v127 : IVec S16 32) (k0_hw97 : k0_chk97 v127), ∀ a x, ((![v127] : Fin 1 → IVec S16 32) a x).toNat < S100000.size a := fun v127 k0_hw97 => k0_hw97
def k0_off202 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c0_i32_100 : BitVec 32 := 0#32
  let v124 : BitVec 32 := Scalar.addi v123 c0_i32_100
  let v129 : Index := Scalar.indexCast v124
  ![v129.toNat]
def k0_off203 (k0_t8 : Fin k0_t8_loop.trips) : Fin 1 → Nat :=
  let c12288_i32_103 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c16_i32_102 : BitVec 32 := 16#32
  let v131 : BitVec 32 := Scalar.addi v123 c16_i32_102
  let v132 : BitVec 32 := Scalar.addi c12288_i32_103 v131
  let v133 : Index := Scalar.indexCast v132
  ![v133.toNat]

def k0_chk98 (v134 : IVec S16 32) : Prop :=
  (∀ a x, ((![v134] : Fin 1 → IVec S16 32) a x).toNat < S100000.size a)
theorem k0_idx98_inb : ∀ (v134 : IVec S16 32) (k0_hw98 : k0_chk98 v134), ∀ a x, ((![v134] : Fin 1 → IVec S16 32) a x).toNat < S100000.size a := fun v134 k0_hw98 => k0_hw98
def k0_off204 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c16_i32_102 : BitVec 32 := 16#32
  let v131 : BitVec 32 := Scalar.addi v123 c16_i32_102
  let v136 : Index := Scalar.indexCast v131
  ![v136.toNat]
def k0_off205 (k0_t8 : Fin k0_t8_loop.trips) : Fin 1 → Nat :=
  let c12288_i32_105 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c32_i32_104 : BitVec 32 := 32#32
  let v138 : BitVec 32 := Scalar.addi v123 c32_i32_104
  let v139 : BitVec 32 := Scalar.addi c12288_i32_105 v138
  let v140 : Index := Scalar.indexCast v139
  ![v140.toNat]

def k0_chk99 (v141 : IVec S16 32) : Prop :=
  (∀ a x, ((![v141] : Fin 1 → IVec S16 32) a x).toNat < S100000.size a)
theorem k0_idx99_inb : ∀ (v141 : IVec S16 32) (k0_hw99 : k0_chk99 v141), ∀ a x, ((![v141] : Fin 1 → IVec S16 32) a x).toNat < S100000.size a := fun v141 k0_hw99 => k0_hw99
def k0_off206 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c32_i32_104 : BitVec 32 := 32#32
  let v138 : BitVec 32 := Scalar.addi v123 c32_i32_104
  let v143 : Index := Scalar.indexCast v138
  ![v143.toNat]
def k0_off207 (k0_t8 : Fin k0_t8_loop.trips) : Fin 1 → Nat :=
  let c12288_i32_106 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c48_i32 : BitVec 32 := 48#32
  let v145 : BitVec 32 := Scalar.addi v123 c48_i32
  let v146 : BitVec 32 := Scalar.addi c12288_i32_106 v145
  let v147 : Index := Scalar.indexCast v146
  ![v147.toNat]

def k0_chk100 (v148 : IVec S16 32) : Prop :=
  (∀ a x, ((![v148] : Fin 1 → IVec S16 32) a x).toNat < S100000.size a)
theorem k0_idx100_inb : ∀ (v148 : IVec S16 32) (k0_hw100 : k0_chk100 v148), ∀ a x, ((![v148] : Fin 1 → IVec S16 32) a x).toNat < S100000.size a := fun v148 k0_hw100 => k0_hw100
def k0_off208 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c48_i32 : BitVec 32 := 48#32
  let v145 : BitVec 32 := Scalar.addi v123 c48_i32
  let v150 : Index := Scalar.indexCast v145
  ![v150.toNat]
def k0_off209 (k0_t8 : Fin k0_t8_loop.trips) : Fin 1 → Nat :=
  let c12288_i32_107 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c64_i32 : BitVec 32 := 64#32
  let v152 : BitVec 32 := Scalar.addi v123 c64_i32
  let v153 : BitVec 32 := Scalar.addi c12288_i32_107 v152
  let v154 : Index := Scalar.indexCast v153
  ![v154.toNat]

def k0_chk101 (v155 : IVec S16 32) : Prop :=
  (∀ a x, ((![v155] : Fin 1 → IVec S16 32) a x).toNat < S100000.size a)
theorem k0_idx101_inb : ∀ (v155 : IVec S16 32) (k0_hw101 : k0_chk101 v155), ∀ a x, ((![v155] : Fin 1 → IVec S16 32) a x).toNat < S100000.size a := fun v155 k0_hw101 => k0_hw101
def k0_off210 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c64_i32 : BitVec 32 := 64#32
  let v152 : BitVec 32 := Scalar.addi v123 c64_i32
  let v157 : Index := Scalar.indexCast v152
  ![v157.toNat]
def k0_off211 (k0_t8 : Fin k0_t8_loop.trips) : Fin 1 → Nat :=
  let c12288_i32_108 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c80_i32 : BitVec 32 := 80#32
  let v159 : BitVec 32 := Scalar.addi v123 c80_i32
  let v160 : BitVec 32 := Scalar.addi c12288_i32_108 v159
  let v161 : Index := Scalar.indexCast v160
  ![v161.toNat]

def k0_chk102 (v162 : IVec S16 32) : Prop :=
  (∀ a x, ((![v162] : Fin 1 → IVec S16 32) a x).toNat < S100000.size a)
theorem k0_idx102_inb : ∀ (v162 : IVec S16 32) (k0_hw102 : k0_chk102 v162), ∀ a x, ((![v162] : Fin 1 → IVec S16 32) a x).toNat < S100000.size a := fun v162 k0_hw102 => k0_hw102
def k0_off212 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c80_i32 : BitVec 32 := 80#32
  let v159 : BitVec 32 := Scalar.addi v123 c80_i32
  let v164 : Index := Scalar.indexCast v159
  ![v164.toNat]
def k0_off213 (k0_t8 : Fin k0_t8_loop.trips) : Fin 1 → Nat :=
  let c12288_i32_109 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c96_i32 : BitVec 32 := 96#32
  let v166 : BitVec 32 := Scalar.addi v123 c96_i32
  let v167 : BitVec 32 := Scalar.addi c12288_i32_109 v166
  let v168 : Index := Scalar.indexCast v167
  ![v168.toNat]

def k0_chk103 (v169 : IVec S16 32) : Prop :=
  (∀ a x, ((![v169] : Fin 1 → IVec S16 32) a x).toNat < S100000.size a)
theorem k0_idx103_inb : ∀ (v169 : IVec S16 32) (k0_hw103 : k0_chk103 v169), ∀ a x, ((![v169] : Fin 1 → IVec S16 32) a x).toNat < S100000.size a := fun v169 k0_hw103 => k0_hw103
def k0_off214 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c96_i32 : BitVec 32 := 96#32
  let v166 : BitVec 32 := Scalar.addi v123 c96_i32
  let v171 : Index := Scalar.indexCast v166
  ![v171.toNat]
def k0_off215 (k0_t8 : Fin k0_t8_loop.trips) : Fin 1 → Nat :=
  let c12288_i32_110 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c112_i32 : BitVec 32 := 112#32
  let v173 : BitVec 32 := Scalar.addi v123 c112_i32
  let v174 : BitVec 32 := Scalar.addi c12288_i32_110 v173
  let v175 : Index := Scalar.indexCast v174
  ![v175.toNat]

def k0_chk104 (v176 : IVec S16 32) : Prop :=
  (∀ a x, ((![v176] : Fin 1 → IVec S16 32) a x).toNat < S100000.size a)
theorem k0_idx104_inb : ∀ (v176 : IVec S16 32) (k0_hw104 : k0_chk104 v176), ∀ a x, ((![v176] : Fin 1 → IVec S16 32) a x).toNat < S100000.size a := fun v176 k0_hw104 => k0_hw104
def k0_off216 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c112_i32 : BitVec 32 := 112#32
  let v173 : BitVec 32 := Scalar.addi v123 c112_i32
  let v178 : Index := Scalar.indexCast v173
  ![v178.toNat]
def k0_off217 (k0_t8 : Fin k0_t8_loop.trips) : Fin 1 → Nat :=
  let c12288_i32_111 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c128_i32 : BitVec 32 := 128#32
  let v180 : BitVec 32 := Scalar.addi v123 c128_i32
  let v181 : BitVec 32 := Scalar.addi c12288_i32_111 v180
  let v182 : Index := Scalar.indexCast v181
  ![v182.toNat]

def k0_chk105 (v183 : IVec S16 32) : Prop :=
  (∀ a x, ((![v183] : Fin 1 → IVec S16 32) a x).toNat < S100000.size a)
theorem k0_idx105_inb : ∀ (v183 : IVec S16 32) (k0_hw105 : k0_chk105 v183), ∀ a x, ((![v183] : Fin 1 → IVec S16 32) a x).toNat < S100000.size a := fun v183 k0_hw105 => k0_hw105
def k0_off218 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c128_i32 : BitVec 32 := 128#32
  let v180 : BitVec 32 := Scalar.addi v123 c128_i32
  let v185 : Index := Scalar.indexCast v180
  ![v185.toNat]
def k0_off219 (k0_t8 : Fin k0_t8_loop.trips) : Fin 1 → Nat :=
  let c12288_i32_112 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c144_i32 : BitVec 32 := 144#32
  let v187 : BitVec 32 := Scalar.addi v123 c144_i32
  let v188 : BitVec 32 := Scalar.addi c12288_i32_112 v187
  let v189 : Index := Scalar.indexCast v188
  ![v189.toNat]

def k0_chk106 (v190 : IVec S16 32) : Prop :=
  (∀ a x, ((![v190] : Fin 1 → IVec S16 32) a x).toNat < S100000.size a)
theorem k0_idx106_inb : ∀ (v190 : IVec S16 32) (k0_hw106 : k0_chk106 v190), ∀ a x, ((![v190] : Fin 1 → IVec S16 32) a x).toNat < S100000.size a := fun v190 k0_hw106 => k0_hw106
def k0_off220 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c144_i32 : BitVec 32 := 144#32
  let v187 : BitVec 32 := Scalar.addi v123 c144_i32
  let v192 : Index := Scalar.indexCast v187
  ![v192.toNat]
def k0_off221 (k0_t8 : Fin k0_t8_loop.trips) : Fin 1 → Nat :=
  let c12288_i32_113 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c160_i32 : BitVec 32 := 160#32
  let v194 : BitVec 32 := Scalar.addi v123 c160_i32
  let v195 : BitVec 32 := Scalar.addi c12288_i32_113 v194
  let v196 : Index := Scalar.indexCast v195
  ![v196.toNat]

def k0_chk107 (v197 : IVec S16 32) : Prop :=
  (∀ a x, ((![v197] : Fin 1 → IVec S16 32) a x).toNat < S100000.size a)
theorem k0_idx107_inb : ∀ (v197 : IVec S16 32) (k0_hw107 : k0_chk107 v197), ∀ a x, ((![v197] : Fin 1 → IVec S16 32) a x).toNat < S100000.size a := fun v197 k0_hw107 => k0_hw107
def k0_off222 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c160_i32 : BitVec 32 := 160#32
  let v194 : BitVec 32 := Scalar.addi v123 c160_i32
  let v199 : Index := Scalar.indexCast v194
  ![v199.toNat]
def k0_off223 (k0_t8 : Fin k0_t8_loop.trips) : Fin 1 → Nat :=
  let c12288_i32_114 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c176_i32 : BitVec 32 := 176#32
  let v201 : BitVec 32 := Scalar.addi v123 c176_i32
  let v202 : BitVec 32 := Scalar.addi c12288_i32_114 v201
  let v203 : Index := Scalar.indexCast v202
  ![v203.toNat]

def k0_chk108 (v204 : IVec S16 32) : Prop :=
  (∀ a x, ((![v204] : Fin 1 → IVec S16 32) a x).toNat < S100000.size a)
theorem k0_idx108_inb : ∀ (v204 : IVec S16 32) (k0_hw108 : k0_chk108 v204), ∀ a x, ((![v204] : Fin 1 → IVec S16 32) a x).toNat < S100000.size a := fun v204 k0_hw108 => k0_hw108
def k0_off224 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c176_i32 : BitVec 32 := 176#32
  let v201 : BitVec 32 := Scalar.addi v123 c176_i32
  let v206 : Index := Scalar.indexCast v201
  ![v206.toNat]
def k0_off225 (k0_t8 : Fin k0_t8_loop.trips) : Fin 1 → Nat :=
  let c12288_i32_115 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c192_i32 : BitVec 32 := 192#32
  let v208 : BitVec 32 := Scalar.addi v123 c192_i32
  let v209 : BitVec 32 := Scalar.addi c12288_i32_115 v208
  let v210 : Index := Scalar.indexCast v209
  ![v210.toNat]

def k0_chk109 (v211 : IVec S16 32) : Prop :=
  (∀ a x, ((![v211] : Fin 1 → IVec S16 32) a x).toNat < S100000.size a)
theorem k0_idx109_inb : ∀ (v211 : IVec S16 32) (k0_hw109 : k0_chk109 v211), ∀ a x, ((![v211] : Fin 1 → IVec S16 32) a x).toNat < S100000.size a := fun v211 k0_hw109 => k0_hw109
def k0_off226 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c192_i32 : BitVec 32 := 192#32
  let v208 : BitVec 32 := Scalar.addi v123 c192_i32
  let v213 : Index := Scalar.indexCast v208
  ![v213.toNat]
def k0_off227 (k0_t8 : Fin k0_t8_loop.trips) : Fin 1 → Nat :=
  let c12288_i32_116 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c208_i32 : BitVec 32 := 208#32
  let v215 : BitVec 32 := Scalar.addi v123 c208_i32
  let v216 : BitVec 32 := Scalar.addi c12288_i32_116 v215
  let v217 : Index := Scalar.indexCast v216
  ![v217.toNat]

def k0_chk110 (v218 : IVec S16 32) : Prop :=
  (∀ a x, ((![v218] : Fin 1 → IVec S16 32) a x).toNat < S100000.size a)
theorem k0_idx110_inb : ∀ (v218 : IVec S16 32) (k0_hw110 : k0_chk110 v218), ∀ a x, ((![v218] : Fin 1 → IVec S16 32) a x).toNat < S100000.size a := fun v218 k0_hw110 => k0_hw110
def k0_off228 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c208_i32 : BitVec 32 := 208#32
  let v215 : BitVec 32 := Scalar.addi v123 c208_i32
  let v220 : Index := Scalar.indexCast v215
  ![v220.toNat]
def k0_off229 (k0_t8 : Fin k0_t8_loop.trips) : Fin 1 → Nat :=
  let c12288_i32_117 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c224_i32 : BitVec 32 := 224#32
  let v222 : BitVec 32 := Scalar.addi v123 c224_i32
  let v223 : BitVec 32 := Scalar.addi c12288_i32_117 v222
  let v224 : Index := Scalar.indexCast v223
  ![v224.toNat]

def k0_chk111 (v225 : IVec S16 32) : Prop :=
  (∀ a x, ((![v225] : Fin 1 → IVec S16 32) a x).toNat < S100000.size a)
theorem k0_idx111_inb : ∀ (v225 : IVec S16 32) (k0_hw111 : k0_chk111 v225), ∀ a x, ((![v225] : Fin 1 → IVec S16 32) a x).toNat < S100000.size a := fun v225 k0_hw111 => k0_hw111
def k0_off230 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c224_i32 : BitVec 32 := 224#32
  let v222 : BitVec 32 := Scalar.addi v123 c224_i32
  let v227 : Index := Scalar.indexCast v222
  ![v227.toNat]
def k0_off231 (k0_t8 : Fin k0_t8_loop.trips) : Fin 1 → Nat :=
  let c12288_i32_118 : BitVec 32 := 12288#32
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c240_i32 : BitVec 32 := 240#32
  let v229 : BitVec 32 := Scalar.addi v123 c240_i32
  let v230 : BitVec 32 := Scalar.addi c12288_i32_118 v229
  let v231 : Index := Scalar.indexCast v230
  ![v231.toNat]

def k0_chk112 (v232 : IVec S16 32) : Prop :=
  (∀ a x, ((![v232] : Fin 1 → IVec S16 32) a x).toNat < S100000.size a)
theorem k0_idx112_inb : ∀ (v232 : IVec S16 32) (k0_hw112 : k0_chk112 v232), ∀ a x, ((![v232] : Fin 1 → IVec S16 32) a x).toNat < S100000.size a := fun v232 k0_hw112 => k0_hw112
def k0_off232 (k0_t8 : Fin k0_t8_loop.trips) : Fin 1 → Nat :=
  let c0_i32_86 : BitVec 32 := 0#32
  let c1_i32_88 : BitVec 32 := 1#32
  let arg14 : BitVec 32 := Scf.iv c0_i32_86 c1_i32_88 k0_t8
  let c256_i32 : BitVec 32 := 256#32
  let v123 : BitVec 32 := Scalar.muli arg14 c256_i32
  let c240_i32 : BitVec 32 := 240#32
  let v229 : BitVec 32 := Scalar.addi v123 c240_i32
  let v234 : Index := Scalar.indexCast v229
  ![v234.toNat]
def k0_off233 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let c0_i32_0 : BitVec 32 := 0#32
  let c1_i32 : BitVec 32 := 1#32
  let arg13 : BitVec 32 := Scf.iv c0_i32_0 c1_i32 k0_t1
  let v12 : BitVec 32 := Scalar.addi v2 arg13
  let c12288_i32 : BitVec 32 := 12288#32
  ![v12.toNat, 12288]
@[reducible] def k0_t9_loop : Scf.Loop 32 :=
  let c0_i32_95 : BitVec 32 := 0#32
  let c8_i32_96 : BitVec 32 := 8#32
  let v118 : BitVec 32 := Scalar.addi c0_i32_95 c8_i32_96
  let c1_i32_97 : BitVec 32 := 1#32
  ⟨c0_i32_95, v118, c1_i32_97⟩
def k0_off234 (k0_t9 : Fin k0_t9_loop.trips) : Fin 1 → Nat :=
  let c14336_i32_101 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c0_i32_100 : BitVec 32 := 0#32
  let v124 : BitVec 32 := Scalar.addi v123 c0_i32_100
  let v125 : BitVec 32 := Scalar.addi c14336_i32_101 v124
  let v126 : Index := Scalar.indexCast v125
  ![v126.toNat]

def k0_chk113 (v127 : IVec S16 32) : Prop :=
  (∀ a x, ((![v127] : Fin 1 → IVec S16 32) a x).toNat < S100000.size a)
theorem k0_idx113_inb : ∀ (v127 : IVec S16 32) (k0_hw113 : k0_chk113 v127), ∀ a x, ((![v127] : Fin 1 → IVec S16 32) a x).toNat < S100000.size a := fun v127 k0_hw113 => k0_hw113
def k0_off235 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c0_i32_100 : BitVec 32 := 0#32
  let v124 : BitVec 32 := Scalar.addi v123 c0_i32_100
  let v129 : Index := Scalar.indexCast v124
  ![v129.toNat]
def k0_off236 (k0_t9 : Fin k0_t9_loop.trips) : Fin 1 → Nat :=
  let c14336_i32_103 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c16_i32_102 : BitVec 32 := 16#32
  let v131 : BitVec 32 := Scalar.addi v123 c16_i32_102
  let v132 : BitVec 32 := Scalar.addi c14336_i32_103 v131
  let v133 : Index := Scalar.indexCast v132
  ![v133.toNat]

def k0_chk114 (v134 : IVec S16 32) : Prop :=
  (∀ a x, ((![v134] : Fin 1 → IVec S16 32) a x).toNat < S100000.size a)
theorem k0_idx114_inb : ∀ (v134 : IVec S16 32) (k0_hw114 : k0_chk114 v134), ∀ a x, ((![v134] : Fin 1 → IVec S16 32) a x).toNat < S100000.size a := fun v134 k0_hw114 => k0_hw114
def k0_off237 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c16_i32_102 : BitVec 32 := 16#32
  let v131 : BitVec 32 := Scalar.addi v123 c16_i32_102
  let v136 : Index := Scalar.indexCast v131
  ![v136.toNat]
def k0_off238 (k0_t9 : Fin k0_t9_loop.trips) : Fin 1 → Nat :=
  let c14336_i32_105 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c32_i32_104 : BitVec 32 := 32#32
  let v138 : BitVec 32 := Scalar.addi v123 c32_i32_104
  let v139 : BitVec 32 := Scalar.addi c14336_i32_105 v138
  let v140 : Index := Scalar.indexCast v139
  ![v140.toNat]

def k0_chk115 (v141 : IVec S16 32) : Prop :=
  (∀ a x, ((![v141] : Fin 1 → IVec S16 32) a x).toNat < S100000.size a)
theorem k0_idx115_inb : ∀ (v141 : IVec S16 32) (k0_hw115 : k0_chk115 v141), ∀ a x, ((![v141] : Fin 1 → IVec S16 32) a x).toNat < S100000.size a := fun v141 k0_hw115 => k0_hw115
def k0_off239 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c32_i32_104 : BitVec 32 := 32#32
  let v138 : BitVec 32 := Scalar.addi v123 c32_i32_104
  let v143 : Index := Scalar.indexCast v138
  ![v143.toNat]
def k0_off240 (k0_t9 : Fin k0_t9_loop.trips) : Fin 1 → Nat :=
  let c14336_i32_106 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c48_i32 : BitVec 32 := 48#32
  let v145 : BitVec 32 := Scalar.addi v123 c48_i32
  let v146 : BitVec 32 := Scalar.addi c14336_i32_106 v145
  let v147 : Index := Scalar.indexCast v146
  ![v147.toNat]

def k0_chk116 (v148 : IVec S16 32) : Prop :=
  (∀ a x, ((![v148] : Fin 1 → IVec S16 32) a x).toNat < S100000.size a)
theorem k0_idx116_inb : ∀ (v148 : IVec S16 32) (k0_hw116 : k0_chk116 v148), ∀ a x, ((![v148] : Fin 1 → IVec S16 32) a x).toNat < S100000.size a := fun v148 k0_hw116 => k0_hw116
def k0_off241 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c48_i32 : BitVec 32 := 48#32
  let v145 : BitVec 32 := Scalar.addi v123 c48_i32
  let v150 : Index := Scalar.indexCast v145
  ![v150.toNat]
def k0_off242 (k0_t9 : Fin k0_t9_loop.trips) : Fin 1 → Nat :=
  let c14336_i32_107 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c64_i32 : BitVec 32 := 64#32
  let v152 : BitVec 32 := Scalar.addi v123 c64_i32
  let v153 : BitVec 32 := Scalar.addi c14336_i32_107 v152
  let v154 : Index := Scalar.indexCast v153
  ![v154.toNat]

def k0_chk117 (v155 : IVec S16 32) : Prop :=
  (∀ a x, ((![v155] : Fin 1 → IVec S16 32) a x).toNat < S100000.size a)
theorem k0_idx117_inb : ∀ (v155 : IVec S16 32) (k0_hw117 : k0_chk117 v155), ∀ a x, ((![v155] : Fin 1 → IVec S16 32) a x).toNat < S100000.size a := fun v155 k0_hw117 => k0_hw117
def k0_off243 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c64_i32 : BitVec 32 := 64#32
  let v152 : BitVec 32 := Scalar.addi v123 c64_i32
  let v157 : Index := Scalar.indexCast v152
  ![v157.toNat]
def k0_off244 (k0_t9 : Fin k0_t9_loop.trips) : Fin 1 → Nat :=
  let c14336_i32_108 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c80_i32 : BitVec 32 := 80#32
  let v159 : BitVec 32 := Scalar.addi v123 c80_i32
  let v160 : BitVec 32 := Scalar.addi c14336_i32_108 v159
  let v161 : Index := Scalar.indexCast v160
  ![v161.toNat]

def k0_chk118 (v162 : IVec S16 32) : Prop :=
  (∀ a x, ((![v162] : Fin 1 → IVec S16 32) a x).toNat < S100000.size a)
theorem k0_idx118_inb : ∀ (v162 : IVec S16 32) (k0_hw118 : k0_chk118 v162), ∀ a x, ((![v162] : Fin 1 → IVec S16 32) a x).toNat < S100000.size a := fun v162 k0_hw118 => k0_hw118
def k0_off245 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c80_i32 : BitVec 32 := 80#32
  let v159 : BitVec 32 := Scalar.addi v123 c80_i32
  let v164 : Index := Scalar.indexCast v159
  ![v164.toNat]
def k0_off246 (k0_t9 : Fin k0_t9_loop.trips) : Fin 1 → Nat :=
  let c14336_i32_109 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c96_i32 : BitVec 32 := 96#32
  let v166 : BitVec 32 := Scalar.addi v123 c96_i32
  let v167 : BitVec 32 := Scalar.addi c14336_i32_109 v166
  let v168 : Index := Scalar.indexCast v167
  ![v168.toNat]

def k0_chk119 (v169 : IVec S16 32) : Prop :=
  (∀ a x, ((![v169] : Fin 1 → IVec S16 32) a x).toNat < S100000.size a)
theorem k0_idx119_inb : ∀ (v169 : IVec S16 32) (k0_hw119 : k0_chk119 v169), ∀ a x, ((![v169] : Fin 1 → IVec S16 32) a x).toNat < S100000.size a := fun v169 k0_hw119 => k0_hw119
def k0_off247 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c96_i32 : BitVec 32 := 96#32
  let v166 : BitVec 32 := Scalar.addi v123 c96_i32
  let v171 : Index := Scalar.indexCast v166
  ![v171.toNat]
def k0_off248 (k0_t9 : Fin k0_t9_loop.trips) : Fin 1 → Nat :=
  let c14336_i32_110 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c112_i32 : BitVec 32 := 112#32
  let v173 : BitVec 32 := Scalar.addi v123 c112_i32
  let v174 : BitVec 32 := Scalar.addi c14336_i32_110 v173
  let v175 : Index := Scalar.indexCast v174
  ![v175.toNat]

def k0_chk120 (v176 : IVec S16 32) : Prop :=
  (∀ a x, ((![v176] : Fin 1 → IVec S16 32) a x).toNat < S100000.size a)
theorem k0_idx120_inb : ∀ (v176 : IVec S16 32) (k0_hw120 : k0_chk120 v176), ∀ a x, ((![v176] : Fin 1 → IVec S16 32) a x).toNat < S100000.size a := fun v176 k0_hw120 => k0_hw120
def k0_off249 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c112_i32 : BitVec 32 := 112#32
  let v173 : BitVec 32 := Scalar.addi v123 c112_i32
  let v178 : Index := Scalar.indexCast v173
  ![v178.toNat]
def k0_off250 (k0_t9 : Fin k0_t9_loop.trips) : Fin 1 → Nat :=
  let c14336_i32_111 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c128_i32 : BitVec 32 := 128#32
  let v180 : BitVec 32 := Scalar.addi v123 c128_i32
  let v181 : BitVec 32 := Scalar.addi c14336_i32_111 v180
  let v182 : Index := Scalar.indexCast v181
  ![v182.toNat]

def k0_chk121 (v183 : IVec S16 32) : Prop :=
  (∀ a x, ((![v183] : Fin 1 → IVec S16 32) a x).toNat < S100000.size a)
theorem k0_idx121_inb : ∀ (v183 : IVec S16 32) (k0_hw121 : k0_chk121 v183), ∀ a x, ((![v183] : Fin 1 → IVec S16 32) a x).toNat < S100000.size a := fun v183 k0_hw121 => k0_hw121
def k0_off251 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c128_i32 : BitVec 32 := 128#32
  let v180 : BitVec 32 := Scalar.addi v123 c128_i32
  let v185 : Index := Scalar.indexCast v180
  ![v185.toNat]
def k0_off252 (k0_t9 : Fin k0_t9_loop.trips) : Fin 1 → Nat :=
  let c14336_i32_112 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c144_i32 : BitVec 32 := 144#32
  let v187 : BitVec 32 := Scalar.addi v123 c144_i32
  let v188 : BitVec 32 := Scalar.addi c14336_i32_112 v187
  let v189 : Index := Scalar.indexCast v188
  ![v189.toNat]

def k0_chk122 (v190 : IVec S16 32) : Prop :=
  (∀ a x, ((![v190] : Fin 1 → IVec S16 32) a x).toNat < S100000.size a)
theorem k0_idx122_inb : ∀ (v190 : IVec S16 32) (k0_hw122 : k0_chk122 v190), ∀ a x, ((![v190] : Fin 1 → IVec S16 32) a x).toNat < S100000.size a := fun v190 k0_hw122 => k0_hw122
def k0_off253 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c144_i32 : BitVec 32 := 144#32
  let v187 : BitVec 32 := Scalar.addi v123 c144_i32
  let v192 : Index := Scalar.indexCast v187
  ![v192.toNat]
def k0_off254 (k0_t9 : Fin k0_t9_loop.trips) : Fin 1 → Nat :=
  let c14336_i32_113 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c160_i32 : BitVec 32 := 160#32
  let v194 : BitVec 32 := Scalar.addi v123 c160_i32
  let v195 : BitVec 32 := Scalar.addi c14336_i32_113 v194
  let v196 : Index := Scalar.indexCast v195
  ![v196.toNat]

def k0_chk123 (v197 : IVec S16 32) : Prop :=
  (∀ a x, ((![v197] : Fin 1 → IVec S16 32) a x).toNat < S100000.size a)
theorem k0_idx123_inb : ∀ (v197 : IVec S16 32) (k0_hw123 : k0_chk123 v197), ∀ a x, ((![v197] : Fin 1 → IVec S16 32) a x).toNat < S100000.size a := fun v197 k0_hw123 => k0_hw123
def k0_off255 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c160_i32 : BitVec 32 := 160#32
  let v194 : BitVec 32 := Scalar.addi v123 c160_i32
  let v199 : Index := Scalar.indexCast v194
  ![v199.toNat]
def k0_off256 (k0_t9 : Fin k0_t9_loop.trips) : Fin 1 → Nat :=
  let c14336_i32_114 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c176_i32 : BitVec 32 := 176#32
  let v201 : BitVec 32 := Scalar.addi v123 c176_i32
  let v202 : BitVec 32 := Scalar.addi c14336_i32_114 v201
  let v203 : Index := Scalar.indexCast v202
  ![v203.toNat]

def k0_chk124 (v204 : IVec S16 32) : Prop :=
  (∀ a x, ((![v204] : Fin 1 → IVec S16 32) a x).toNat < S100000.size a)
theorem k0_idx124_inb : ∀ (v204 : IVec S16 32) (k0_hw124 : k0_chk124 v204), ∀ a x, ((![v204] : Fin 1 → IVec S16 32) a x).toNat < S100000.size a := fun v204 k0_hw124 => k0_hw124
def k0_off257 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c176_i32 : BitVec 32 := 176#32
  let v201 : BitVec 32 := Scalar.addi v123 c176_i32
  let v206 : Index := Scalar.indexCast v201
  ![v206.toNat]
def k0_off258 (k0_t9 : Fin k0_t9_loop.trips) : Fin 1 → Nat :=
  let c14336_i32_115 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c192_i32 : BitVec 32 := 192#32
  let v208 : BitVec 32 := Scalar.addi v123 c192_i32
  let v209 : BitVec 32 := Scalar.addi c14336_i32_115 v208
  let v210 : Index := Scalar.indexCast v209
  ![v210.toNat]

def k0_chk125 (v211 : IVec S16 32) : Prop :=
  (∀ a x, ((![v211] : Fin 1 → IVec S16 32) a x).toNat < S100000.size a)
theorem k0_idx125_inb : ∀ (v211 : IVec S16 32) (k0_hw125 : k0_chk125 v211), ∀ a x, ((![v211] : Fin 1 → IVec S16 32) a x).toNat < S100000.size a := fun v211 k0_hw125 => k0_hw125
def k0_off259 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c192_i32 : BitVec 32 := 192#32
  let v208 : BitVec 32 := Scalar.addi v123 c192_i32
  let v213 : Index := Scalar.indexCast v208
  ![v213.toNat]
def k0_off260 (k0_t9 : Fin k0_t9_loop.trips) : Fin 1 → Nat :=
  let c14336_i32_116 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c208_i32 : BitVec 32 := 208#32
  let v215 : BitVec 32 := Scalar.addi v123 c208_i32
  let v216 : BitVec 32 := Scalar.addi c14336_i32_116 v215
  let v217 : Index := Scalar.indexCast v216
  ![v217.toNat]

def k0_chk126 (v218 : IVec S16 32) : Prop :=
  (∀ a x, ((![v218] : Fin 1 → IVec S16 32) a x).toNat < S100000.size a)
theorem k0_idx126_inb : ∀ (v218 : IVec S16 32) (k0_hw126 : k0_chk126 v218), ∀ a x, ((![v218] : Fin 1 → IVec S16 32) a x).toNat < S100000.size a := fun v218 k0_hw126 => k0_hw126
def k0_off261 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c208_i32 : BitVec 32 := 208#32
  let v215 : BitVec 32 := Scalar.addi v123 c208_i32
  let v220 : Index := Scalar.indexCast v215
  ![v220.toNat]
def k0_off262 (k0_t9 : Fin k0_t9_loop.trips) : Fin 1 → Nat :=
  let c14336_i32_117 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c224_i32 : BitVec 32 := 224#32
  let v222 : BitVec 32 := Scalar.addi v123 c224_i32
  let v223 : BitVec 32 := Scalar.addi c14336_i32_117 v222
  let v224 : Index := Scalar.indexCast v223
  ![v224.toNat]

def k0_chk127 (v225 : IVec S16 32) : Prop :=
  (∀ a x, ((![v225] : Fin 1 → IVec S16 32) a x).toNat < S100000.size a)
theorem k0_idx127_inb : ∀ (v225 : IVec S16 32) (k0_hw127 : k0_chk127 v225), ∀ a x, ((![v225] : Fin 1 → IVec S16 32) a x).toNat < S100000.size a := fun v225 k0_hw127 => k0_hw127
def k0_off263 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c224_i32 : BitVec 32 := 224#32
  let v222 : BitVec 32 := Scalar.addi v123 c224_i32
  let v227 : Index := Scalar.indexCast v222
  ![v227.toNat]
def k0_off264 (k0_t9 : Fin k0_t9_loop.trips) : Fin 1 → Nat :=
  let c14336_i32_118 : BitVec 32 := 14336#32
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c240_i32 : BitVec 32 := 240#32
  let v229 : BitVec 32 := Scalar.addi v123 c240_i32
  let v230 : BitVec 32 := Scalar.addi c14336_i32_118 v229
  let v231 : Index := Scalar.indexCast v230
  ![v231.toNat]

def k0_chk128 (v232 : IVec S16 32) : Prop :=
  (∀ a x, ((![v232] : Fin 1 → IVec S16 32) a x).toNat < S100000.size a)
theorem k0_idx128_inb : ∀ (v232 : IVec S16 32) (k0_hw128 : k0_chk128 v232), ∀ a x, ((![v232] : Fin 1 → IVec S16 32) a x).toNat < S100000.size a := fun v232 k0_hw128 => k0_hw128
def k0_off265 (k0_t9 : Fin k0_t9_loop.trips) : Fin 1 → Nat :=
  let c0_i32_95 : BitVec 32 := 0#32
  let c1_i32_97 : BitVec 32 := 1#32
  let arg14 : BitVec 32 := Scf.iv c0_i32_95 c1_i32_97 k0_t9
  let c256_i32 : BitVec 32 := 256#32
  let v123 : BitVec 32 := Scalar.muli arg14 c256_i32
  let c240_i32 : BitVec 32 := 240#32
  let v229 : BitVec 32 := Scalar.addi v123 c240_i32
  let v234 : Index := Scalar.indexCast v229
  ![v234.toNat]
def k0_off266 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c26_i32 : BitVec 32 := 26#32
  let v2 : BitVec 32 := Scalar.muli v1 c26_i32
  let c0_i32_0 : BitVec 32 := 0#32
  let c1_i32 : BitVec 32 := 1#32
  let arg13 : BitVec 32 := Scf.iv c0_i32_0 c1_i32 k0_t1
  let v12 : BitVec 32 := Scalar.addi v2 arg13
  let c14336_i32 : BitVec 32 := 14336#32
  ![v12.toNat, 14336]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S26x100000x32 : Shape := ⟨3, ![26, 100000, 32]⟩
abbrev S1x100000x32 : Shape := ⟨3, ![1, 100000, 32]⟩
abbrev S100000x32 : Shape := ⟨2, ![100000, 32]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x32 : Shape := ⟨2, ![16384, 32]⟩
abbrev S16384x512 : Shape := ⟨2, ![16384, 512]⟩
abbrev S16384x320 : Shape := ⟨2, ![16384, 320]⟩
abbrev S16384x832 : Shape := ⟨2, ![16384, 832]⟩

abbrev nBuf : Space → Nat
  | .hbm => 707
  | .vmem => 0
  | .smem => 0
  | _ => 0

abbrev hbmTy0_0 (i : Nat) : BufTy := match i % 128 with
  | 0 => ⟨S16384x26, .i32⟩
  | 1 => ⟨S26x100000x32, .f32⟩
  | 2 => ⟨S1x100000x32, .f32⟩
  | 3 => ⟨S100000x32, .f32⟩
  | 4 => ⟨S16384x1, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S1, .i32⟩
  | 15 => ⟨S_, .i32⟩
  | 16 => ⟨S16384x1, .i32⟩
  | 17 => ⟨S16384x1, .i1⟩
  | 18 => ⟨S1x1, .i32⟩
  | 19 => ⟨S16384x1, .i32⟩
  | 20 => ⟨S16384x1, .i1⟩
  | 21 => ⟨S16384x1, .i1⟩
  | 22 => ⟨S_, .i1⟩
  | 23 => ⟨S16384, .i1⟩
  | 24 => ⟨S16384x32, .f32⟩
  | 25 => ⟨S16384x32, .i1⟩
  | 26 => ⟨S_, .f32⟩
  | 27 => ⟨S16384x32, .f32⟩
  | 28 => ⟨S16384x32, .f32⟩
  | 29 => ⟨S1x100000x32, .f32⟩
  | 30 => ⟨S100000x32, .f32⟩
  | 31 => ⟨S16384x1, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S1, .i32⟩
  | 42 => ⟨S_, .i32⟩
  | 43 => ⟨S16384x1, .i32⟩
  | 44 => ⟨S16384x1, .i1⟩
  | 45 => ⟨S1x1, .i32⟩
  | 46 => ⟨S16384x1, .i32⟩
  | 47 => ⟨S16384x1, .i1⟩
  | 48 => ⟨S16384x1, .i1⟩
  | 49 => ⟨S_, .i1⟩
  | 50 => ⟨S16384, .i1⟩
  | 51 => ⟨S16384x32, .f32⟩
  | 52 => ⟨S16384x32, .i1⟩
  | 53 => ⟨S_, .f32⟩
  | 54 => ⟨S16384x32, .f32⟩
  | 55 => ⟨S16384x32, .f32⟩
  | 56 => ⟨S1x100000x32, .f32⟩
  | 57 => ⟨S100000x32, .f32⟩
  | 58 => ⟨S16384x1, .i32⟩
  | 59 => ⟨S16384, .i32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x32, .f32⟩
  | 79 => ⟨S16384x32, .i1⟩
  | 80 => ⟨S_, .f32⟩
  | 81 => ⟨S16384x32, .f32⟩
  | 82 => ⟨S16384x32, .f32⟩
  | 83 => ⟨S1x100000x32, .f32⟩
  | 84 => ⟨S100000x32, .f32⟩
  | 85 => ⟨S16384x1, .i32⟩
  | 86 => ⟨S16384, .i32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S1, .i32⟩
  | 96 => ⟨S_, .i32⟩
  | 97 => ⟨S16384x1, .i32⟩
  | 98 => ⟨S16384x1, .i1⟩
  | 99 => ⟨S1x1, .i32⟩
  | 100 => ⟨S16384x1, .i32⟩
  | 101 => ⟨S16384x1, .i1⟩
  | 102 => ⟨S16384x1, .i1⟩
  | 103 => ⟨S_, .i1⟩
  | 104 => ⟨S16384, .i1⟩
  | 105 => ⟨S16384x32, .f32⟩
  | 106 => ⟨S16384x32, .i1⟩
  | 107 => ⟨S_, .f32⟩
  | 108 => ⟨S16384x32, .f32⟩
  | 109 => ⟨S16384x32, .f32⟩
  | 110 => ⟨S1x100000x32, .f32⟩
  | 111 => ⟨S100000x32, .f32⟩
  | 112 => ⟨S16384x1, .i32⟩
  | 113 => ⟨S16384, .i32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S1, .i32⟩
  | 123 => ⟨S_, .i32⟩
  | 124 => ⟨S16384x1, .i32⟩
  | 125 => ⟨S16384x1, .i1⟩
  | 126 => ⟨S1x1, .i32⟩
  | 127 => ⟨S16384x1, .i32⟩
  | _ => ⟨S16384x26, .i32⟩

abbrev hbmTy0_1 (i : Nat) : BufTy := match i % 128 with
  | 0 => ⟨S16384x1, .i1⟩
  | 1 => ⟨S16384x1, .i1⟩
  | 2 => ⟨S_, .i1⟩
  | 3 => ⟨S16384, .i1⟩
  | 4 => ⟨S16384x32, .f32⟩
  | 5 => ⟨S16384x32, .i1⟩
  | 6 => ⟨S_, .f32⟩
  | 7 => ⟨S16384x32, .f32⟩
  | 8 => ⟨S16384x32, .f32⟩
  | 9 => ⟨S1x100000x32, .f32⟩
  | 10 => ⟨S100000x32, .f32⟩
  | 11 => ⟨S16384x1, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x32, .f32⟩
  | 32 => ⟨S16384x32, .i1⟩
  | 33 => ⟨S_, .f32⟩
  | 34 => ⟨S16384x32, .f32⟩
  | 35 => ⟨S16384x32, .f32⟩
  | 36 => ⟨S1x100000x32, .f32⟩
  | 37 => ⟨S100000x32, .f32⟩
  | 38 => ⟨S16384x1, .i32⟩
  | 39 => ⟨S16384, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x32, .f32⟩
  | 59 => ⟨S16384x32, .i1⟩
  | 60 => ⟨S_, .f32⟩
  | 61 => ⟨S16384x32, .f32⟩
  | 62 => ⟨S16384x32, .f32⟩
  | 63 => ⟨S1x100000x32, .f32⟩
  | 64 => ⟨S100000x32, .f32⟩
  | 65 => ⟨S16384x1, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x32, .f32⟩
  | 86 => ⟨S16384x32, .i1⟩
  | 87 => ⟨S_, .f32⟩
  | 88 => ⟨S16384x32, .f32⟩
  | 89 => ⟨S16384x32, .f32⟩
  | 90 => ⟨S1x100000x32, .f32⟩
  | 91 => ⟨S100000x32, .f32⟩
  | 92 => ⟨S16384x1, .i32⟩
  | 93 => ⟨S16384, .i32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x32, .f32⟩
  | 113 => ⟨S16384x32, .i1⟩
  | 114 => ⟨S_, .f32⟩
  | 115 => ⟨S16384x32, .f32⟩
  | 116 => ⟨S16384x32, .f32⟩
  | 117 => ⟨S1x100000x32, .f32⟩
  | 118 => ⟨S100000x32, .f32⟩
  | 119 => ⟨S16384x1, .i32⟩
  | 120 => ⟨S16384, .i32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S16384x26, .i32⟩

abbrev hbmTy0_2 (i : Nat) : BufTy := match i % 128 with
  | 0 => ⟨S16384x1, .i32⟩
  | 1 => ⟨S1, .i32⟩
  | 2 => ⟨S_, .i32⟩
  | 3 => ⟨S16384x1, .i32⟩
  | 4 => ⟨S16384x1, .i1⟩
  | 5 => ⟨S1x1, .i32⟩
  | 6 => ⟨S16384x1, .i32⟩
  | 7 => ⟨S16384x1, .i1⟩
  | 8 => ⟨S16384x1, .i1⟩
  | 9 => ⟨S_, .i1⟩
  | 10 => ⟨S16384, .i1⟩
  | 11 => ⟨S16384x32, .f32⟩
  | 12 => ⟨S16384x32, .i1⟩
  | 13 => ⟨S_, .f32⟩
  | 14 => ⟨S16384x32, .f32⟩
  | 15 => ⟨S16384x32, .f32⟩
  | 16 => ⟨S1x100000x32, .f32⟩
  | 17 => ⟨S100000x32, .f32⟩
  | 18 => ⟨S16384x1, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x32, .f32⟩
  | 39 => ⟨S16384x32, .i1⟩
  | 40 => ⟨S_, .f32⟩
  | 41 => ⟨S16384x32, .f32⟩
  | 42 => ⟨S16384x32, .f32⟩
  | 43 => ⟨S1x100000x32, .f32⟩
  | 44 => ⟨S100000x32, .f32⟩
  | 45 => ⟨S16384x1, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S16384x32, .f32⟩
  | 66 => ⟨S16384x32, .i1⟩
  | 67 => ⟨S_, .f32⟩
  | 68 => ⟨S16384x32, .f32⟩
  | 69 => ⟨S16384x32, .f32⟩
  | 70 => ⟨S1x100000x32, .f32⟩
  | 71 => ⟨S100000x32, .f32⟩
  | 72 => ⟨S16384x1, .i32⟩
  | 73 => ⟨S16384, .i32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S1, .i32⟩
  | 83 => ⟨S_, .i32⟩
  | 84 => ⟨S16384x1, .i32⟩
  | 85 => ⟨S16384x1, .i1⟩
  | 86 => ⟨S1x1, .i32⟩
  | 87 => ⟨S16384x1, .i32⟩
  | 88 => ⟨S16384x1, .i1⟩
  | 89 => ⟨S16384x1, .i1⟩
  | 90 => ⟨S_, .i1⟩
  | 91 => ⟨S16384, .i1⟩
  | 92 => ⟨S16384x32, .f32⟩
  | 93 => ⟨S16384x32, .i1⟩
  | 94 => ⟨S_, .f32⟩
  | 95 => ⟨S16384x32, .f32⟩
  | 96 => ⟨S16384x32, .f32⟩
  | 97 => ⟨S1x100000x32, .f32⟩
  | 98 => ⟨S100000x32, .f32⟩
  | 99 => ⟨S16384x1, .i32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x32, .f32⟩
  | 120 => ⟨S16384x32, .i1⟩
  | 121 => ⟨S_, .f32⟩
  | 122 => ⟨S16384x32, .f32⟩
  | 123 => ⟨S16384x32, .f32⟩
  | 124 => ⟨S1x100000x32, .f32⟩
  | 125 => ⟨S100000x32, .f32⟩
  | 126 => ⟨S16384x1, .i32⟩
  | 127 => ⟨S16384, .i32⟩
  | _ => ⟨S16384x26, .i32⟩

abbrev hbmTy0_3 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S1, .i32⟩
  | 9 => ⟨S_, .i32⟩
  | 10 => ⟨S16384x1, .i32⟩
  | 11 => ⟨S16384x1, .i1⟩
  | 12 => ⟨S1x1, .i32⟩
  | 13 => ⟨S16384x1, .i32⟩
  | 14 => ⟨S16384x1, .i1⟩
  | 15 => ⟨S16384x1, .i1⟩
  | 16 => ⟨S_, .i1⟩
  | 17 => ⟨S16384, .i1⟩
  | 18 => ⟨S16384x32, .f32⟩
  | 19 => ⟨S16384x32, .i1⟩
  | 20 => ⟨S_, .f32⟩
  | 21 => ⟨S16384x32, .f32⟩
  | 22 => ⟨S16384x32, .f32⟩
  | 23 => ⟨S1x100000x32, .f32⟩
  | 24 => ⟨S100000x32, .f32⟩
  | 25 => ⟨S16384x1, .i32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x32, .f32⟩
  | 46 => ⟨S16384x32, .i1⟩
  | 47 => ⟨S_, .f32⟩
  | 48 => ⟨S16384x32, .f32⟩
  | 49 => ⟨S16384x32, .f32⟩
  | 50 => ⟨S1x100000x32, .f32⟩
  | 51 => ⟨S100000x32, .f32⟩
  | 52 => ⟨S16384x1, .i32⟩
  | 53 => ⟨S16384, .i32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S1, .i32⟩
  | 63 => ⟨S_, .i32⟩
  | 64 => ⟨S16384x1, .i32⟩
  | 65 => ⟨S16384x1, .i1⟩
  | 66 => ⟨S1x1, .i32⟩
  | 67 => ⟨S16384x1, .i32⟩
  | 68 => ⟨S16384x1, .i1⟩
  | 69 => ⟨S16384x1, .i1⟩
  | 70 => ⟨S_, .i1⟩
  | 71 => ⟨S16384, .i1⟩
  | 72 => ⟨S16384x32, .f32⟩
  | 73 => ⟨S16384x32, .i1⟩
  | 74 => ⟨S_, .f32⟩
  | 75 => ⟨S16384x32, .f32⟩
  | 76 => ⟨S16384x32, .f32⟩
  | 77 => ⟨S1x100000x32, .f32⟩
  | 78 => ⟨S100000x32, .f32⟩
  | 79 => ⟨S16384x1, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x32, .f32⟩
  | 100 => ⟨S16384x32, .i1⟩
  | 101 => ⟨S_, .f32⟩
  | 102 => ⟨S16384x32, .f32⟩
  | 103 => ⟨S16384x32, .f32⟩
  | 104 => ⟨S1x100000x32, .f32⟩
  | 105 => ⟨S100000x32, .f32⟩
  | 106 => ⟨S16384x1, .i32⟩
  | 107 => ⟨S16384, .i32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S1, .i32⟩
  | 117 => ⟨S_, .i32⟩
  | 118 => ⟨S16384x1, .i32⟩
  | 119 => ⟨S16384x1, .i1⟩
  | 120 => ⟨S1x1, .i32⟩
  | 121 => ⟨S16384x1, .i32⟩
  | 122 => ⟨S16384x1, .i1⟩
  | 123 => ⟨S16384x1, .i1⟩
  | 124 => ⟨S_, .i1⟩
  | 125 => ⟨S16384, .i1⟩
  | 126 => ⟨S16384x32, .f32⟩
  | 127 => ⟨S16384x32, .i1⟩
  | _ => ⟨S16384x26, .i32⟩

abbrev hbmTy0_4 (i : Nat) : BufTy := match i % 128 with
  | 0 => ⟨S_, .f32⟩
  | 1 => ⟨S16384x32, .f32⟩
  | 2 => ⟨S16384x32, .f32⟩
  | 3 => ⟨S1x100000x32, .f32⟩
  | 4 => ⟨S100000x32, .f32⟩
  | 5 => ⟨S16384x1, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x32, .f32⟩
  | 26 => ⟨S16384x32, .i1⟩
  | 27 => ⟨S_, .f32⟩
  | 28 => ⟨S16384x32, .f32⟩
  | 29 => ⟨S16384x32, .f32⟩
  | 30 => ⟨S1x100000x32, .f32⟩
  | 31 => ⟨S100000x32, .f32⟩
  | 32 => ⟨S16384x1, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S1, .i32⟩
  | 43 => ⟨S_, .i32⟩
  | 44 => ⟨S16384x1, .i32⟩
  | 45 => ⟨S16384x1, .i1⟩
  | 46 => ⟨S1x1, .i32⟩
  | 47 => ⟨S16384x1, .i32⟩
  | 48 => ⟨S16384x1, .i1⟩
  | 49 => ⟨S16384x1, .i1⟩
  | 50 => ⟨S_, .i1⟩
  | 51 => ⟨S16384, .i1⟩
  | 52 => ⟨S16384x32, .f32⟩
  | 53 => ⟨S16384x32, .i1⟩
  | 54 => ⟨S_, .f32⟩
  | 55 => ⟨S16384x32, .f32⟩
  | 56 => ⟨S16384x32, .f32⟩
  | 57 => ⟨S1x100000x32, .f32⟩
  | 58 => ⟨S100000x32, .f32⟩
  | 59 => ⟨S16384x1, .i32⟩
  | 60 => ⟨S16384, .i32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S1, .i32⟩
  | 70 => ⟨S_, .i32⟩
  | 71 => ⟨S16384x1, .i32⟩
  | 72 => ⟨S16384x1, .i1⟩
  | 73 => ⟨S1x1, .i32⟩
  | 74 => ⟨S16384x1, .i32⟩
  | 75 => ⟨S16384x1, .i1⟩
  | 76 => ⟨S16384x1, .i1⟩
  | 77 => ⟨S_, .i1⟩
  | 78 => ⟨S16384, .i1⟩
  | 79 => ⟨S16384x32, .f32⟩
  | 80 => ⟨S16384x32, .i1⟩
  | 81 => ⟨S_, .f32⟩
  | 82 => ⟨S16384x32, .f32⟩
  | 83 => ⟨S16384x32, .f32⟩
  | 84 => ⟨S1x100000x32, .f32⟩
  | 85 => ⟨S100000x32, .f32⟩
  | 86 => ⟨S16384x1, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S1, .i32⟩
  | 97 => ⟨S_, .i32⟩
  | 98 => ⟨S16384x1, .i32⟩
  | 99 => ⟨S16384x1, .i1⟩
  | 100 => ⟨S1x1, .i32⟩
  | 101 => ⟨S16384x1, .i32⟩
  | 102 => ⟨S16384x1, .i1⟩
  | 103 => ⟨S16384x1, .i1⟩
  | 104 => ⟨S_, .i1⟩
  | 105 => ⟨S16384, .i1⟩
  | 106 => ⟨S16384x32, .f32⟩
  | 107 => ⟨S16384x32, .i1⟩
  | 108 => ⟨S_, .f32⟩
  | 109 => ⟨S16384x32, .f32⟩
  | 110 => ⟨S16384x32, .f32⟩
  | 111 => ⟨S1x100000x32, .f32⟩
  | 112 => ⟨S100000x32, .f32⟩
  | 113 => ⟨S16384x1, .i32⟩
  | 114 => ⟨S16384, .i32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S1, .i32⟩
  | 124 => ⟨S_, .i32⟩
  | 125 => ⟨S16384x1, .i32⟩
  | 126 => ⟨S16384x1, .i1⟩
  | 127 => ⟨S1x1, .i32⟩
  | _ => ⟨S16384x26, .i32⟩

abbrev hbmTy0_5 (i : Nat) : BufTy := match i % 128 with
  | 0 => ⟨S16384x1, .i32⟩
  | 1 => ⟨S16384x1, .i1⟩
  | 2 => ⟨S16384x1, .i1⟩
  | 3 => ⟨S_, .i1⟩
  | 4 => ⟨S16384, .i1⟩
  | 5 => ⟨S16384x32, .f32⟩
  | 6 => ⟨S16384x32, .i1⟩
  | 7 => ⟨S_, .f32⟩
  | 8 => ⟨S16384x32, .f32⟩
  | 9 => ⟨S16384x32, .f32⟩
  | 10 => ⟨S1x100000x32, .f32⟩
  | 11 => ⟨S100000x32, .f32⟩
  | 12 => ⟨S16384x1, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x32, .f32⟩
  | 33 => ⟨S16384x32, .i1⟩
  | 34 => ⟨S_, .f32⟩
  | 35 => ⟨S16384x32, .f32⟩
  | 36 => ⟨S16384x32, .f32⟩
  | 37 => ⟨S1x100000x32, .f32⟩
  | 38 => ⟨S100000x32, .f32⟩
  | 39 => ⟨S16384x1, .i32⟩
  | 40 => ⟨S16384, .i32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S1, .i32⟩
  | 50 => ⟨S_, .i32⟩
  | 51 => ⟨S16384x1, .i32⟩
  | 52 => ⟨S16384x1, .i1⟩
  | 53 => ⟨S1x1, .i32⟩
  | 54 => ⟨S16384x1, .i32⟩
  | 55 => ⟨S16384x1, .i1⟩
  | 56 => ⟨S16384x1, .i1⟩
  | 57 => ⟨S_, .i1⟩
  | 58 => ⟨S16384, .i1⟩
  | 59 => ⟨S16384x32, .f32⟩
  | 60 => ⟨S16384x32, .i1⟩
  | 61 => ⟨S_, .f32⟩
  | 62 => ⟨S16384x32, .f32⟩
  | 63 => ⟨S16384x32, .f32⟩
  | 64 => ⟨S16384x512, .f32⟩
  | 65 => ⟨S16384x320, .f32⟩
  | 66 => ⟨S16384x832, .f32⟩
  | _ => ⟨S16384x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_v14 : Ref sig .tc := ⟨.hbm, 160, rfl⟩
abbrev main_call5_cst : Ref sig .tc := ⟨.hbm, 161, rfl⟩
abbrev main_call5_v15 : Ref sig .tc := ⟨.hbm, 162, rfl⟩
abbrev main_v29 : Ref sig .tc := ⟨.hbm, 163, rfl⟩
abbrev main_v30 : Ref sig .tc := ⟨.hbm, 164, rfl⟩
abbrev main_v31 : Ref sig .tc := ⟨.hbm, 165, rfl⟩
abbrev main_v32 : Ref sig .tc := ⟨.hbm, 166, rfl⟩
abbrev main_v33 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_call7_c : Ref sig .tc := ⟨.hbm, 195, rfl⟩
abbrev main_call7_v0 : Ref sig .tc := ⟨.hbm, 196, rfl⟩
abbrev main_call7_v1 : Ref sig .tc := ⟨.hbm, 197, rfl⟩
abbrev main_call7_c_0 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_c_1 : Ref sig .tc := ⟨.hbm, 203, rfl⟩
abbrev main_call7_c_2 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_v9 : Ref sig .tc := ⟨.hbm, 208, rfl⟩
abbrev main_call7_v10 : Ref sig .tc := ⟨.hbm, 209, rfl⟩
abbrev main_call7_v11 : Ref sig .tc := ⟨.hbm, 210, rfl⟩
abbrev main_call7_c_3 : Ref sig .tc := ⟨.hbm, 211, rfl⟩
abbrev main_call7_v12 : Ref sig .tc := ⟨.hbm, 212, rfl⟩
abbrev main_call7_v13 : Ref sig .tc := ⟨.hbm, 213, rfl⟩
abbrev main_call7_v14 : Ref sig .tc := ⟨.hbm, 214, rfl⟩
abbrev main_call7_cst : Ref sig .tc := ⟨.hbm, 215, rfl⟩
abbrev main_call7_v15 : Ref sig .tc := ⟨.hbm, 216, rfl⟩
abbrev main_v39 : Ref sig .tc := ⟨.hbm, 217, rfl⟩
abbrev main_v40 : Ref sig .tc := ⟨.hbm, 218, rfl⟩
abbrev main_v41 : Ref sig .tc := ⟨.hbm, 219, rfl⟩
abbrev main_v42 : Ref sig .tc := ⟨.hbm, 220, rfl⟩
abbrev main_v43 : Ref sig .tc := ⟨.hbm, 221, rfl⟩
abbrev main_call8_c : Ref sig .tc := ⟨.hbm, 222, rfl⟩
abbrev main_call8_v0 : Ref sig .tc := ⟨.hbm, 223, rfl⟩
abbrev main_call8_v1 : Ref sig .tc := ⟨.hbm, 224, rfl⟩
abbrev main_call8_c_0 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_call8_v5 : Ref sig .tc := ⟨.hbm, 229, rfl⟩
abbrev main_call8_c_1 : Ref sig .tc := ⟨.hbm, 230, rfl⟩
abbrev main_call8_c_2 : Ref sig .tc := ⟨.hbm, 231, rfl⟩
abbrev main_call8_v6 : Ref sig .tc := ⟨.hbm, 232, rfl⟩
abbrev main_call8_v7 : Ref sig .tc := ⟨.hbm, 233, rfl⟩
abbrev main_call8_v8 : Ref sig .tc := ⟨.hbm, 234, rfl⟩
abbrev main_call8_v9 : Ref sig .tc := ⟨.hbm, 235, rfl⟩
abbrev main_call8_v10 : Ref sig .tc := ⟨.hbm, 236, rfl⟩
abbrev main_call8_v11 : Ref sig .tc := ⟨.hbm, 237, rfl⟩
abbrev main_call8_c_3 : Ref sig .tc := ⟨.hbm, 238, rfl⟩
abbrev main_call8_v12 : Ref sig .tc := ⟨.hbm, 239, rfl⟩
abbrev main_call8_v13 : Ref sig .tc := ⟨.hbm, 240, rfl⟩
abbrev main_call8_v14 : Ref sig .tc := ⟨.hbm, 241, rfl⟩
abbrev main_call8_cst : Ref sig .tc := ⟨.hbm, 242, rfl⟩
abbrev main_call8_v15 : Ref sig .tc := ⟨.hbm, 243, rfl⟩
abbrev main_v44 : Ref sig .tc := ⟨.hbm, 244, rfl⟩
abbrev main_v45 : Ref sig .tc := ⟨.hbm, 245, rfl⟩
abbrev main_v46 : Ref sig .tc := ⟨.hbm, 246, rfl⟩
abbrev main_v47 : Ref sig .tc := ⟨.hbm, 247, rfl⟩
abbrev main_v48 : Ref sig .tc := ⟨.hbm, 248, rfl⟩
abbrev main_call9_c : Ref sig .tc := ⟨.hbm, 249, rfl⟩
abbrev main_call9_v0 : Ref sig .tc := ⟨.hbm, 250, rfl⟩
abbrev main_call9_v1 : Ref sig .tc := ⟨.hbm, 251, rfl⟩
abbrev main_call9_c_0 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_call9_v5 : Ref sig .tc := ⟨.hbm, 256, rfl⟩
abbrev main_call9_c_1 : Ref sig .tc := ⟨.hbm, 257, rfl⟩
abbrev main_call9_c_2 : Ref sig .tc := ⟨.hbm, 258, rfl⟩
abbrev main_call9_v6 : Ref sig .tc := ⟨.hbm, 259, rfl⟩
abbrev main_call9_v7 : Ref sig .tc := ⟨.hbm, 260, rfl⟩
abbrev main_call9_v8 : Ref sig .tc := ⟨.hbm, 261, rfl⟩
abbrev main_call9_v9 : Ref sig .tc := ⟨.hbm, 262, rfl⟩
abbrev main_call9_v10 : Ref sig .tc := ⟨.hbm, 263, rfl⟩
abbrev main_call9_v11 : Ref sig .tc := ⟨.hbm, 264, rfl⟩
abbrev main_call9_c_3 : Ref sig .tc := ⟨.hbm, 265, rfl⟩
abbrev main_call9_v12 : Ref sig .tc := ⟨.hbm, 266, rfl⟩
abbrev main_call9_v13 : Ref sig .tc := ⟨.hbm, 267, rfl⟩
abbrev main_call9_v14 : Ref sig .tc := ⟨.hbm, 268, rfl⟩
abbrev main_call9_cst : Ref sig .tc := ⟨.hbm, 269, rfl⟩
abbrev main_call9_v15 : Ref sig .tc := ⟨.hbm, 270, rfl⟩
abbrev main_v49 : Ref sig .tc := ⟨.hbm, 271, rfl⟩
abbrev main_v50 : Ref sig .tc := ⟨.hbm, 272, rfl⟩
abbrev main_v51 : Ref sig .tc := ⟨.hbm, 273, rfl⟩
abbrev main_v52 : Ref sig .tc := ⟨.hbm, 274, rfl⟩
abbrev main_v53 : Ref sig .tc := ⟨.hbm, 275, rfl⟩
abbrev main_call10_c : Ref sig .tc := ⟨.hbm, 276, rfl⟩
abbrev main_call10_v0 : Ref sig .tc := ⟨.hbm, 277, rfl⟩
abbrev main_call10_v1 : Ref sig .tc := ⟨.hbm, 278, rfl⟩
abbrev main_call10_c_0 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_call10_v5 : Ref sig .tc := ⟨.hbm, 283, rfl⟩
abbrev main_call10_c_1 : Ref sig .tc := ⟨.hbm, 284, rfl⟩
abbrev main_call10_c_2 : Ref sig .tc := ⟨.hbm, 285, rfl⟩
abbrev main_call10_v6 : Ref sig .tc := ⟨.hbm, 286, rfl⟩
abbrev main_call10_v7 : Ref sig .tc := ⟨.hbm, 287, rfl⟩
abbrev main_call10_v8 : Ref sig .tc := ⟨.hbm, 288, rfl⟩
abbrev main_call10_v9 : Ref sig .tc := ⟨.hbm, 289, rfl⟩
abbrev main_call10_v10 : Ref sig .tc := ⟨.hbm, 290, rfl⟩
abbrev main_call10_v11 : Ref sig .tc := ⟨.hbm, 291, rfl⟩
abbrev main_call10_c_3 : Ref sig .tc := ⟨.hbm, 292, rfl⟩
abbrev main_call10_v12 : Ref sig .tc := ⟨.hbm, 293, rfl⟩
abbrev main_call10_v13 : Ref sig .tc := ⟨.hbm, 294, rfl⟩
abbrev main_call10_v14 : Ref sig .tc := ⟨.hbm, 295, rfl⟩
abbrev main_call10_cst : Ref sig .tc := ⟨.hbm, 296, rfl⟩
abbrev main_call10_v15 : Ref sig .tc := ⟨.hbm, 297, rfl⟩
abbrev main_v54 : Ref sig .tc := ⟨.hbm, 298, rfl⟩
abbrev main_v55 : Ref sig .tc := ⟨.hbm, 299, rfl⟩
abbrev main_v56 : Ref sig .tc := ⟨.hbm, 300, rfl⟩
abbrev main_v57 : Ref sig .tc := ⟨.hbm, 301, rfl⟩
abbrev main_v58 : Ref sig .tc := ⟨.hbm, 302, rfl⟩
abbrev main_call11_c : Ref sig .tc := ⟨.hbm, 303, rfl⟩
abbrev main_call11_v0 : Ref sig .tc := ⟨.hbm, 304, rfl⟩
abbrev main_call11_v1 : Ref sig .tc := ⟨.hbm, 305, rfl⟩
abbrev main_call11_c_0 : Ref sig .tc := ⟨.hbm, 306, rfl⟩
abbrev main_call11_v2 : Ref sig .tc := ⟨.hbm, 307, rfl⟩
abbrev main_call11_v3 : Ref sig .tc := ⟨.hbm, 308, rfl⟩
abbrev main_call11_v4 : Ref sig .tc := ⟨.hbm, 309, rfl⟩
abbrev main_call11_v5 : Ref sig .tc := ⟨.hbm, 310, rfl⟩
abbrev main_call11_c_1 : Ref sig .tc := ⟨.hbm, 311, rfl⟩
abbrev main_call11_c_2 : Ref sig .tc := ⟨.hbm, 312, rfl⟩
abbrev main_call11_v6 : Ref sig .tc := ⟨.hbm, 313, rfl⟩
abbrev main_call11_v7 : Ref sig .tc := ⟨.hbm, 314, rfl⟩
abbrev main_call11_v8 : Ref sig .tc := ⟨.hbm, 315, rfl⟩
abbrev main_call11_v9 : Ref sig .tc := ⟨.hbm, 316, rfl⟩
abbrev main_call11_v10 : Ref sig .tc := ⟨.hbm, 317, rfl⟩
abbrev main_call11_v11 : Ref sig .tc := ⟨.hbm, 318, rfl⟩
abbrev main_call11_c_3 : Ref sig .tc := ⟨.hbm, 319, rfl⟩
abbrev main_call11_v12 : Ref sig .tc := ⟨.hbm, 320, rfl⟩
abbrev main_call11_v13 : Ref sig .tc := ⟨.hbm, 321, rfl⟩
abbrev main_call11_v14 : Ref sig .tc := ⟨.hbm, 322, rfl⟩
abbrev main_call11_cst : Ref sig .tc := ⟨.hbm, 323, rfl⟩
abbrev main_call11_v15 : Ref sig .tc := ⟨.hbm, 324, rfl⟩
abbrev main_v59 : Ref sig .tc := ⟨.hbm, 325, rfl⟩
abbrev main_v60 : Ref sig .tc := ⟨.hbm, 326, rfl⟩
abbrev main_v61 : Ref sig .tc := ⟨.hbm, 327, rfl⟩
abbrev main_v62 : Ref sig .tc := ⟨.hbm, 328, rfl⟩
abbrev main_v63 : Ref sig .tc := ⟨.hbm, 329, rfl⟩
abbrev main_call12_c : Ref sig .tc := ⟨.hbm, 330, rfl⟩
abbrev main_call12_v0 : Ref sig .tc := ⟨.hbm, 331, rfl⟩
abbrev main_call12_v1 : Ref sig .tc := ⟨.hbm, 332, rfl⟩
abbrev main_call12_c_0 : Ref sig .tc := ⟨.hbm, 333, rfl⟩
abbrev main_call12_v2 : Ref sig .tc := ⟨.hbm, 334, rfl⟩
abbrev main_call12_v3 : Ref sig .tc := ⟨.hbm, 335, rfl⟩
abbrev main_call12_v4 : Ref sig .tc := ⟨.hbm, 336, rfl⟩
abbrev main_call12_v5 : Ref sig .tc := ⟨.hbm, 337, rfl⟩
abbrev main_call12_c_1 : Ref sig .tc := ⟨.hbm, 338, rfl⟩
abbrev main_call12_c_2 : Ref sig .tc := ⟨.hbm, 339, rfl⟩
abbrev main_call12_v6 : Ref sig .tc := ⟨.hbm, 340, rfl⟩
abbrev main_call12_v7 : Ref sig .tc := ⟨.hbm, 341, rfl⟩
abbrev main_call12_v8 : Ref sig .tc := ⟨.hbm, 342, rfl⟩
abbrev main_call12_v9 : Ref sig .tc := ⟨.hbm, 343, rfl⟩
abbrev main_call12_v10 : Ref sig .tc := ⟨.hbm, 344, rfl⟩
abbrev main_call12_v11 : Ref sig .tc := ⟨.hbm, 345, rfl⟩
abbrev main_call12_c_3 : Ref sig .tc := ⟨.hbm, 346, rfl⟩
abbrev main_call12_v12 : Ref sig .tc := ⟨.hbm, 347, rfl⟩
abbrev main_call12_v13 : Ref sig .tc := ⟨.hbm, 348, rfl⟩
abbrev main_call12_v14 : Ref sig .tc := ⟨.hbm, 349, rfl⟩
abbrev main_call12_cst : Ref sig .tc := ⟨.hbm, 350, rfl⟩
abbrev main_call12_v15 : Ref sig .tc := ⟨.hbm, 351, rfl⟩
abbrev main_v64 : Ref sig .tc := ⟨.hbm, 352, rfl⟩
abbrev main_v65 : Ref sig .tc := ⟨.hbm, 353, rfl⟩
abbrev main_v66 : Ref sig .tc := ⟨.hbm, 354, rfl⟩
abbrev main_v67 : Ref sig .tc := ⟨.hbm, 355, rfl⟩
abbrev main_v68 : Ref sig .tc := ⟨.hbm, 356, rfl⟩
abbrev main_call13_c : Ref sig .tc := ⟨.hbm, 357, rfl⟩
abbrev main_call13_v0 : Ref sig .tc := ⟨.hbm, 358, rfl⟩
abbrev main_call13_v1 : Ref sig .tc := ⟨.hbm, 359, rfl⟩
abbrev main_call13_c_0 : Ref sig .tc := ⟨.hbm, 360, rfl⟩
abbrev main_call13_v2 : Ref sig .tc := ⟨.hbm, 361, rfl⟩
abbrev main_call13_v3 : Ref sig .tc := ⟨.hbm, 362, rfl⟩
abbrev main_call13_v4 : Ref sig .tc := ⟨.hbm, 363, rfl⟩
abbrev main_call13_v5 : Ref sig .tc := ⟨.hbm, 364, rfl⟩
abbrev main_call13_c_1 : Ref sig .tc := ⟨.hbm, 365, rfl⟩
abbrev main_call13_c_2 : Ref sig .tc := ⟨.hbm, 366, rfl⟩
abbrev main_call13_v6 : Ref sig .tc := ⟨.hbm, 367, rfl⟩
abbrev main_call13_v7 : Ref sig .tc := ⟨.hbm, 368, rfl⟩
abbrev main_call13_v8 : Ref sig .tc := ⟨.hbm, 369, rfl⟩
abbrev main_call13_v9 : Ref sig .tc := ⟨.hbm, 370, rfl⟩
abbrev main_call13_v10 : Ref sig .tc := ⟨.hbm, 371, rfl⟩
abbrev main_call13_v11 : Ref sig .tc := ⟨.hbm, 372, rfl⟩
abbrev main_call13_c_3 : Ref sig .tc := ⟨.hbm, 373, rfl⟩
abbrev main_call13_v12 : Ref sig .tc := ⟨.hbm, 374, rfl⟩
abbrev main_call13_v13 : Ref sig .tc := ⟨.hbm, 375, rfl⟩
abbrev main_call13_v14 : Ref sig .tc := ⟨.hbm, 376, rfl⟩
abbrev main_call13_cst : Ref sig .tc := ⟨.hbm, 377, rfl⟩
abbrev main_call13_v15 : Ref sig .tc := ⟨.hbm, 378, rfl⟩
abbrev main_v69 : Ref sig .tc := ⟨.hbm, 379, rfl⟩
abbrev main_v70 : Ref sig .tc := ⟨.hbm, 380, rfl⟩
abbrev main_v71 : Ref sig .tc := ⟨.hbm, 381, rfl⟩
abbrev main_v72 : Ref sig .tc := ⟨.hbm, 382, rfl⟩
abbrev main_v73 : Ref sig .tc := ⟨.hbm, 383, rfl⟩
abbrev main_call14_c : Ref sig .tc := ⟨.hbm, 384, rfl⟩
abbrev main_call14_v0 : Ref sig .tc := ⟨.hbm, 385, rfl⟩
abbrev main_call14_v1 : Ref sig .tc := ⟨.hbm, 386, rfl⟩
abbrev main_call14_c_0 : Ref sig .tc := ⟨.hbm, 387, rfl⟩
abbrev main_call14_v2 : Ref sig .tc := ⟨.hbm, 388, rfl⟩
abbrev main_call14_v3 : Ref sig .tc := ⟨.hbm, 389, rfl⟩
abbrev main_call14_v4 : Ref sig .tc := ⟨.hbm, 390, rfl⟩
abbrev main_call14_v5 : Ref sig .tc := ⟨.hbm, 391, rfl⟩
abbrev main_call14_c_1 : Ref sig .tc := ⟨.hbm, 392, rfl⟩
abbrev main_call14_c_2 : Ref sig .tc := ⟨.hbm, 393, rfl⟩
abbrev main_call14_v6 : Ref sig .tc := ⟨.hbm, 394, rfl⟩
abbrev main_call14_v7 : Ref sig .tc := ⟨.hbm, 395, rfl⟩
abbrev main_call14_v8 : Ref sig .tc := ⟨.hbm, 396, rfl⟩
abbrev main_call14_v9 : Ref sig .tc := ⟨.hbm, 397, rfl⟩
abbrev main_call14_v10 : Ref sig .tc := ⟨.hbm, 398, rfl⟩
abbrev main_call14_v11 : Ref sig .tc := ⟨.hbm, 399, rfl⟩
abbrev main_call14_c_3 : Ref sig .tc := ⟨.hbm, 400, rfl⟩
abbrev main_call14_v12 : Ref sig .tc := ⟨.hbm, 401, rfl⟩
abbrev main_call14_v13 : Ref sig .tc := ⟨.hbm, 402, rfl⟩
abbrev main_call14_v14 : Ref sig .tc := ⟨.hbm, 403, rfl⟩
abbrev main_call14_cst : Ref sig .tc := ⟨.hbm, 404, rfl⟩
abbrev main_call14_v15 : Ref sig .tc := ⟨.hbm, 405, rfl⟩
abbrev main_v74 : Ref sig .tc := ⟨.hbm, 406, rfl⟩
abbrev main_v75 : Ref sig .tc := ⟨.hbm, 407, rfl⟩
abbrev main_v76 : Ref sig .tc := ⟨.hbm, 408, rfl⟩
abbrev main_v77 : Ref sig .tc := ⟨.hbm, 409, rfl⟩
abbrev main_v78 : Ref sig .tc := ⟨.hbm, 410, rfl⟩
abbrev main_call15_c : Ref sig .tc := ⟨.hbm, 411, rfl⟩
abbrev main_call15_v0 : Ref sig .tc := ⟨.hbm, 412, rfl⟩
abbrev main_call15_v1 : Ref sig .tc := ⟨.hbm, 413, rfl⟩
abbrev main_call15_c_0 : Ref sig .tc := ⟨.hbm, 414, rfl⟩
abbrev main_call15_v2 : Ref sig .tc := ⟨.hbm, 415, rfl⟩
abbrev main_call15_v3 : Ref sig .tc := ⟨.hbm, 416, rfl⟩
abbrev main_call15_v4 : Ref sig .tc := ⟨.hbm, 417, rfl⟩
abbrev main_call15_v5 : Ref sig .tc := ⟨.hbm, 418, rfl⟩
abbrev main_call15_c_1 : Ref sig .tc := ⟨.hbm, 419, rfl⟩
abbrev main_call15_c_2 : Ref sig .tc := ⟨.hbm, 420, rfl⟩
abbrev main_call15_v6 : Ref sig .tc := ⟨.hbm, 421, rfl⟩
abbrev main_call15_v7 : Ref sig .tc := ⟨.hbm, 422, rfl⟩
abbrev main_call15_v8 : Ref sig .tc := ⟨.hbm, 423, rfl⟩
abbrev main_call15_v9 : Ref sig .tc := ⟨.hbm, 424, rfl⟩
abbrev main_call15_v10 : Ref sig .tc := ⟨.hbm, 425, rfl⟩
abbrev main_call15_v11 : Ref sig .tc := ⟨.hbm, 426, rfl⟩
abbrev main_call15_c_3 : Ref sig .tc := ⟨.hbm, 427, rfl⟩
abbrev main_call15_v12 : Ref sig .tc := ⟨.hbm, 428, rfl⟩
abbrev main_call15_v13 : Ref sig .tc := ⟨.hbm, 429, rfl⟩
abbrev main_call15_v14 : Ref sig .tc := ⟨.hbm, 430, rfl⟩
abbrev main_call15_cst : Ref sig .tc := ⟨.hbm, 431, rfl⟩
abbrev main_call15_v15 : Ref sig .tc := ⟨.hbm, 432, rfl⟩
abbrev main_v79 : Ref sig .tc := ⟨.hbm, 433, rfl⟩
abbrev main_v80 : Ref sig .tc := ⟨.hbm, 434, rfl⟩
abbrev main_v81 : Ref sig .tc := ⟨.hbm, 435, rfl⟩
abbrev main_v82 : Ref sig .tc := ⟨.hbm, 436, rfl⟩
abbrev main_v83 : Ref sig .tc := ⟨.hbm, 437, rfl⟩
abbrev main_call16_c : Ref sig .tc := ⟨.hbm, 438, rfl⟩
abbrev main_call16_v0 : Ref sig .tc := ⟨.hbm, 439, rfl⟩
abbrev main_call16_v1 : Ref sig .tc := ⟨.hbm, 440, rfl⟩
abbrev main_call16_c_0 : Ref sig .tc := ⟨.hbm, 441, rfl⟩
abbrev main_call16_v2 : Ref sig .tc := ⟨.hbm, 442, rfl⟩
abbrev main_call16_v3 : Ref sig .tc := ⟨.hbm, 443, rfl⟩
abbrev main_call16_v4 : Ref sig .tc := ⟨.hbm, 444, rfl⟩
abbrev main_call16_v5 : Ref sig .tc := ⟨.hbm, 445, rfl⟩
abbrev main_call16_c_1 : Ref sig .tc := ⟨.hbm, 446, rfl⟩
abbrev main_call16_c_2 : Ref sig .tc := ⟨.hbm, 447, rfl⟩
abbrev main_call16_v6 : Ref sig .tc := ⟨.hbm, 448, rfl⟩
abbrev main_call16_v7 : Ref sig .tc := ⟨.hbm, 449, rfl⟩
abbrev main_call16_v8 : Ref sig .tc := ⟨.hbm, 450, rfl⟩
abbrev main_call16_v9 : Ref sig .tc := ⟨.hbm, 451, rfl⟩
abbrev main_call16_v10 : Ref sig .tc := ⟨.hbm, 452, rfl⟩
abbrev main_call16_v11 : Ref sig .tc := ⟨.hbm, 453, rfl⟩
abbrev main_call16_c_3 : Ref sig .tc := ⟨.hbm, 454, rfl⟩
abbrev main_call16_v12 : Ref sig .tc := ⟨.hbm, 455, rfl⟩
abbrev main_call16_v13 : Ref sig .tc := ⟨.hbm, 456, rfl⟩
abbrev main_call16_v14 : Ref sig .tc := ⟨.hbm, 457, rfl⟩
abbrev main_call16_cst : Ref sig .tc := ⟨.hbm, 458, rfl⟩
abbrev main_call16_v15 : Ref sig .tc := ⟨.hbm, 459, rfl⟩
abbrev main_v84 : Ref sig .tc := ⟨.hbm, 460, rfl⟩
abbrev main_v85 : Ref sig .tc := ⟨.hbm, 461, rfl⟩
abbrev main_v86 : Ref sig .tc := ⟨.hbm, 462, rfl⟩
abbrev main_v87 : Ref sig .tc := ⟨.hbm, 463, rfl⟩
abbrev main_v88 : Ref sig .tc := ⟨.hbm, 464, rfl⟩
abbrev main_call17_c : Ref sig .tc := ⟨.hbm, 465, rfl⟩
abbrev main_call17_v0 : Ref sig .tc := ⟨.hbm, 466, rfl⟩
abbrev main_call17_v1 : Ref sig .tc := ⟨.hbm, 467, rfl⟩
abbrev main_call17_c_0 : Ref sig .tc := ⟨.hbm, 468, rfl⟩
abbrev main_call17_v2 : Ref sig .tc := ⟨.hbm, 469, rfl⟩
abbrev main_call17_v3 : Ref sig .tc := ⟨.hbm, 470, rfl⟩
abbrev main_call17_v4 : Ref sig .tc := ⟨.hbm, 471, rfl⟩
abbrev main_call17_v5 : Ref sig .tc := ⟨.hbm, 472, rfl⟩
abbrev main_call17_c_1 : Ref sig .tc := ⟨.hbm, 473, rfl⟩
abbrev main_call17_c_2 : Ref sig .tc := ⟨.hbm, 474, rfl⟩
abbrev main_call17_v6 : Ref sig .tc := ⟨.hbm, 475, rfl⟩
abbrev main_call17_v7 : Ref sig .tc := ⟨.hbm, 476, rfl⟩
abbrev main_call17_v8 : Ref sig .tc := ⟨.hbm, 477, rfl⟩
abbrev main_call17_v9 : Ref sig .tc := ⟨.hbm, 478, rfl⟩
abbrev main_call17_v10 : Ref sig .tc := ⟨.hbm, 479, rfl⟩
abbrev main_call17_v11 : Ref sig .tc := ⟨.hbm, 480, rfl⟩
abbrev main_call17_c_3 : Ref sig .tc := ⟨.hbm, 481, rfl⟩
abbrev main_call17_v12 : Ref sig .tc := ⟨.hbm, 482, rfl⟩
abbrev main_call17_v13 : Ref sig .tc := ⟨.hbm, 483, rfl⟩
abbrev main_call17_v14 : Ref sig .tc := ⟨.hbm, 484, rfl⟩
abbrev main_call17_cst : Ref sig .tc := ⟨.hbm, 485, rfl⟩
abbrev main_call17_v15 : Ref sig .tc := ⟨.hbm, 486, rfl⟩
abbrev main_v89 : Ref sig .tc := ⟨.hbm, 487, rfl⟩
abbrev main_v90 : Ref sig .tc := ⟨.hbm, 488, rfl⟩
abbrev main_v91 : Ref sig .tc := ⟨.hbm, 489, rfl⟩
abbrev main_v92 : Ref sig .tc := ⟨.hbm, 490, rfl⟩
abbrev main_v93 : Ref sig .tc := ⟨.hbm, 491, rfl⟩
abbrev main_call18_c : Ref sig .tc := ⟨.hbm, 492, rfl⟩
abbrev main_call18_v0 : Ref sig .tc := ⟨.hbm, 493, rfl⟩
abbrev main_call18_v1 : Ref sig .tc := ⟨.hbm, 494, rfl⟩
abbrev main_call18_c_0 : Ref sig .tc := ⟨.hbm, 495, rfl⟩
abbrev main_call18_v2 : Ref sig .tc := ⟨.hbm, 496, rfl⟩
abbrev main_call18_v3 : Ref sig .tc := ⟨.hbm, 497, rfl⟩
abbrev main_call18_v4 : Ref sig .tc := ⟨.hbm, 498, rfl⟩
abbrev main_call18_v5 : Ref sig .tc := ⟨.hbm, 499, rfl⟩
abbrev main_call18_c_1 : Ref sig .tc := ⟨.hbm, 500, rfl⟩
abbrev main_call18_c_2 : Ref sig .tc := ⟨.hbm, 501, rfl⟩
abbrev main_call18_v6 : Ref sig .tc := ⟨.hbm, 502, rfl⟩
abbrev main_call18_v7 : Ref sig .tc := ⟨.hbm, 503, rfl⟩
abbrev main_call18_v8 : Ref sig .tc := ⟨.hbm, 504, rfl⟩
abbrev main_call18_v9 : Ref sig .tc := ⟨.hbm, 505, rfl⟩
abbrev main_call18_v10 : Ref sig .tc := ⟨.hbm, 506, rfl⟩
abbrev main_call18_v11 : Ref sig .tc := ⟨.hbm, 507, rfl⟩
abbrev main_call18_c_3 : Ref sig .tc := ⟨.hbm, 508, rfl⟩
abbrev main_call18_v12 : Ref sig .tc := ⟨.hbm, 509, rfl⟩
abbrev main_call18_v13 : Ref sig .tc := ⟨.hbm, 510, rfl⟩
abbrev main_call18_v14 : Ref sig .tc := ⟨.hbm, 511, rfl⟩
abbrev main_call18_cst : Ref sig .tc := ⟨.hbm, 512, rfl⟩
abbrev main_call18_v15 : Ref sig .tc := ⟨.hbm, 513, rfl⟩
abbrev main_v94 : Ref sig .tc := ⟨.hbm, 514, rfl⟩
abbrev main_v95 : Ref sig .tc := ⟨.hbm, 515, rfl⟩
abbrev main_v96 : Ref sig .tc := ⟨.hbm, 516, rfl⟩
abbrev main_v97 : Ref sig .tc := ⟨.hbm, 517, rfl⟩
abbrev main_v98 : Ref sig .tc := ⟨.hbm, 518, rfl⟩
abbrev main_call19_c : Ref sig .tc := ⟨.hbm, 519, rfl⟩
abbrev main_call19_v0 : Ref sig .tc := ⟨.hbm, 520, rfl⟩
abbrev main_call19_v1 : Ref sig .tc := ⟨.hbm, 521, rfl⟩
abbrev main_call19_c_0 : Ref sig .tc := ⟨.hbm, 522, rfl⟩
abbrev main_call19_v2 : Ref sig .tc := ⟨.hbm, 523, rfl⟩
abbrev main_call19_v3 : Ref sig .tc := ⟨.hbm, 524, rfl⟩
abbrev main_call19_v4 : Ref sig .tc := ⟨.hbm, 525, rfl⟩
abbrev main_call19_v5 : Ref sig .tc := ⟨.hbm, 526, rfl⟩
abbrev main_call19_c_1 : Ref sig .tc := ⟨.hbm, 527, rfl⟩
abbrev main_call19_c_2 : Ref sig .tc := ⟨.hbm, 528, rfl⟩
abbrev main_call19_v6 : Ref sig .tc := ⟨.hbm, 529, rfl⟩
abbrev main_call19_v7 : Ref sig .tc := ⟨.hbm, 530, rfl⟩
abbrev main_call19_v8 : Ref sig .tc := ⟨.hbm, 531, rfl⟩
abbrev main_call19_v9 : Ref sig .tc := ⟨.hbm, 532, rfl⟩
abbrev main_call19_v10 : Ref sig .tc := ⟨.hbm, 533, rfl⟩
abbrev main_call19_v11 : Ref sig .tc := ⟨.hbm, 534, rfl⟩
abbrev main_call19_c_3 : Ref sig .tc := ⟨.hbm, 535, rfl⟩
abbrev main_call19_v12 : Ref sig .tc := ⟨.hbm, 536, rfl⟩
abbrev main_call19_v13 : Ref sig .tc := ⟨.hbm, 537, rfl⟩
abbrev main_call19_v14 : Ref sig .tc := ⟨.hbm, 538, rfl⟩
abbrev main_call19_cst : Ref sig .tc := ⟨.hbm, 539, rfl⟩
abbrev main_call19_v15 : Ref sig .tc := ⟨.hbm, 540, rfl⟩
abbrev main_v99 : Ref sig .tc := ⟨.hbm, 541, rfl⟩
abbrev main_v100 : Ref sig .tc := ⟨.hbm, 542, rfl⟩
abbrev main_v101 : Ref sig .tc := ⟨.hbm, 543, rfl⟩
abbrev main_v102 : Ref sig .tc := ⟨.hbm, 544, rfl⟩
abbrev main_v103 : Ref sig .tc := ⟨.hbm, 545, rfl⟩
abbrev main_call20_c : Ref sig .tc := ⟨.hbm, 546, rfl⟩
abbrev main_call20_v0 : Ref sig .tc := ⟨.hbm, 547, rfl⟩
abbrev main_call20_v1 : Ref sig .tc := ⟨.hbm, 548, rfl⟩
abbrev main_call20_c_0 : Ref sig .tc := ⟨.hbm, 549, rfl⟩
abbrev main_call20_v2 : Ref sig .tc := ⟨.hbm, 550, rfl⟩
abbrev main_call20_v3 : Ref sig .tc := ⟨.hbm, 551, rfl⟩
abbrev main_call20_v4 : Ref sig .tc := ⟨.hbm, 552, rfl⟩
abbrev main_call20_v5 : Ref sig .tc := ⟨.hbm, 553, rfl⟩
abbrev main_call20_c_1 : Ref sig .tc := ⟨.hbm, 554, rfl⟩
abbrev main_call20_c_2 : Ref sig .tc := ⟨.hbm, 555, rfl⟩
abbrev main_call20_v6 : Ref sig .tc := ⟨.hbm, 556, rfl⟩
abbrev main_call20_v7 : Ref sig .tc := ⟨.hbm, 557, rfl⟩
abbrev main_call20_v8 : Ref sig .tc := ⟨.hbm, 558, rfl⟩
abbrev main_call20_v9 : Ref sig .tc := ⟨.hbm, 559, rfl⟩
abbrev main_call20_v10 : Ref sig .tc := ⟨.hbm, 560, rfl⟩
abbrev main_call20_v11 : Ref sig .tc := ⟨.hbm, 561, rfl⟩
abbrev main_call20_c_3 : Ref sig .tc := ⟨.hbm, 562, rfl⟩
abbrev main_call20_v12 : Ref sig .tc := ⟨.hbm, 563, rfl⟩
abbrev main_call20_v13 : Ref sig .tc := ⟨.hbm, 564, rfl⟩
abbrev main_call20_v14 : Ref sig .tc := ⟨.hbm, 565, rfl⟩
abbrev main_call20_cst : Ref sig .tc := ⟨.hbm, 566, rfl⟩
abbrev main_call20_v15 : Ref sig .tc := ⟨.hbm, 567, rfl⟩
abbrev main_v104 : Ref sig .tc := ⟨.hbm, 568, rfl⟩
abbrev main_v105 : Ref sig .tc := ⟨.hbm, 569, rfl⟩
abbrev main_v106 : Ref sig .tc := ⟨.hbm, 570, rfl⟩
abbrev main_v107 : Ref sig .tc := ⟨.hbm, 571, rfl⟩
abbrev main_v108 : Ref sig .tc := ⟨.hbm, 572, rfl⟩
abbrev main_call21_c : Ref sig .tc := ⟨.hbm, 573, rfl⟩
abbrev main_call21_v0 : Ref sig .tc := ⟨.hbm, 574, rfl⟩
abbrev main_call21_v1 : Ref sig .tc := ⟨.hbm, 575, rfl⟩
abbrev main_call21_c_0 : Ref sig .tc := ⟨.hbm, 576, rfl⟩
abbrev main_call21_v2 : Ref sig .tc := ⟨.hbm, 577, rfl⟩
abbrev main_call21_v3 : Ref sig .tc := ⟨.hbm, 578, rfl⟩
abbrev main_call21_v4 : Ref sig .tc := ⟨.hbm, 579, rfl⟩
abbrev main_call21_v5 : Ref sig .tc := ⟨.hbm, 580, rfl⟩
abbrev main_call21_c_1 : Ref sig .tc := ⟨.hbm, 581, rfl⟩
abbrev main_call21_c_2 : Ref sig .tc := ⟨.hbm, 582, rfl⟩
abbrev main_call21_v6 : Ref sig .tc := ⟨.hbm, 583, rfl⟩
abbrev main_call21_v7 : Ref sig .tc := ⟨.hbm, 584, rfl⟩
abbrev main_call21_v8 : Ref sig .tc := ⟨.hbm, 585, rfl⟩
abbrev main_call21_v9 : Ref sig .tc := ⟨.hbm, 586, rfl⟩
abbrev main_call21_v10 : Ref sig .tc := ⟨.hbm, 587, rfl⟩
abbrev main_call21_v11 : Ref sig .tc := ⟨.hbm, 588, rfl⟩
abbrev main_call21_c_3 : Ref sig .tc := ⟨.hbm, 589, rfl⟩
abbrev main_call21_v12 : Ref sig .tc := ⟨.hbm, 590, rfl⟩
abbrev main_call21_v13 : Ref sig .tc := ⟨.hbm, 591, rfl⟩
abbrev main_call21_v14 : Ref sig .tc := ⟨.hbm, 592, rfl⟩
abbrev main_call21_cst : Ref sig .tc := ⟨.hbm, 593, rfl⟩
abbrev main_call21_v15 : Ref sig .tc := ⟨.hbm, 594, rfl⟩
abbrev main_v109 : Ref sig .tc := ⟨.hbm, 595, rfl⟩
abbrev main_v110 : Ref sig .tc := ⟨.hbm, 596, rfl⟩
abbrev main_v111 : Ref sig .tc := ⟨.hbm, 597, rfl⟩
abbrev main_v112 : Ref sig .tc := ⟨.hbm, 598, rfl⟩
abbrev main_v113 : Ref sig .tc := ⟨.hbm, 599, rfl⟩
abbrev main_call22_c : Ref sig .tc := ⟨.hbm, 600, rfl⟩
abbrev main_call22_v0 : Ref sig .tc := ⟨.hbm, 601, rfl⟩
abbrev main_call22_v1 : Ref sig .tc := ⟨.hbm, 602, rfl⟩
abbrev main_call22_c_0 : Ref sig .tc := ⟨.hbm, 603, rfl⟩
abbrev main_call22_v2 : Ref sig .tc := ⟨.hbm, 604, rfl⟩
abbrev main_call22_v3 : Ref sig .tc := ⟨.hbm, 605, rfl⟩
abbrev main_call22_v4 : Ref sig .tc := ⟨.hbm, 606, rfl⟩
abbrev main_call22_v5 : Ref sig .tc := ⟨.hbm, 607, rfl⟩
abbrev main_call22_c_1 : Ref sig .tc := ⟨.hbm, 608, rfl⟩
abbrev main_call22_c_2 : Ref sig .tc := ⟨.hbm, 609, rfl⟩
abbrev main_call22_v6 : Ref sig .tc := ⟨.hbm, 610, rfl⟩
abbrev main_call22_v7 : Ref sig .tc := ⟨.hbm, 611, rfl⟩
abbrev main_call22_v8 : Ref sig .tc := ⟨.hbm, 612, rfl⟩
abbrev main_call22_v9 : Ref sig .tc := ⟨.hbm, 613, rfl⟩
abbrev main_call22_v10 : Ref sig .tc := ⟨.hbm, 614, rfl⟩
abbrev main_call22_v11 : Ref sig .tc := ⟨.hbm, 615, rfl⟩
abbrev main_call22_c_3 : Ref sig .tc := ⟨.hbm, 616, rfl⟩
abbrev main_call22_v12 : Ref sig .tc := ⟨.hbm, 617, rfl⟩
abbrev main_call22_v13 : Ref sig .tc := ⟨.hbm, 618, rfl⟩
abbrev main_call22_v14 : Ref sig .tc := ⟨.hbm, 619, rfl⟩
abbrev main_call22_cst : Ref sig .tc := ⟨.hbm, 620, rfl⟩
abbrev main_call22_v15 : Ref sig .tc := ⟨.hbm, 621, rfl⟩
abbrev main_v114 : Ref sig .tc := ⟨.hbm, 622, rfl⟩
abbrev main_v115 : Ref sig .tc := ⟨.hbm, 623, rfl⟩
abbrev main_v116 : Ref sig .tc := ⟨.hbm, 624, rfl⟩
abbrev main_v117 : Ref sig .tc := ⟨.hbm, 625, rfl⟩
abbrev main_v118 : Ref sig .tc := ⟨.hbm, 626, rfl⟩
abbrev main_call23_c : Ref sig .tc := ⟨.hbm, 627, rfl⟩
abbrev main_call23_v0 : Ref sig .tc := ⟨.hbm, 628, rfl⟩
abbrev main_call23_v1 : Ref sig .tc := ⟨.hbm, 629, rfl⟩
abbrev main_call23_c_0 : Ref sig .tc := ⟨.hbm, 630, rfl⟩
abbrev main_call23_v2 : Ref sig .tc := ⟨.hbm, 631, rfl⟩
abbrev main_call23_v3 : Ref sig .tc := ⟨.hbm, 632, rfl⟩
abbrev main_call23_v4 : Ref sig .tc := ⟨.hbm, 633, rfl⟩
abbrev main_call23_v5 : Ref sig .tc := ⟨.hbm, 634, rfl⟩
abbrev main_call23_c_1 : Ref sig .tc := ⟨.hbm, 635, rfl⟩
abbrev main_call23_c_2 : Ref sig .tc := ⟨.hbm, 636, rfl⟩
abbrev main_call23_v6 : Ref sig .tc := ⟨.hbm, 637, rfl⟩
abbrev main_call23_v7 : Ref sig .tc := ⟨.hbm, 638, rfl⟩
abbrev main_call23_v8 : Ref sig .tc := ⟨.hbm, 639, rfl⟩
abbrev main_call23_v9 : Ref sig .tc := ⟨.hbm, 640, rfl⟩
abbrev main_call23_v10 : Ref sig .tc := ⟨.hbm, 641, rfl⟩
abbrev main_call23_v11 : Ref sig .tc := ⟨.hbm, 642, rfl⟩
abbrev main_call23_c_3 : Ref sig .tc := ⟨.hbm, 643, rfl⟩
abbrev main_call23_v12 : Ref sig .tc := ⟨.hbm, 644, rfl⟩
abbrev main_call23_v13 : Ref sig .tc := ⟨.hbm, 645, rfl⟩
abbrev main_call23_v14 : Ref sig .tc := ⟨.hbm, 646, rfl⟩
abbrev main_call23_cst : Ref sig .tc := ⟨.hbm, 647, rfl⟩
abbrev main_call23_v15 : Ref sig .tc := ⟨.hbm, 648, rfl⟩
abbrev main_v119 : Ref sig .tc := ⟨.hbm, 649, rfl⟩
abbrev main_v120 : Ref sig .tc := ⟨.hbm, 650, rfl⟩
abbrev main_v121 : Ref sig .tc := ⟨.hbm, 651, rfl⟩
abbrev main_v122 : Ref sig .tc := ⟨.hbm, 652, rfl⟩
abbrev main_v123 : Ref sig .tc := ⟨.hbm, 653, rfl⟩
abbrev main_call24_c : Ref sig .tc := ⟨.hbm, 654, rfl⟩
abbrev main_call24_v0 : Ref sig .tc := ⟨.hbm, 655, rfl⟩
abbrev main_call24_v1 : Ref sig .tc := ⟨.hbm, 656, rfl⟩
abbrev main_call24_c_0 : Ref sig .tc := ⟨.hbm, 657, rfl⟩
abbrev main_call24_v2 : Ref sig .tc := ⟨.hbm, 658, rfl⟩
abbrev main_call24_v3 : Ref sig .tc := ⟨.hbm, 659, rfl⟩
abbrev main_call24_v4 : Ref sig .tc := ⟨.hbm, 660, rfl⟩
abbrev main_call24_v5 : Ref sig .tc := ⟨.hbm, 661, rfl⟩
abbrev main_call24_c_1 : Ref sig .tc := ⟨.hbm, 662, rfl⟩
abbrev main_call24_c_2 : Ref sig .tc := ⟨.hbm, 663, rfl⟩
abbrev main_call24_v6 : Ref sig .tc := ⟨.hbm, 664, rfl⟩
abbrev main_call24_v7 : Ref sig .tc := ⟨.hbm, 665, rfl⟩
abbrev main_call24_v8 : Ref sig .tc := ⟨.hbm, 666, rfl⟩
abbrev main_call24_v9 : Ref sig .tc := ⟨.hbm, 667, rfl⟩
abbrev main_call24_v10 : Ref sig .tc := ⟨.hbm, 668, rfl⟩
abbrev main_call24_v11 : Ref sig .tc := ⟨.hbm, 669, rfl⟩
abbrev main_call24_c_3 : Ref sig .tc := ⟨.hbm, 670, rfl⟩
abbrev main_call24_v12 : Ref sig .tc := ⟨.hbm, 671, rfl⟩
abbrev main_call24_v13 : Ref sig .tc := ⟨.hbm, 672, rfl⟩
abbrev main_call24_v14 : Ref sig .tc := ⟨.hbm, 673, rfl⟩
abbrev main_call24_cst : Ref sig .tc := ⟨.hbm, 674, rfl⟩
abbrev main_call24_v15 : Ref sig .tc := ⟨.hbm, 675, rfl⟩
abbrev main_v124 : Ref sig .tc := ⟨.hbm, 676, rfl⟩
abbrev main_v125 : Ref sig .tc := ⟨.hbm, 677, rfl⟩
abbrev main_v126 : Ref sig .tc := ⟨.hbm, 678, rfl⟩
abbrev main_v127 : Ref sig .tc := ⟨.hbm, 679, rfl⟩
abbrev main_v128 : Ref sig .tc := ⟨.hbm, 680, rfl⟩
abbrev main_call25_c : Ref sig .tc := ⟨.hbm, 681, rfl⟩
abbrev main_call25_v0 : Ref sig .tc := ⟨.hbm, 682, rfl⟩
abbrev main_call25_v1 : Ref sig .tc := ⟨.hbm, 683, rfl⟩
abbrev main_call25_c_0 : Ref sig .tc := ⟨.hbm, 684, rfl⟩
abbrev main_call25_v2 : Ref sig .tc := ⟨.hbm, 685, rfl⟩
abbrev main_call25_v3 : Ref sig .tc := ⟨.hbm, 686, rfl⟩
abbrev main_call25_v4 : Ref sig .tc := ⟨.hbm, 687, rfl⟩
abbrev main_call25_v5 : Ref sig .tc := ⟨.hbm, 688, rfl⟩
abbrev main_call25_c_1 : Ref sig .tc := ⟨.hbm, 689, rfl⟩
abbrev main_call25_c_2 : Ref sig .tc := ⟨.hbm, 690, rfl⟩
abbrev main_call25_v6 : Ref sig .tc := ⟨.hbm, 691, rfl⟩
abbrev main_call25_v7 : Ref sig .tc := ⟨.hbm, 692, rfl⟩
abbrev main_call25_v8 : Ref sig .tc := ⟨.hbm, 693, rfl⟩
abbrev main_call25_v9 : Ref sig .tc := ⟨.hbm, 694, rfl⟩
abbrev main_call25_v10 : Ref sig .tc := ⟨.hbm, 695, rfl⟩
abbrev main_call25_v11 : Ref sig .tc := ⟨.hbm, 696, rfl⟩
abbrev main_call25_c_3 : Ref sig .tc := ⟨.hbm, 697, rfl⟩
abbrev main_call25_v12 : Ref sig .tc := ⟨.hbm, 698, rfl⟩
abbrev main_call25_v13 : Ref sig .tc := ⟨.hbm, 699, rfl⟩
abbrev main_call25_v14 : Ref sig .tc := ⟨.hbm, 700, rfl⟩
abbrev main_call25_cst : Ref sig .tc := ⟨.hbm, 701, rfl⟩
abbrev main_call25_v15 : Ref sig .tc := ⟨.hbm, 702, rfl⟩
abbrev main_v129 : Ref sig .tc := ⟨.hbm, 703, rfl⟩
abbrev main_v130 : Ref sig .tc := ⟨.hbm, 704, rfl⟩
abbrev main_v131 : Ref sig .tc := ⟨.hbm, 705, rfl⟩
abbrev main_v132 : Ref sig .tc := ⟨.hbm, 706, rfl⟩

abbrev nD : Nat := 1
abbrev τ : Topo := Topo.v7x

variable {F : FTy → Type} [FloatOps F]
-- ==== Proof.KI.Base.lean ====
/-
  What the modules about the kernel share: the program as the launch theorem takes it, the resource algebra (the
  handshakes' rounds beside the transfers' counters), the kernel's buffers as its vector subcores name them, and the
  words the kernel moves, as pure functions of the table rows and the index rows.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's semaphores are distinct and outlive it, and no buffer of a SparseCore is one its tasks share. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The SparseCore and the tile at grid coordinates `i`, and the thread running there. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-- The transposed indices, the transposed tables and the output rows, as a tile names them. -/
abbrev xM : Memref sig .scVector .hbm S26x16384 .i32 := Memref.whole main_v0_scv
abbrev tM : Memref sig .scVector .hbm S26x32x100000 .f32 := Memref.whole main_v1_scv
abbrev oM : Memref sig .scVector .hbm S832x16384 .f32 := Memref.whole main_v2_scv
/-- A tile's own buffers: a table row, an index row, and two row buffers of one chunk each. -/
abbrev sT : Memref sig .scVector .vmem S100000 .f32 := Memref.whole cc0_scratch0
abbrev sX : Memref sig .scVector .vmem S16384 .i32 := Memref.whole cc0_scratch1
abbrev sA : Memref sig .scVector .vmem S2048 .f32 := Memref.whole cc0_scratch2
abbrev sB : Memref sig .scVector .vmem S2048 .f32 := Memref.whole cc0_scratch3

/-! ## The words moved -/

/-- Position `n` of an index row (`n` below 16384), and word `n` of a table row (`n` below 100000). -/
def at16384 (n : ℕ) : S16384.Idx := fun a => ⟨n % S16384.size a, Nat.mod_lt _ (by fin_cases a; decide)⟩
def at100000 (n : ℕ) : S100000.Idx := fun a => ⟨n % S100000.size a, Nat.mod_lt _ (by fin_cases a; decide)⟩

/-- The chunk of gathered words starting at position `b`: word `y` is the table row at the index held at `b + y`. -/
def want (Tb : S100000.Idx → Elt F .f32) (X : S16384.Idx → Elt F .i32) (b : ℕ) (y : S2048.Idx) : Elt F .f32 :=
  Tb (at100000 (X (at16384 (b + (y 0).val))).toNat)

/-- The first `n` words of a row buffer are those of the chunk at `b`. -/
def Filled (Tb : S100000.Idx → Elt F .f32) (X : S16384.Idx → Elt F .i32) (b n : ℕ) (h : S2048.Idx → Elt F .f32) : Prop :=
  ∀ y : S2048.Idx, (y 0).val < n → h y = want Tb X b y

/-- Every index of the row names a word of a table row. -/
def InRange (X : S16384.Idx → Elt F .i32) : Prop := ∀ y, (X y).toNat < 100000

/-- An index into the transposed indices, the transposed tables: row and position, each taken within its extent. -/
def atX (f b : ℕ) : S26x16384.Idx
  | 0 => (⟨f % 26, Nat.mod_lt _ (by decide)⟩ : Fin 26)
  | 1 => (⟨b % 16384, Nat.mod_lt _ (by decide)⟩ : Fin 16384)
def atT (f e v : ℕ) : S26x32x100000.Idx
  | 0 => (⟨f % 26, Nat.mod_lt _ (by decide)⟩ : Fin 26)
  | 1 => (⟨e % 32, Nat.mod_lt _ (by decide)⟩ : Fin 32)
  | 2 => (⟨v % 100000, Nat.mod_lt _ (by decide)⟩ : Fin 100000)

/-- The table row and the index row of output row `p`: embedding dimension `p mod 32` of field `p / 32`, and field
    `p / 32`'s indices. -/
def trow (Tt : S26x32x100000.Idx → Elt F .f32) (p : ℕ) : S100000.Idx → Elt F .f32 := fun y => Tt (atT (p / 32) (p % 32) (y 0).val)
def xrow (X : S26x16384.Idx → Elt F .i32) (p : ℕ) : S16384.Idx → Elt F .i32 := fun y => X (atX (p / 32) (y 0).val)

/-- The output rows: row `p` at `b` is field `p / 32`'s table, at dimension `p mod 32`, read at that field's index for `b`. -/
def outW (X : S26x16384.Idx → Elt F .i32) (Tt : S26x32x100000.Idx → Elt F .f32) : S832x16384.Idx → Elt F .f32 := fun z =>
  Tt (atT ((z 0).val / 32) ((z 0).val % 32) (X (atX ((z 0).val / 32) (z 1).val)).toNat)

/-- Chunk `k` of output row `p`, gathered from the row's table row and index row, is the output there. -/
theorem want_eq_outW (X : S26x16384.Idx → Elt F .i32) (Tt : S26x32x100000.Idx → Elt F .f32) {p b : ℕ} (z : S832x16384.Idx) (y : S2048.Idx)
    (h0 : (z 0).val = p) (h1 : (z 1).val = b + (y 0).val) : want (trow Tt p) (xrow X p) b y = outW X Tt z := by
  unfold want outW trow xrow
  have hb : b + (y 0).val < 16384 := h1 ▸ (z 1).isLt
  have hx : atX (p / 32) ((at16384 (b + (y 0).val)) 0).val = atX ((z 0).val / 32) (z 1).val := by
    rw [h0, h1]; show atX _ ((b + (y 0).val) % 16384) = _; rw [Nat.mod_eq_of_lt hb]
  rw [hx, h0]
  generalize (X (atX (p / 32) (z 1).val)).toNat = v
  congr 1
  funext a
  fin_cases a
  · rfl
  · rfl
  · apply Fin.ext; show (v % 100000) % 100000 = v % 100000; omega

end Cert.Proof.KI
-- ==== Proof.KI.Geometry.lean ====
/-
  Where a tile's transfers go: the table row, the index row and the output chunks as the program slices them, in
  closed form, and the sets of output words a tile has still to write, has under way, and has written.
-/
module

public import proofs.«01_k».proof.Proof.KI.Base

@[expose] public section

noncomputable section

namespace Cert.Proof.KI

open Cert.KernelIdeal Cert.KernelIdeal.Gen
open Idealize.ShloMosaic
open Idealize.SL.Sem

variable {F : FTy → Type}

/-- The first output row of the tile at `i`. -/
abbrev row0 (i : grid0.Coords) : ℕ := 416 * (i 0).val + 26 * (i 1).val

theorem row0_lt (i : grid0.Coords) : row0 i + 26 ≤ 832 := by
  have h0 : (i 0).val < 2 := (i 0).isLt
  have h1 : (i 1).val < 16 := (i 1).isLt
  unfold row0; omega

theorem trip_lt (t : Fin k0_t1_loop.trips) : t.val < 26 := Nat.lt_of_lt_of_le t.isLt k0_t1_abs.2.1

/-- The grid coordinates of core `c` and tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (i : grid0.Coords) : coordsV (i 0) (i 1) = i := by
  funext a; fin_cases a <;> rfl

/-! ## The scalar arithmetic, by evaluation at every pair of a tile -/

/-- A pair's table row starts at field `p / 32`, dimension `p mod 32`. -/
theorem off1_eq (i : grid0.Coords) (t : Fin k0_t1_loop.trips) :
    k0_off1 i t = ![(row0 i + t.val) / 32, (row0 i + t.val) % 32, 0] := by
  have h : ∀ (c : Fin 2) (s : Fin 16) (t : Fin k0_t1_loop.trips),
      k0_off1 (coordsV c s) t = ![(416 * c.val + 26 * s.val + t.val) / 32, (416 * c.val + 26 * s.val + t.val) % 32, 0] := by decide +kernel
  have := h (i 0) (i 1) t
  rwa [coordsV_eta] at this

/-- A pair's index row is that of field `p / 32`. -/
theorem off2_eq (i : grid0.Coords) (t : Fin k0_t1_loop.trips) : k0_off2 i t = ![(row0 i + t.val) / 32, 0] := by
  have h : ∀ (c : Fin 2) (s : Fin 16) (t : Fin k0_t1_loop.trips),
      k0_off2 (coordsV c s) t = ![(416 * c.val + 26 * s.val + t.val) / 32, 0] := by decide +kernel
  have := h (i 0) (i 1) t
  rwa [coordsV_eta] at this

/-- A pair for which the index row is not fetched is not the tile's first, and its field is the pair's before. -/
theorem same_field (i : grid0.Coords) (t : Fin k0_t1_loop.trips) (hc : ¬ k0_cond1 i t = 1#1) :
    0 < t.val ∧ (row0 i + t.val) / 32 = (row0 i + (t.val - 1)) / 32 := by
  have h : ∀ (c : Fin 2) (s : Fin 16) (t : Fin k0_t1_loop.trips), ¬ k0_cond1 (coordsV c s) t = 1#1 →
      0 < t.val ∧ (416 * c.val + 26 * s.val + t.val) / 32 = (416 * c.val + 26 * s.val + (t.val - 1)) / 32 := by decide +kernel
  have := h (i 0) (i 1) t
  rw [coordsV_eta] at this
  exact this hc

/-- The first two waits of a pair are taken on every pair but the first. -/
theorem waits_iff (t : Fin k0_t1_loop.trips) :
    Scalar.cmpi .ne (Scalar.extui (Scalar.cmpi .sgt (Scf.iv 0#32 1#32 t) 0#32) : BitVec 32) 0#32 = 1#1 ↔ 0 < t.val := by
  revert t; decide +kernel

/-! ## The memrefs -/

/-- The table row of a pair, as the program slices it. -/
abbrev tRow (i : grid0.Coords) (t : Fin k0_t1_loop.trips) : Memref sig .scVector .hbm S100000 .f32 :=
  (tM.slice (Rect.unit (s := S26x32x100000) (k0_off1 i t) S1x1x100000.size (k0_off1_inb i t)) (fun _ => rfl)).squeeze S100000 squeezes_S1x1x100000_S100000
/-- The index row of a pair. -/
abbrev xRow (i : grid0.Coords) (t : Fin k0_t1_loop.trips) (h : k0_cond1 i t = 1#1) : Memref sig .scVector .hbm S16384 .i32 :=
  (xM.slice (Rect.unit (s := S26x16384) (k0_off2 i t) S1x16384.size (k0_off2_inb i t h)) (fun _ => rfl)).squeeze S16384 squeezes_S1x16384_S16384
/-- A chunk of an output row, at offsets `off`. -/
abbrev oPart (off : Fin 2 → ℕ) (inb : ∀ a, off a + S1x2048.size a ≤ S832x16384.size a) : Memref sig .scVector .hbm S2048 .f32 :=
  (oM.slice (Rect.unit (s := S832x16384) off S1x2048.size inb) (fun _ => rfl)).squeeze S2048 squeezes_S1x2048_S2048

/-- An index behind one unit axis, and behind two. -/
theorem squeeze_one {n : ℕ} (h : (⟨1, ![n]⟩ : Shape).numel = (⟨2, ![1, n]⟩ : Shape).numel) (y : (⟨1, ![n]⟩ : Shape).Idx) :
    Shape.reshapeEquiv h y = (Fin.cons ⟨0, Nat.one_pos⟩ y : (⟨2, ![1, n]⟩ : Shape).Idx) :=
  Shape.reshapeEquiv_cons_one h y
theorem squeeze_two {n : ℕ} (h : (⟨1, ![n]⟩ : Shape).numel = (⟨3, ![1, 1, n]⟩ : Shape).numel) (y : (⟨1, ![n]⟩ : Shape).Idx) :
    Shape.reshapeEquiv h y
      = (Fin.cons ⟨0, Nat.one_pos⟩ (Fin.cons ⟨0, Nat.one_pos⟩ y : (⟨2, ![1, n]⟩ : Shape).Idx) : (⟨3, ![1, 1, n]⟩ : Shape).Idx) := by
  have h1 : (⟨1, ![n]⟩ : Shape).numel = (⟨2, ![1, n]⟩ : Shape).numel := by
    simp only [Shape.numel, Fin.prod_univ_succ, Finset.univ_eq_empty, Finset.prod_empty]; simp
  rw [← Shape.reshapeEquiv_reshapeEquiv (h1.symm.trans h) h1, squeeze_one]
  exact Shape.reshapeEquiv_cons_one (h1.symm.trans h) _

/-- A pair's table row reads as row `p`'s table row. -/
theorem read_tRow (i : grid0.Coords) (t : Fin k0_t1_loop.trips) (Tt : S26x32x100000.Idx → Elt F .f32) :
    (tRow i t).view.read (Elt F) Tt = trow Tt (row0 i + t.val) := by
  funext y
  show Tt ((Rect.unit (s := S26x32x100000) (k0_off1 i t) S1x1x100000.size (k0_off1_inb i t)).emb
    (Shape.reshapeEquiv squeezes_S1x1x100000_S100000.numel_eq y)) = _
  have hr := row0_lt i
  have ht := trip_lt t
  have hy : (y 0).val < 100000 := (y 0).isLt
  refine congrArg Tt ?_
  rw [squeeze_two squeezes_S1x1x100000_S100000.numel_eq y]
  funext a
  apply Fin.ext
  fin_cases a
  · show k0_off1 i t 0 + 1 * 0 = (row0 i + t.val) / 32 % 26
    rw [off1_eq]; show (row0 i + t.val) / 32 + 1 * 0 = _; omega
  · show k0_off1 i t 1 + 1 * 0 = (row0 i + t.val) % 32 % 32
    rw [off1_eq]; show (row0 i + t.val) % 32 + 1 * 0 = _; omega
  · show k0_off1 i t 2 + 1 * (y 0).val = (y 0).val % 100000
    rw [off1_eq]; show 0 + 1 * (y 0).val = _; omega

/-- A pair's index row reads as row `p`'s index row. -/
theorem read_xRow (i : grid0.Coords) (t : Fin k0_t1_loop.trips) (h : k0_cond1 i t = 1#1) (X : S26x16384.Idx → Elt F .i32) :
    (xRow i t h).view.read (Elt F) X = xrow X (row0 i + t.val) := by
  funext y
  show X ((Rect.unit (s := S26x16384) (k0_off2 i t) S1x16384.size (k0_off2_inb i t h)).emb
    (Shape.reshapeEquiv squeezes_S1x16384_S16384.numel_eq y)) = _
  have hr := row0_lt i
  have ht := trip_lt t
  have hy : (y 0).val < 16384 := (y 0).isLt
  refine congrArg X ?_
  rw [squeeze_one squeezes_S1x16384_S16384.numel_eq y]
  funext a
  apply Fin.ext
  fin_cases a
  · show k0_off2 i t 0 + 1 * 0 = (row0 i + t.val) / 32 % 26
    rw [off2_eq]; show (row0 i + t.val) / 32 + 1 * 0 = _; omega
  · show k0_off2 i t 1 + 1 * (y 0).val = (y 0).val % 16384
    rw [off2_eq]; show 0 + 1 * (y 0).val = _; omega

/-! ## The output words of a tile, by chunks in the order the tile writes them -/

/-- Which of the tile's 208 chunks an output word lies in, counted from the tile's first row `r`. -/
def chunkNo (r : ℕ) (z : S832x16384.Idx) : ℕ := 8 * ((z 0).val - r) + (z 1).val / 2048

/-- The words of the tile whose rows start at `r`: its chunks before the `n`-th, its `n`-th, and those from the `n`-th on. -/
def doneSet (r n : ℕ) : Finset S832x16384.Idx := Finset.univ.filter fun z => (r ≤ (z 0).val ∧ (z 0).val < r + 26) ∧ chunkNo r z < n
def chunkSet (r n : ℕ) : Finset S832x16384.Idx := Finset.univ.filter fun z => (r ≤ (z 0).val ∧ (z 0).val < r + 26) ∧ chunkNo r z = n
def todoSet (r n : ℕ) : Finset S832x16384.Idx := Finset.univ.filter fun z => (r ≤ (z 0).val ∧ (z 0).val < r + 26) ∧ n ≤ chunkNo r z
/-- All the words of the tile. -/
def tileSet (r : ℕ) : Finset S832x16384.Idx := Finset.univ.filter fun z => r ≤ (z 0).val ∧ (z 0).val < r + 26

theorem chunkNo_lt {r : ℕ} {z : S832x16384.Idx} (h : r ≤ (z 0).val ∧ (z 0).val < r + 26) : chunkNo r z < 208 := by
  have h1 : (z 1).val < 16384 := (z 1).isLt
  unfold chunkNo; omega

theorem doneSet_zero (r : ℕ) : doneSet r 0 = ∅ := Finset.filter_false_of_mem fun z _ h => Nat.not_lt_zero _ h.2
theorem doneSet_all (r : ℕ) : doneSet r 208 = tileSet r := Finset.filter_congr fun z _ => ⟨fun h => h.1, fun h => ⟨h, chunkNo_lt h⟩⟩
theorem todoSet_zero (r : ℕ) : todoSet r 0 = tileSet r := Finset.filter_congr fun z _ => ⟨fun h => h.1, fun h => ⟨h, Nat.zero_le _⟩⟩

theorem todoSet_split (r n : ℕ) : todoSet r n = chunkSet r n ∪ todoSet r (n + 1) := by
  ext z
  simp only [todoSet, chunkSet, Finset.mem_union, Finset.mem_filter, Finset.mem_univ, true_and]
  omega
theorem doneSet_succ (r n : ℕ) : doneSet r (n + 1) = doneSet r n ∪ chunkSet r n := by
  ext z
  simp only [doneSet, chunkSet, Finset.mem_union, Finset.mem_filter, Finset.mem_univ, true_and]
  omega
theorem chunk_todo_disjoint (r n : ℕ) : Disjoint (chunkSet r n) (todoSet r (n + 1)) :=
  Finset.disjoint_left.mpr fun z h h' => by
    have h := (Finset.mem_filter.mp h).2.2
    have h' := (Finset.mem_filter.mp h').2.2
    omega
theorem done_chunk_disjoint (r n : ℕ) : Disjoint (doneSet r n) (chunkSet r n) :=
  Finset.disjoint_left.mpr fun z h h' => by
    have h := (Finset.mem_filter.mp h).2.2
    have h' := (Finset.mem_filter.mp h').2.2
    omega

/-- The chunk a pair's slice `c` names is the tile's chunk `8 t + c`. -/
theorem set_oPart (r t c : ℕ) (ht : t < 26) (hc : c < 8) {off : Fin 2 → ℕ} (inb : ∀ a, off a + S1x2048.size a ≤ S832x16384.size a)
    (ho : off = ![r + t, 2048 * c]) : (oPart off inb).view.set = chunkSet r (8 * t + c) := by
  refine (View.set_reshape (oM.view.slice (Rect.unit (s := S832x16384) off S1x2048.size inb)) squeezes_S1x2048_S2048.numel_eq).trans
    ((View.set_slice oM.view (Rect.unit (s := S832x16384) off S1x2048.size inb)).trans ?_)
  refine (Finset.map_refl (s := (Rect.unit (s := S832x16384) off S1x2048.size inb).set)).trans ?_
  ext z
  rw [Rect.mem_set_unit]
  subst ho
  have h1 : (z 1).val < 16384 := (z 1).isLt
  have hz : z ∈ chunkSet r (8 * t + c)
      ↔ (r + t ≤ (z 0).val ∧ (z 0).val < r + t + 1) ∧ (2048 * c ≤ (z 1).val ∧ (z 1).val < 2048 * c + 2048) := by
    rw [chunkSet, Finset.mem_filter, chunkNo]
    generalize (z 0).val = a at *
    generalize (z 1).val = b at *
    simp only [Finset.mem_univ, true_and]
    omega
  rw [hz]
  exact ⟨fun h => ⟨h 0, h 1⟩, fun h a => by fin_cases a; exacts [h.1, h.2]⟩

/-- A chunk written with its gathered words holds the output's words. -/
theorem write_oPart (r t c : ℕ) {off : Fin 2 → ℕ} (inb : ∀ a, off a + S1x2048.size a ≤ S832x16384.size a)
    (ho : off = ![r + t, 2048 * c]) (X : S26x16384.Idx → Elt F .i32) (Tt : S26x32x100000.Idx → Elt F .f32) (fo : S832x16384.Idx → Elt F .f32) :
    ∀ z ∈ (oPart off inb).view.set,
      (oPart off inb).view.write (Elt F) fo (want (trow Tt (r + t)) (xrow X (r + t)) (2048 * c)) Finset.univ z = outW X Tt z := by
  intro z hz
  obtain ⟨y, -, rfl⟩ := Finset.mem_map.mp hz
  rw [View.write_emb_of_mem _ _ (Finset.mem_univ y)]
  refine (cast_eq _ _).trans (want_eq_outW X Tt _ y ?_ ?_)
  · show (((Rect.unit (s := S832x16384) off S1x2048.size inb).emb (Shape.reshapeEquiv squeezes_S1x2048_S2048.numel_eq y)) 0).val = r + t
    rw [squeeze_one squeezes_S1x2048_S2048.numel_eq y]
    show off 0 + 1 * 0 = r + t
    rw [ho]; rfl
  · show (((Rect.unit (s := S832x16384) off S1x2048.size inb).emb (Shape.reshapeEquiv squeezes_S1x2048_S2048.numel_eq y)) 1).val = 2048 * c + (y 0).val
    rw [squeeze_one squeezes_S1x2048_S2048.numel_eq y]
    show off 1 + 1 * (y 0).val = 2048 * c + (y 0).val
    rw [ho, Nat.one_mul]; rfl

end Cert.Proof.KI
-- ==== Proof.KI.Trips.lean ====
/-
  The gather loops of the kernel: each of the eight loops over the sixteen-lane groups of one chunk of 2048 words
  runs the same sixteen groups, up to the place they read in the index row and the row buffer they fill. Here a
  group and a list of groups are written once as programs, and each loop's trip is shown to be such a list.
-/
module
public import proofs.«01_k».proof.Proof.KI.Base
@[expose] public section

noncomputable section

namespace Cert.Proof.KI

open Cert.KernelIdeal Cert.KernelIdeal.Gen
open Idealize.ShloMosaic
open Idealize.SL.Sem

variable {F : FTy → Type} [FloatOps F]

/-- Where one group of sixteen lanes works: `o` its place in the index row, `p` its place in the row buffer. -/
structure Lanes where
  o : Fin 1 → Nat
  ho : ∀ a, o a + S16.size a ≤ S16384.size a
  p : Fin 1 → Nat
  hp : ∀ a, p a + S16.size a ≤ S2048.size a

/-- One group: sixteen indices are loaded, checked to be in range, the table row is read at them, and the sixteen
    words read are stored into the row buffer (a load of the place stored to, its value unused, comes first). -/
def laneStep (i : grid0.Coords) (tab : Memref sig .scVector .vmem S100000 .f32) (idx : Memref sig .scVector .vmem S16384 .i32)
    (row : Memref sig .scVector .vmem S2048 .f32) (g : Lanes) :
    Prog (TpuEff nD τ sig (Elt F) Λ₀ (.scVector ((i 0).castLE hcore0) ((i 1).castLE hsub0))) PUnit := do
  let v : Vec F S16 .i32 ← Prog.lift (.load idx (Rect.unit (s := S16384) g.o S16.size g.ho).toLoadRect (View.loadsAt_vmem h_S16))
  have hv : k0_chk1 v := (← Prog.lift (TpuEff.assume (k0_chk1 v) (k0_chk1.dec v))).down
  let w : Vec F S16 .f32 ← SparseCore.vectorLoadIdx tab ![v] (k0_idx1_inb v hv) (View.loads_vmem h_S100000)
  let _ : Vec F S16 .f32 ← Prog.lift (.load row (Rect.unit (s := S2048) g.p S16.size g.hp).toLoadRect (View.loadsAt_vmem h_S16))
  Prog.lift (.store row (Rect.unit (s := S2048) g.p S16.size g.hp) w Finset.univ (View.stores_vmem_bits_univ h_S16 rfl) (.inl rfl))

/-- The groups of a list, one after the other. -/
def laneSteps (i : grid0.Coords) (tab : Memref sig .scVector .vmem S100000 .f32) (idx : Memref sig .scVector .vmem S16384 .i32)
    (row : Memref sig .scVector .vmem S2048 .f32) :
    List Lanes → Prog (TpuEff nD τ sig (Elt F) Λ₀ (.scVector ((i 0).castLE hcore0) ((i 1).castLE hsub0))) Unit
  | [] => pure ⟨⟩
  | g :: gs => laneStep i tab idx row g >>= fun _ => laneSteps i tab idx row gs

section Lists
variable (u : Fin k0_t2_loop.trips)

/-- The sixteen groups of a trip of chunk 0's loop. -/
abbrev lanes0 : List Lanes :=
  [⟨k0_off3 u, k0_off3_inb u, k0_off4 u, k0_off4_inb u⟩, ⟨k0_off5 u, k0_off5_inb u, k0_off6 u, k0_off6_inb u⟩,
   ⟨k0_off7 u, k0_off7_inb u, k0_off8 u, k0_off8_inb u⟩, ⟨k0_off9 u, k0_off9_inb u, k0_off10 u, k0_off10_inb u⟩,
   ⟨k0_off11 u, k0_off11_inb u, k0_off12 u, k0_off12_inb u⟩, ⟨k0_off13 u, k0_off13_inb u, k0_off14 u, k0_off14_inb u⟩,
   ⟨k0_off15 u, k0_off15_inb u, k0_off16 u, k0_off16_inb u⟩, ⟨k0_off17 u, k0_off17_inb u, k0_off18 u, k0_off18_inb u⟩,
   ⟨k0_off19 u, k0_off19_inb u, k0_off20 u, k0_off20_inb u⟩, ⟨k0_off21 u, k0_off21_inb u, k0_off22 u, k0_off22_inb u⟩,
   ⟨k0_off23 u, k0_off23_inb u, k0_off24 u, k0_off24_inb u⟩, ⟨k0_off25 u, k0_off25_inb u, k0_off26 u, k0_off26_inb u⟩,
   ⟨k0_off27 u, k0_off27_inb u, k0_off28 u, k0_off28_inb u⟩, ⟨k0_off29 u, k0_off29_inb u, k0_off30 u, k0_off30_inb u⟩,
   ⟨k0_off31 u, k0_off31_inb u, k0_off32 u, k0_off32_inb u⟩, ⟨k0_off33 u, k0_off33_inb u, k0_off34 u, k0_off34_inb u⟩]
/-- The sixteen groups of a trip of chunk 1's loop. -/
abbrev lanes1 : List Lanes :=
  [⟨k0_off36 u, k0_off36_inb u, k0_off37 u, k0_off37_inb u⟩, ⟨k0_off38 u, k0_off38_inb u, k0_off39 u, k0_off39_inb u⟩,
   ⟨k0_off40 u, k0_off40_inb u, k0_off41 u, k0_off41_inb u⟩, ⟨k0_off42 u, k0_off42_inb u, k0_off43 u, k0_off43_inb u⟩,
   ⟨k0_off44 u, k0_off44_inb u, k0_off45 u, k0_off45_inb u⟩, ⟨k0_off46 u, k0_off46_inb u, k0_off47 u, k0_off47_inb u⟩,
   ⟨k0_off48 u, k0_off48_inb u, k0_off49 u, k0_off49_inb u⟩, ⟨k0_off50 u, k0_off50_inb u, k0_off51 u, k0_off51_inb u⟩,
   ⟨k0_off52 u, k0_off52_inb u, k0_off53 u, k0_off53_inb u⟩, ⟨k0_off54 u, k0_off54_inb u, k0_off55 u, k0_off55_inb u⟩,
   ⟨k0_off56 u, k0_off56_inb u, k0_off57 u, k0_off57_inb u⟩, ⟨k0_off58 u, k0_off58_inb u, k0_off59 u, k0_off59_inb u⟩,
   ⟨k0_off60 u, k0_off60_inb u, k0_off61 u, k0_off61_inb u⟩, ⟨k0_off62 u, k0_off62_inb u, k0_off63 u, k0_off63_inb u⟩,
   ⟨k0_off64 u, k0_off64_inb u, k0_off65 u, k0_off65_inb u⟩, ⟨k0_off66 u, k0_off66_inb u, k0_off67 u, k0_off67_inb u⟩]
/-- The sixteen groups of a trip of chunk 2's loop. -/
abbrev lanes2 : List Lanes :=
  [⟨k0_off69 u, k0_off69_inb u, k0_off70 u, k0_off70_inb u⟩, ⟨k0_off71 u, k0_off71_inb u, k0_off72 u, k0_off72_inb u⟩,
   ⟨k0_off73 u, k0_off73_inb u, k0_off74 u, k0_off74_inb u⟩, ⟨k0_off75 u, k0_off75_inb u, k0_off76 u, k0_off76_inb u⟩,
   ⟨k0_off77 u, k0_off77_inb u, k0_off78 u, k0_off78_inb u⟩, ⟨k0_off79 u, k0_off79_inb u, k0_off80 u, k0_off80_inb u⟩,
   ⟨k0_off81 u, k0_off81_inb u, k0_off82 u, k0_off82_inb u⟩, ⟨k0_off83 u, k0_off83_inb u, k0_off84 u, k0_off84_inb u⟩,
   ⟨k0_off85 u, k0_off85_inb u, k0_off86 u, k0_off86_inb u⟩, ⟨k0_off87 u, k0_off87_inb u, k0_off88 u, k0_off88_inb u⟩,
   ⟨k0_off89 u, k0_off89_inb u, k0_off90 u, k0_off90_inb u⟩, ⟨k0_off91 u, k0_off91_inb u, k0_off92 u, k0_off92_inb u⟩,
   ⟨k0_off93 u, k0_off93_inb u, k0_off94 u, k0_off94_inb u⟩, ⟨k0_off95 u, k0_off95_inb u, k0_off96 u, k0_off96_inb u⟩,
   ⟨k0_off97 u, k0_off97_inb u, k0_off98 u, k0_off98_inb u⟩, ⟨k0_off99 u, k0_off99_inb u, k0_off100 u, k0_off100_inb u⟩]
/-- The sixteen groups of a trip of chunk 3's loop. -/
abbrev lanes3 : List Lanes :=
  [⟨k0_off102 u, k0_off102_inb u, k0_off103 u, k0_off103_inb u⟩, ⟨k0_off104 u, k0_off104_inb u, k0_off105 u, k0_off105_inb u⟩,
   ⟨k0_off106 u, k0_off106_inb u, k0_off107 u, k0_off107_inb u⟩, ⟨k0_off108 u, k0_off108_inb u, k0_off109 u, k0_off109_inb u⟩,
   ⟨k0_off110 u, k0_off110_inb u, k0_off111 u, k0_off111_inb u⟩, ⟨k0_off112 u, k0_off112_inb u, k0_off113 u, k0_off113_inb u⟩,
   ⟨k0_off114 u, k0_off114_inb u, k0_off115 u, k0_off115_inb u⟩, ⟨k0_off116 u, k0_off116_inb u, k0_off117 u, k0_off117_inb u⟩,
   ⟨k0_off118 u, k0_off118_inb u, k0_off119 u, k0_off119_inb u⟩, ⟨k0_off120 u, k0_off120_inb u, k0_off121 u, k0_off121_inb u⟩,
   ⟨k0_off122 u, k0_off122_inb u, k0_off123 u, k0_off123_inb u⟩, ⟨k0_off124 u, k0_off124_inb u, k0_off125 u, k0_off125_inb u⟩,
   ⟨k0_off126 u, k0_off126_inb u, k0_off127 u, k0_off127_inb u⟩, ⟨k0_off128 u, k0_off128_inb u, k0_off129 u, k0_off129_inb u⟩,
   ⟨k0_off130 u, k0_off130_inb u, k0_off131 u, k0_off131_inb u⟩, ⟨k0_off132 u, k0_off132_inb u, k0_off133 u, k0_off133_inb u⟩]
/-- The sixteen groups of a trip of chunk 4's loop. -/
abbrev lanes4 : List Lanes :=
  [⟨k0_off135 u, k0_off135_inb u, k0_off136 u, k0_off136_inb u⟩, ⟨k0_off137 u, k0_off137_inb u, k0_off138 u, k0_off138_inb u⟩,
   ⟨k0_off139 u, k0_off139_inb u, k0_off140 u, k0_off140_inb u⟩, ⟨k0_off141 u, k0_off141_inb u, k0_off142 u, k0_off142_inb u⟩,
   ⟨k0_off143 u, k0_off143_inb u, k0_off144 u, k0_off144_inb u⟩, ⟨k0_off145 u, k0_off145_inb u, k0_off146 u, k0_off146_inb u⟩,
   ⟨k0_off147 u, k0_off147_inb u, k0_off148 u, k0_off148_inb u⟩, ⟨k0_off149 u, k0_off149_inb u, k0_off150 u, k0_off150_inb u⟩,
   ⟨k0_off151 u, k0_off151_inb u, k0_off152 u, k0_off152_inb u⟩, ⟨k0_off153 u, k0_off153_inb u, k0_off154 u, k0_off154_inb u⟩,
   ⟨k0_off155 u, k0_off155_inb u, k0_off156 u, k0_off156_inb u⟩, ⟨k0_off157 u, k0_off157_inb u, k0_off158 u, k0_off158_inb u⟩,
   ⟨k0_off159 u, k0_off159_inb u, k0_off160 u, k0_off160_inb u⟩, ⟨k0_off161 u, k0_off161_inb u, k0_off162 u, k0_off162_inb u⟩,
   ⟨k0_off163 u, k0_off163_inb u, k0_off164 u, k0_off164_inb u⟩, ⟨k0_off165 u, k0_off165_inb u, k0_off166 u, k0_off166_inb u⟩]
/-- The sixteen groups of a trip of chunk 5's loop. -/
abbrev lanes5 : List Lanes :=
  [⟨k0_off168 u, k0_off168_inb u, k0_off169 u, k0_off169_inb u⟩, ⟨k0_off170 u, k0_off170_inb u, k0_off171 u, k0_off171_inb u⟩,
   ⟨k0_off172 u, k0_off172_inb u, k0_off173 u, k0_off173_inb u⟩, ⟨k0_off174 u, k0_off174_inb u, k0_off175 u, k0_off175_inb u⟩,
   ⟨k0_off176 u, k0_off176_inb u, k0_off177 u, k0_off177_inb u⟩, ⟨k0_off178 u, k0_off178_inb u, k0_off179 u, k0_off179_inb u⟩,
   ⟨k0_off180 u, k0_off180_inb u, k0_off181 u, k0_off181_inb u⟩, ⟨k0_off182 u, k0_off182_inb u, k0_off183 u, k0_off183_inb u⟩,
   ⟨k0_off184 u, k0_off184_inb u, k0_off185 u, k0_off185_inb u⟩, ⟨k0_off186 u, k0_off186_inb u, k0_off187 u, k0_off187_inb u⟩,
   ⟨k0_off188 u, k0_off188_inb u, k0_off189 u, k0_off189_inb u⟩, ⟨k0_off190 u, k0_off190_inb u, k0_off191 u, k0_off191_inb u⟩,
   ⟨k0_off192 u, k0_off192_inb u, k0_off193 u, k0_off193_inb u⟩, ⟨k0_off194 u, k0_off194_inb u, k0_off195 u, k0_off195_inb u⟩,
   ⟨k0_off196 u, k0_off196_inb u, k0_off197 u, k0_off197_inb u⟩, ⟨k0_off198 u, k0_off198_inb u, k0_off199 u, k0_off199_inb u⟩]
/-- The sixteen groups of a trip of chunk 6's loop. -/
abbrev lanes6 : List Lanes :=
  [⟨k0_off201 u, k0_off201_inb u, k0_off202 u, k0_off202_inb u⟩, ⟨k0_off203 u, k0_off203_inb u, k0_off204 u, k0_off204_inb u⟩,
   ⟨k0_off205 u, k0_off205_inb u, k0_off206 u, k0_off206_inb u⟩, ⟨k0_off207 u, k0_off207_inb u, k0_off208 u, k0_off208_inb u⟩,
   ⟨k0_off209 u, k0_off209_inb u, k0_off210 u, k0_off210_inb u⟩, ⟨k0_off211 u, k0_off211_inb u, k0_off212 u, k0_off212_inb u⟩,
   ⟨k0_off213 u, k0_off213_inb u, k0_off214 u, k0_off214_inb u⟩, ⟨k0_off215 u, k0_off215_inb u, k0_off216 u, k0_off216_inb u⟩,
   ⟨k0_off217 u, k0_off217_inb u, k0_off218 u, k0_off218_inb u⟩, ⟨k0_off219 u, k0_off219_inb u, k0_off220 u, k0_off220_inb u⟩,
   ⟨k0_off221 u, k0_off221_inb u, k0_off222 u, k0_off222_inb u⟩, ⟨k0_off223 u, k0_off223_inb u, k0_off224 u, k0_off224_inb u⟩,
   ⟨k0_off225 u, k0_off225_inb u, k0_off226 u, k0_off226_inb u⟩, ⟨k0_off227 u, k0_off227_inb u, k0_off228 u, k0_off228_inb u⟩,
   ⟨k0_off229 u, k0_off229_inb u, k0_off230 u, k0_off230_inb u⟩, ⟨k0_off231 u, k0_off231_inb u, k0_off232 u, k0_off232_inb u⟩]
/-- The sixteen groups of a trip of chunk 7's loop. -/
abbrev lanes7 : List Lanes :=
  [⟨k0_off234 u, k0_off234_inb u, k0_off235 u, k0_off235_inb u⟩, ⟨k0_off236 u, k0_off236_inb u, k0_off237 u, k0_off237_inb u⟩,
   ⟨k0_off238 u, k0_off238_inb u, k0_off239 u, k0_off239_inb u⟩, ⟨k0_off240 u, k0_off240_inb u, k0_off241 u, k0_off241_inb u⟩,
   ⟨k0_off242 u, k0_off242_inb u, k0_off243 u, k0_off243_inb u⟩, ⟨k0_off244 u, k0_off244_inb u, k0_off245 u, k0_off245_inb u⟩,
   ⟨k0_off246 u, k0_off246_inb u, k0_off247 u, k0_off247_inb u⟩, ⟨k0_off248 u, k0_off248_inb u, k0_off249 u, k0_off249_inb u⟩,
   ⟨k0_off250 u, k0_off250_inb u, k0_off251 u, k0_off251_inb u⟩, ⟨k0_off252 u, k0_off252_inb u, k0_off253 u, k0_off253_inb u⟩,
   ⟨k0_off254 u, k0_off254_inb u, k0_off255 u, k0_off255_inb u⟩, ⟨k0_off256 u, k0_off256_inb u, k0_off257 u, k0_off257_inb u⟩,
   ⟨k0_off258 u, k0_off258_inb u, k0_off259 u, k0_off259_inb u⟩, ⟨k0_off260 u, k0_off260_inb u, k0_off261 u, k0_off261_inb u⟩,
   ⟨k0_off262 u, k0_off262_inb u, k0_off263 u, k0_off263_inb u⟩, ⟨k0_off264 u, k0_off264_inb u, k0_off265 u, k0_off265_inb u⟩]
end Lists

section Trips
variable (i : grid0.Coords)
  (arg2 : Memref sig .scVector .hbm S26x16384 .i32)
  (harg2 : arg2.IsWhole)
  (arg3 : Memref sig .scVector .hbm S26x32x100000 .f32)
  (harg3 : arg3.IsWhole)
  (arg4 : Memref sig .scVector .hbm S832x16384 .f32)
  (harg4 : arg4.IsWhole)
  (arg5 : Memref sig .scVector .vmem S100000 .f32)
  (harg5 : arg5.IsWhole)
  (arg6 : Memref sig .scVector .vmem S16384 .i32)
  (harg6 : arg6.IsWhole)
  (arg7 : Memref sig .scVector .vmem S2048 .f32)
  (harg7 : arg7.IsWhole)
  (arg8 : Memref sig .scVector .vmem S2048 .f32)
  (harg8 : arg8.IsWhole)
  (arg9 : DmaSems sig S_)
  (arg10 : DmaSems sig S_)
  (arg11 : DmaSems sig S_)
  (arg12 : DmaSems sig S_)
  (t : Fin k0_t1_loop.trips) (x y z : BitVec 32)

/-- A trip of chunk 0's loop is its sixteen groups. -/
theorem trip0_eq : k0_t2_body (F := F) i arg2 harg2 arg3 harg3 arg4 harg4 arg5 harg5 arg6 harg6 arg7 harg7 arg8 harg8 arg9 arg10 arg11 arg12 t x
    = fun u _ => laneSteps i arg5 arg6 arg7 (lanes0 u) := rfl
/-- A trip of chunk 1's loop is its sixteen groups. -/
theorem trip1_eq : k0_t3_body (F := F) i arg2 harg2 arg3 harg3 arg4 harg4 arg5 harg5 arg6 harg6 arg7 harg7 arg8 harg8 arg9 arg10 arg11 arg12 t x
    = fun u _ => laneSteps i arg5 arg6 arg8 (lanes1 u) := rfl
/-- A trip of chunk 2's loop is its sixteen groups. -/
theorem trip2_eq : k0_t4_body (F := F) i arg2 harg2 arg3 harg3 arg4 harg4 arg5 harg5 arg6 harg6 arg7 harg7 arg8 harg8 arg9 arg10 arg11 arg12 t x y
    = fun u _ => laneSteps i arg5 arg6 arg7 (lanes2 u) := rfl
/-- A trip of chunk 3's loop is its sixteen groups. -/
theorem trip3_eq : k0_t5_body (F := F) i arg2 harg2 arg3 harg3 arg4 harg4 arg5 harg5 arg6 harg6 arg7 harg7 arg8 harg8 arg9 arg10 arg11 arg12 t x y
    = fun u _ => laneSteps i arg5 arg6 arg8 (lanes3 u) := rfl
/-- A trip of chunk 4's loop is its sixteen groups. -/
theorem trip4_eq : k0_t6_body (F := F) i arg2 harg2 arg3 harg3 arg4 harg4 arg5 harg5 arg6 harg6 arg7 harg7 arg8 harg8 arg9 arg10 arg11 arg12 t x y
    = fun u _ => laneSteps i arg5 arg6 arg7 (lanes4 u) := rfl
/-- A trip of chunk 5's loop is its sixteen groups. -/
theorem trip5_eq : k0_t7_body (F := F) i arg2 harg2 arg3 harg3 arg4 harg4 arg5 harg5 arg6 harg6 arg7 harg7 arg8 harg8 arg9 arg10 arg11 arg12 x y z t
    = fun u _ => laneSteps i arg5 arg6 arg8 (lanes5 u) := rfl
/-- A trip of chunk 6's loop is its sixteen groups. -/
theorem trip6_eq : k0_t8_body (F := F) i arg2 harg2 arg3 harg3 arg4 harg4 arg5 harg5 arg6 harg6 arg7 harg7 arg8 harg8 arg9 arg10 arg11 arg12 x y z t
    = fun u _ => laneSteps i arg5 arg6 arg7 (lanes6 u) := rfl
/-- A trip of chunk 7's loop is its sixteen groups. -/
theorem trip7_eq : k0_t9_body (F := F) i arg2 harg2 arg3 harg3 arg4 harg4 arg5 harg5 arg6 harg6 arg7 harg7 arg8 harg8 arg9 arg10 arg11 arg12 x y z t
    = fun u _ => laneSteps i arg5 arg6 arg8 (lanes7 u) := rfl
end Trips

end Cert.Proof.KI
-- ==== Proof.KI.Chunk.lean ====
/-
  One chunk's gather loop: with an index row whose every entry names a word of the table row, eight trips of sixteen
  groups leave in the row buffer the 2048 gathered words of the chunk.
-/
module

public import Idealize.ShloMosaic.Lib.WritesUnit
public import proofs.«01_k».proof.Proof.KI.Trips

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The groups of a list follow one another: the first fills words `n` to `n + 15` of the row buffer from positions
    `b + n` to `b + n + 15` of the index row, and each later one the sixteen after. -/
def Follow (b : ℕ) : ℕ → List Lanes → Prop
  | _, [] => True
  | n, g :: gs => g.o = ![b + n] ∧ g.p = ![n] ∧ Follow b (n + 16) gs

/-- The groups of every trip of every chunk follow one another. -/
theorem follow (u : Fin k0_t2_loop.trips) :
    Follow 0 (256 * u.val) (lanes0 u) ∧ Follow 2048 (256 * u.val) (lanes1 u) ∧ Follow 4096 (256 * u.val) (lanes2 u)
      ∧ Follow 6144 (256 * u.val) (lanes3 u) ∧ Follow 8192 (256 * u.val) (lanes4 u) ∧ Follow 10240 (256 * u.val) (lanes5 u)
      ∧ Follow 12288 (256 * u.val) (lanes6 u) ∧ Follow 14336 (256 * u.val) (lanes7 u) := by
  refine ⟨?_, ?_, ?_, ?_, ?_, ?_, ?_, ?_⟩ <;>
  · simp only [Follow, _root_.and_true]
    repeat' apply And.intro
    all_goals
      refine ClosedOff.eq.trans ?_
      show (![_] : Fin 1 → ℕ) = ![_]
      exact congrArg (fun z => (![z] : Fin 1 → ℕ)) (by omega)

variable (d : Dev nD) (i : grid0.Coords)

/-- Lane `x` of a loaded group is the index row's entry at the group's place plus `x`. -/
theorem lane_index {g : Lanes} {k : ℕ} (ho : g.o = ![k]) (x : S16.Idx) :
    (Rect.unit (s := S16384) g.o S16.size g.ho).toLoadRect.idx x = at16384 (k + (x 0).val) := by
  funext a
  have hk := g.ho 0
  rw [ho] at hk
  have hx : (x 0).val < 16 := (x 0).isLt
  obtain rfl : a = 0 := Subsingleton.elim _ _
  apply Fin.ext
  show g.o 0 + 1 * (x 0).val = (k + (x 0).val) % 16384
  rw [ho]
  have hk' : k + 16 ≤ 16384 := hk
  show k + 1 * (x 0).val = (k + (x 0).val) % 16384
  omega

/-- One more group: a row buffer filled up to `n`, with sixteen gathered words stored at `n`, is filled up to `n + 16`. -/
theorem filled_step {row : Memref sig .scVector .vmem S2048 .f32} {Tb : S100000.Idx → Elt F .f32} {X : S16384.Idx → Elt F .i32}
    {b n : ℕ} {g : Lanes} (ho : g.o = ![b + n]) (hp : g.p = ![n]) (f : row.view.ty.Contents (Elt F))
    (hf : Filled Tb X b n (row.view.read (Elt F) f)) {w : S16.Idx → Elt F .f32}
    (hw : ∀ x : S16.Idx, w x = Tb (at100000 (X (at16384 (b + n + (x 0).val))).toNat)) :
    Filled Tb X b (n + 16)
      (row.view.read (Elt F) (row.view.writes (Elt F) f [⟨Rect.unit (s := S2048) g.p S16.size g.hp, w⟩])) := by
  intro y hy
  by_cases h : n ≤ (y 0).val
  · have hx : (y 0).val - n < S16.size 0 := by show _ < 16; omega
    rw [View.read_writes_cons_unit_of_mem row.view f g.hp w [] y (fun a => ⟨(y 0).val - n, by obtain rfl : a = 0 := Subsingleton.elim _ _; exact hx⟩) hp
      (fun a => by obtain rfl : a = 0 := Subsingleton.elim _ _; show (y 0).val = n + ((y 0).val - n); omega)]
    refine (hw _).trans ?_
    unfold want
    show Tb (at100000 (X (at16384 (b + n + ((y 0).val - n)))).toNat) = _
    rw [show b + n + ((y 0).val - n) = b + (y 0).val by omega]
  · rw [View.read_writes_cons_unit_of_not_mem row.view f g.hp w [] y hp 0 (.inl (by show _ < n; omega))]
    exact hf y (by omega)

/-- One group's run: the row buffer goes from filled up to `n` to filled up to `n + 16`. -/
theorem wp_laneStep {row : Memref sig .scVector .vmem S2048 .f32} {Tb : S100000.Idx → Elt F .f32} {X : S16384.Idx → Elt F .i32}
    (hX : InRange (F := F) X) {b n : ℕ} {g : Lanes} (ho : g.o = ![b + n]) (hp : g.p = ![n])
    {α : Type} {kk : PUnit → Prog (TpuEff nD τ sig (Elt F) Λ₀ (.scVector ((i 0).castLE hcore0) ((i 1).castLE hsub0))) α} {Q : α → sProp 𝕄}
    (f : Buf (Elt F) (row.view.loc (thr d i))) (hf : Filled Tb X b n (row.view.read (Elt F) f)) :
    iprop((sT.view.loc (thr d i) ↦{fullShare} Tb) ∗ (sX.view.loc (thr d i) ↦{fullShare} X) ∗ (row.view.loc (thr d i) ↦{fullShare} f))
      ⊢ (iprop((∀ f', ⌜Filled Tb X b (n + 16) (row.view.read (Elt F) f')⌝
            -∗ iprop((sT.view.loc (thr d i) ↦{fullShare} Tb) ∗ (sX.view.loc (thr d i) ↦{fullShare} X) ∗ (row.view.loc (thr d i) ↦{fullShare} f'))
            -∗ wp frame (wpE (defs₀ (F := F)) 𝒱₀ (thr d i) none) Set.univ (kk ⟨⟩) Q)
          -∗ wp frame (wpE (defs₀ (F := F)) 𝒱₀ (thr d i) none) Set.univ (laneStep i sT sX row g >>= kk) Q) : sProp 𝕄) := by
  unfold laneStep
  simp only [Prog.lift, Prog.bind_op, Prog.bind_ret, Prog.pure_eq_ret, Prog.bind_assoc]
  iintro ⟨HT, HX, HR⟩ Hk
  iapply (wp_load 𝒱₀ (thr d i) none Set.univ (m := sX) (S := Finset.univ) (Finset.subset_univ _)) $$ HX; iintro HX
  have hc : k0_chk1 (sX.view.readAt (Elt F) (Rect.unit (s := S16384) g.o S16.size g.ho).toLoadRect X) := by
    intro a x
    obtain rfl : a = 0 := Subsingleton.elim _ _
    exact hX ((Rect.unit (s := S16384) g.o S16.size g.ho).toLoadRect.idx x)
  rw [wp_assume_of _ _ _ _ hc]
  iapply (SparseCore.wp_vectorLoadIdx 𝒱₀ (thr d i) none Set.univ (base := sT) (S := Finset.univ) (q := fullShare) (Finset.subset_univ _)) $$ HT; iintro HT
  iapply (wp_load 𝒱₀ (thr d i) none Set.univ (m := row) (S := Finset.univ) (Finset.subset_univ _)) $$ HR; iintro HR
  have hw : ∀ x : S16.Idx, loadIdx ((sT.access (.whole S100000)).read (Elt F) Tb)
      ![sX.view.readAt (Elt F) (Rect.unit (s := S16384) g.o S16.size g.ho).toLoadRect X] (k0_idx1_inb _ hc) x
        = Tb (at100000 (X (at16384 (b + n + (x 0).val))).toNat) := by
    intro x
    show Tb ((Rect.whole S100000).emb (idxAt _ _ x)) = _
    rw [← lane_index ho x]
    have hr : (X ((Rect.unit (s := S16384) g.o S16.size g.ho).toLoadRect.idx x)).toNat < 100000 := hX _
    congr 1
    funext a
    apply Fin.ext
    obtain rfl : a = 0 := Subsingleton.elim _ _
    show 0 + 1 * (X ((Rect.unit (s := S16384) g.o S16.size g.ho).toLoadRect.idx x)).toNat
      = (X ((Rect.unit (s := S16384) g.o S16.size g.ho).toLoadRect.idx x)).toNat % 100000
    omega
  generalize loadIdx ((sT.access (.whole S100000)).read (Elt F) Tb)
      ![sX.view.readAt (Elt F) (Rect.unit (s := S16384) g.o S16.size g.ho).toLoadRect X] (k0_idx1_inb _ hc) = w at hw ⊢
  iapply (wp_store_writes₀ 𝒱₀ (thr d i) none Set.univ (m := row) (r := Rect.unit (s := S2048) g.p S16.size g.hp) (w := w) (f := f)
    (S := Finset.univ) (Finset.subset_univ _)) $$ HR; iintro HR
  iapply Hk $$ %_ [] [HT HX HR]
  · ipureintro
    exact filled_step ho hp f hf hw
  · isplitl [HT]; · iexact HT
    isplitl [HX]; · iexact HX
    iexact HR

/-- The groups of a list that follow one another, run in turn: the row buffer is filled sixteen words further by each. -/
theorem wp_laneSteps {row : Memref sig .scVector .vmem S2048 .f32} {Tb : S100000.Idx → Elt F .f32} {X : S16384.Idx → Elt F .i32}
    (hX : InRange (F := F) X) {b : ℕ} (gs : List Lanes) : ∀ (n : ℕ) (hg : Follow b n gs) (f : Buf (Elt F) (row.view.loc (thr d i)))
      (hf : Filled Tb X b n (row.view.read (Elt F) f)),
    (iprop((sT.view.loc (thr d i) ↦{fullShare} Tb) ∗ (sX.view.loc (thr d i) ↦{fullShare} X) ∗ (row.view.loc (thr d i) ↦{fullShare} f)) : sProp 𝕄)
      ⊢ wp frame (wpE (defs₀ (F := F)) 𝒱₀ (thr d i) none) Set.univ (laneSteps i sT sX row gs)
          fun _ => iprop(∃ f', ⌜Filled Tb X b (n + 16 * gs.length) (row.view.read (Elt F) f')⌝
            ∗ (sT.view.loc (thr d i) ↦{fullShare} Tb) ∗ (sX.view.loc (thr d i) ↦{fullShare} X) ∗ (row.view.loc (thr d i) ↦{fullShare} f')) := by
  induction gs with
  | nil =>
    intro n _ f hf
    simp only [laneSteps, Prog.pure_eq_ret]
    rw [wp_ret]
    iintro H; imodintro
    iexists f; isplitr
    · ipureintro; exact hf
    · iexact H
  | cons g gs ih =>
    intro n hg f hf
    obtain ⟨ho, hp, hrest⟩ := hg
    simp only [laneSteps]
    iintro H
    iapply (wp_laneStep d i hX ho hp f hf) $$ H
    iintro %f' %hf' H
    rw [show n + 16 * (g :: gs).length = (n + 16) + 16 * gs.length by rw [List.length_cons]; omega]
    iapply (ih (n + 16) hrest f' hf') $$ H

/-- One chunk's loop: eight trips of sixteen groups fill the row buffer with the chunk's gathered words, the table row
    and the index row as they were. -/
theorem wp_chunk {row : Memref sig .scVector .vmem S2048 .f32} {Tb : S100000.Idx → Elt F .f32} {X : S16384.Idx → Elt F .i32}
    (hX : InRange (F := F) X) {b : ℕ} {l : Fin k0_t2_loop.trips → List Lanes} (hl : ∀ u, Follow b (256 * u.val) (l u)) (hn : ∀ u, (l u).length = 16)
    {α : Type} {kk : Unit → Prog (TpuEff nD τ sig (Elt F) Λ₀ (.scVector ((i 0).castLE hcore0) ((i 1).castLE hsub0))) α} {Q : α → sProp 𝕄}
    (f : Buf (Elt F) (row.view.loc (thr d i))) :
    iprop((sT.view.loc (thr d i) ↦{fullShare} Tb) ∗ (sX.view.loc (thr d i) ↦{fullShare} X) ∗ (row.view.loc (thr d i) ↦{fullShare} f))
      ⊢ (iprop((∀ f', ⌜row.view.read (Elt F) f' = want Tb X b⌝
            -∗ iprop((sT.view.loc (thr d i) ↦{fullShare} Tb) ∗ (sX.view.loc (thr d i) ↦{fullShare} X) ∗ (row.view.loc (thr d i) ↦{fullShare} f'))
            -∗ wp frame (wpE (defs₀ (F := F)) 𝒱₀ (thr d i) none) Set.univ (kk ⟨⟩) Q)
          -∗ wp frame (wpE (defs₀ (F := F)) 𝒱₀ (thr d i) none) Set.univ
              (Scf.Loop.for k0_t2_loop k0_t2_ok ⟨⟩ (fun u _ => laneSteps i sT sX row (l u)) >>= kk) Q) : sProp 𝕄) := by
  iintro H Hk
  iapply (Scf.wp_for_bind frame (wpE (defs₀ (F := F)) 𝒱₀ (thr d i) none) Set.univ _ _ _ k0_t2_ok ⟨⟩ (fun u _ => laneSteps i sT sX row (l u))
    (fun k _ => iprop(∃ f', ⌜Filled Tb X b (256 * k) (row.view.read (Elt F) f')⌝
      ∗ (sT.view.loc (thr d i) ↦{fullShare} Tb) ∗ (sX.view.loc (thr d i) ↦{fullShare} X) ∗ (row.view.loc (thr d i) ↦{fullShare} f')))
    ?region) $$ [H]
  case region =>
    intro u _
    iintro ⟨%f', %hf', H⟩
    rw [show 256 * (u.val + 1) = 256 * u.val + 16 * (l u).length by rw [hn u]; omega]
    iapply (wp_laneSteps d i hX (l u) (256 * u.val) (hl u) f' hf') $$ H
  · iexists f; isplitr
    · ipureintro; intro y hy; exact absurd hy (by omega)
    · iexact H
  iintro %_ ⟨%f', %hf', H⟩
  iapply Hk $$ %f' [] H
  ipureintro
  funext y
  exact hf' y (show (y 0).val < 256 * 8 from (y 0).isLt)

end Cert.Proof.KI
-- ==== Proof.KI.Copies.lean ====
/-
  The tile's transfers: what a row buffer is while nothing, or a chunk's copy, is under way on its semaphore; a wait
  that brings a chunk home, and a chunk gathered and sent.
-/
module

public import Idealize.ShloMosaic.Lib.Transfers
public import proofs.«01_k».proof.Proof.KI.Geometry
public import proofs.«01_k».proof.Proof.KI.Chunk

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-- The first chunk's place in the output, which the waits name. -/
abbrev oZero : Memref sig .scVector .hbm S2048 .f32 := oPart ![0, 0] inb_S832x16384_S1x2048_0_0
/-- What a chunk's copy credits its semaphore. -/
abbrev nO : ℕ := oZero.view.dmaCredit

/-- What the thread owes, with the waits it has made. -/
def Ow (O : CellTallies nD τ sig (HIx 1)) (W : Waits sig (HIx 1)) : sProp 𝕄 :=
  iprop(∃ W', ⌜∀ p ∈ W', p ∈ W ∨ p.2 = none⌝ ∗ owes (thr d i) O W')

/-- The output words in a set, at contents `f`. -/
abbrev oPts (s : Finset S832x16384.Idx) (f : S832x16384.Idx → Elt F .f32) : sProp 𝕄 := iprop(oM.view.loc (thr d i) ↦[s]{fullShare} f)

/-- A row buffer with no copy under way. -/
def Idle (row : Memref sig .scVector .vmem S2048 .f32) (sem : DmaSem sig) : sProp 𝕄 :=
  iprop((∃ f, row.view.loc (thr d i) ↦{fullShare} f) ∗ semVal (thr d i, SemLoc.dma sem) 0)
/-- A row buffer whose copy to the tile's chunk `n` is under way. -/
def Pend (row : Memref sig .scVector .vmem S2048 .f32) (sem : DmaSem sig) (G : S832x16384.Idx → Elt F .f32) (n : ℕ) : sProp 𝕄 :=
  Transfers.Flight countersEmb (thr d i) (.dma sem) (none : HIx 1) nO
    iprop((∃ f, row.view.loc (thr d i) ↦{fullShare} f) ∗ oPts d i (chunkSet (row0 i) n) G)
/-- A row buffer at the head of pair `t`: before the first pair nothing is under way. -/
def Side (row : Memref sig .scVector .vmem S2048 .f32) (sem : DmaSem sig) (G : S832x16384.Idx → Elt F .f32) (t n : ℕ) : sProp 𝕄 :=
  if 0 < t then Pend d i row sem G n else Idle d i row sem

variable {O : CellTallies nD τ sig (HIx 1)} {W : Waits sig (HIx 1)} {G fo : S832x16384.Idx → Elt F .f32}

/-- A wait for chunk `n`'s copy: the row buffer is free and the chunk's words are written. -/
theorem wp_drain {row : Memref sig .scVector .vmem S2048 .f32} {sem : DmaSem sig} (n : ℕ)
    {h1 : row.view.WordExact} {h2 : oZero.view.WordExact}
    {α : Type} {k : PUnit → Prog (TpuEff nD τ sig (Elt F) Λ₀ (.scVector ((i 0).castLE hcore0) ((i 1).castLE hsub0))) α} {Q : α → sProp 𝕄} :
    iprop(Transfers.MayWaits (thr d i) (none : HIx 1) O ∗ Pend d i row sem G n ∗ Ow d i O W ∗ oPts d i (doneSet (row0 i) n) G)
      ⊢ (iprop((iprop(Idle d i row sem ∗ Ow d i O W ∗ oPts d i (doneSet (row0 i) (n + 1)) G)
            -∗ wp frame (wpE (defs₀ (F := F)) 𝒱₀ (thr d i) none) Set.univ (k ⟨⟩) Q)
          -∗ wp frame (wpE (defs₀ (F := F)) 𝒱₀ (thr d i) none) Set.univ (.op (.waitDma2 sem row oZero h1 h2) k) Q) : sProp 𝕄) := by
  unfold Pend Idle Ow
  iintro ⟨#Hmw, HF, ⟨%W', %hW', HO⟩, Hd⟩ Hk
  iapply (Transfers.wp_waitLocalO countersEmb 𝒱₀ (thr d i) none (none : HIx 1) (N := nO) rfl (O := O) (W := W')) $$ [HF HO]
  · isplitl [HF]; · iexact HF
    isplitl [HO]; · iexact HO
    iapply (Transfers.MayWaits.elim (SemLoc.dma sem)) $$ Hmw
  iintro ⟨⟨Hr, Hc⟩, Hs, HO⟩
  iapply Hk
  isplitl [Hr Hs]
  · isplitl [Hr]; · iexact Hr
    iexact Hs
  isplitl [HO]
  · iexists (insert (SemLoc.dma sem, none) W'); isplitr
    · ipureintro; intro p hp
      rcases Finset.mem_insert.mp hp with rfl | hp
      · exact .inr rfl
      · exact hW' p hp
    iexact HO
  rw [doneSet_succ]
  iapply (pointsTo_union (done_chunk_disjoint _ _)).2
  isplitl [Hd]; · iexact Hd
  iexact Hc

/-- The wait of a pair's first use of a row buffer, which the first pair skips. -/
theorem wp_drainIf {row : Memref sig .scVector .vmem S2048 .f32} {sem : DmaSem sig} (t : Fin k0_t1_loop.trips) (n m : ℕ) {c : BitVec 1}
    (hc : c = 1#1 ↔ 0 < t.val) (h0 : t.val = 0 → n = m) (hs : 0 < t.val → m = n + 1)
    {h1 : row.view.WordExact} {h2 : oZero.view.WordExact}
    {α : Type} {p : Prog (TpuEff nD τ sig (Elt F) Λ₀ (.scVector ((i 0).castLE hcore0) ((i 1).castLE hsub0))) α} {Q : α → sProp 𝕄} :
    iprop(Transfers.MayWaits (thr d i) (none : HIx 1) O ∗ Side d i row sem G t.val n ∗ Ow d i O W ∗ oPts d i (doneSet (row0 i) n) G)
      ⊢ (iprop((iprop(Idle d i row sem ∗ Ow d i O W ∗ oPts d i (doneSet (row0 i) m) G)
            -∗ wp frame (wpE (defs₀ (F := F)) 𝒱₀ (thr d i) none) Set.univ p Q)
          -∗ wp frame (wpE (defs₀ (F := F)) 𝒱₀ (thr d i) none) Set.univ
              (if h : c = 1#1 then (.op (.waitDma2 sem row oZero h1 h2) fun _ => p) else p) Q) : sProp 𝕄) := by
  unfold Side
  by_cases ht : 0 < t.val
  · rw [if_pos ht, dif_pos (hc.mpr ht), hs ht]
    exact wp_drain (F := F) d i n (k := fun _ => p)
  · rw [if_neg ht, dif_neg (fun h => ht (hc.mp h)), h0 (by omega)]
    iintro ⟨-, H⟩ Hk
    iapply Hk $$ H

/-- A chunk gathered and sent: the tile's chunk `n = 8 t + c` leaves the words still to write and is under way. -/
theorem wp_fill {row : Memref sig .scVector .vmem S2048 .f32} (hrow : row.view.set = Finset.univ) {sem : DmaSem sig}
    {X : S26x16384.Idx → Elt F .i32} {Tt : S26x32x100000.Idx → Elt F .f32} (t : Fin k0_t1_loop.trips) (c : ℕ) (hc : c < 8)
    (hX : InRange (F := F) (xrow X (row0 i + t.val))) (hG : G = outW X Tt)
    {l : Fin k0_t2_loop.trips → List Lanes} (hl : ∀ u, Follow (2048 * c) (256 * u.val) (l u)) (hn : ∀ u, (l u).length = 16)
    {off : Fin 2 → ℕ} {inb : ∀ a, off a + S1x2048.size a ≤ S832x16384.size a} (ho : off = ![row0 i + t.val, 2048 * c])
    {h1 : row.view.WordExact} {h2 : (oPart off inb).view.WordExact} {h3 : DmaTarget.Typed (nD := nD) (τ := τ) (p := .scVector (cV i) (jV i)) .vmem (SemLoc.dma sem) (.here (oPart off inb))}
    {α : Type} {k : PUnit → Prog (TpuEff nD τ sig (Elt F) Λ₀ (.scVector ((i 0).castLE hcore0) ((i 1).castLE hsub0))) α} {Q : α → sProp 𝕄} :
    iprop(Idle d i row sem ∗ (sT.view.loc (thr d i) ↦{fullShare} trow Tt (row0 i + t.val)) ∗ (sX.view.loc (thr d i) ↦{fullShare} xrow X (row0 i + t.val))
        ∗ oPts d i (todoSet (row0 i) (8 * t.val + c)) fo)
      ⊢ (iprop((iprop(Pend d i row sem G (8 * t.val + c) ∗ (sT.view.loc (thr d i) ↦{fullShare} trow Tt (row0 i + t.val))
                ∗ (sX.view.loc (thr d i) ↦{fullShare} xrow X (row0 i + t.val)) ∗ oPts d i (todoSet (row0 i) (8 * t.val + c + 1)) fo)
            -∗ wp frame (wpE (defs₀ (F := F)) 𝒱₀ (thr d i) none) Set.univ (k ⟨⟩) Q)
          -∗ wp frame (wpE (defs₀ (F := F)) 𝒱₀ (thr d i) none) Set.univ
              (Scf.Loop.for k0_t2_loop k0_t2_ok ⟨⟩ (fun u _ => laneSteps i sT sX row (l u))
                >>= fun _ => .op (.enqueueDma row (.here (oPart off inb)) (.dma sem) h1 h2 h3) k) Q) : sProp 𝕄) := by
  subst hG
  unfold Idle Pend
  iintro ⟨⟨⟨%f, Hr⟩, Hs⟩, HT, HX, Ho⟩ Hk
  iapply (wp_chunk d i hX hl hn f) $$ [HT HX Hr]
  · isplitl [HT]; · iexact HT
    isplitl [HX]; · iexact HX
    iexact Hr
  iintro %f' %hf' ⟨HT, HX, Hr⟩
  rw [todoSet_split]
  ihave Ho := (pointsTo_union (chunk_todo_disjoint _ _)).1 $$ Ho
  icases Ho with ⟨Hc, Ho⟩
  have hset := set_oPart (row0 i) t.val c (trip_lt t) hc inb ho
  have hval := write_oPart (row0 i) t.val c inb ho X Tt fo
  iapply (Transfers.wp_dmaLocal countersEmb 𝒱₀ (thr d i) none (src := row) (dst := oPart off inb) (q := fullShare) (fs := f') (fd := fo)
      (none : HIx 1) nO rfl (View.amount_pos _ (SemLoc.dma sem) (show 0 < S2048.numel by decide)) (Finset.Subset.refl _)) $$ [Hr Hc Hs]
  · rw [hrow, hset]
    isplitl [Hr]; · iexact Hr
    isplitl [Hc]; · iexact Hc
    iexact Hs
  iintro HF
  iapply Hk
  isplitl [HF]
  · iapply (Transfers.Flight_mono countersEmb (thr d i) ?_) $$ HF
    iintro ⟨Hc, Hr⟩
    isplitl [Hr]
    · iexists f'; rw [hrow]; iexact Hr
    iapply (Entails.of_eq (pointsTo_congr (ℓ := oM.view.loc (thr d i)) (q := fullShare) fun z hz => ?_)) $$ [Hc]
    rotate_left
    · rw [← hset]; iexact Hc
    rw [← hset] at hz
    exact (congrArg (fun w => (oPart off inb).view.write (Elt F) fo w Finset.univ z) hf').trans (hval z hz)
  isplitl [HT]; · iexact HT
  isplitl [HX]; · iexact HX
  iexact Ho

end Cert.Proof.KI
-- ==== Proof.KI.Fetch.lean ====
/-
  A pair's two fetches: the table row, started at the pair's head and waited for before the first gather, and the index
  row, fetched when the pair's field is new.
-/
module

public import proofs.«01_k».proof.Proof.KI.Copies

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-- The semaphores of the table row's fetch, the index row's, and the two row buffers' copies. -/
abbrev sst : DmaSem sig := cc0_scratch4.sem
abbrev ssx : DmaSem sig := cc0_scratch5.sem
abbrev ssa : DmaSem sig := cc0_scratch6.sem
abbrev ssb : DmaSem sig := cc0_scratch7.sem

abbrev nT : ℕ := sT.view.dmaCredit
abbrev nX : ℕ := sX.view.dmaCredit

/-- The first rows, which the waits name. -/
abbrev tZero : Memref sig .scVector .hbm S100000 .f32 :=
  (tM.slice (Rect.unit (s := S26x32x100000) ![0, 0, 0] S1x1x100000.size inb_S26x32x100000_S1x1x100000_0_0_0) (fun _ => rfl)).squeeze S100000 squeezes_S1x1x100000_S100000
abbrev xZero : Memref sig .scVector .hbm S16384 .i32 :=
  (xM.slice (Rect.unit (s := S26x16384) ![0, 0] S1x16384.size inb_S26x16384_S1x16384_0_0) (fun _ => rfl)).squeeze S16384 squeezes_S1x16384_S16384

variable {O : CellTallies nD τ sig (HIx 1)} {W : Waits sig (HIx 1)} {X : S26x16384.Idx → Elt F .i32} {Tt : S26x32x100000.Idx → Elt F .f32}
  {q : PosShare TreeShare}

/-- The table row of pair `t` under way, with the rest of the share of the tables kept aside. -/
def Fetching (q : PosShare TreeShare) (Tt : S26x32x100000.Idx → Elt F .f32) (t : Fin k0_t1_loop.trips) : sProp 𝕄 :=
  iprop(Transfers.Flight countersEmb (thr d i) (.dma sst) (none : HIx 1) nT
      iprop((sT.view.loc (thr d i) ↦{fullShare} trow Tt (row0 i + t.val)) ∗ (tM.view.loc (thr d i) ↦[(tRow i t).view.set]{q} Tt))
    ∗ (tM.view.loc (thr d i) ↦[Finset.univ \ (tRow i t).view.set]{q} Tt))

theorem wp_fetch_start (t : Fin k0_t1_loop.trips) (f : S100000.Idx → Elt F .f32)
    {h1 : (tRow i t).view.WordExact} {h2 : sT.view.WordExact} {h3 : DmaTarget.Typed (nD := nD) (τ := τ) (p := .scVector (cV i) (jV i)) .hbm (SemLoc.dma sst) (.here sT)}
    {α : Type} {k : PUnit → Prog (TpuEff nD τ sig (Elt F) Λ₀ (.scVector ((i 0).castLE hcore0) ((i 1).castLE hsub0))) α} {Q : α → sProp 𝕄} :
    iprop((tM.view.loc (thr d i) ↦{q} Tt) ∗ (sT.view.loc (thr d i) ↦{fullShare} f) ∗ semVal (thr d i, SemLoc.dma sst) 0)
      ⊢ (iprop((Fetching d i q Tt t -∗ wp frame (wpE (defs₀ (F := F)) 𝒱₀ (thr d i) none) Set.univ (k ⟨⟩) Q))
          -∗ wp frame (wpE (defs₀ (F := F)) 𝒱₀ (thr d i) none) Set.univ (.op (.enqueueDma (tRow i t) (.here sT) (.dma sst) h1 h2 h3) k) Q : sProp 𝕄) := by
  unfold Fetching
  iintro ⟨HT, Hs, Hv⟩ Hk
  ihave HT := (pointsTo_split_subset (ℓ := tM.view.loc (thr d i)) (S := Finset.univ) (I := (tRow i t).view.set) (Finset.subset_univ _)).1 $$ HT
  icases HT with ⟨HT, Hrest⟩
  iapply (Transfers.wp_dmaLocal countersEmb 𝒱₀ (thr d i) none (src := tRow i t) (dst := sT) (q := q) (fs := Tt) (fd := f) (Sd := Finset.univ)
      (none : HIx 1) nT rfl (View.amount_pos _ (SemLoc.dma sst) (show 0 < S100000.numel by decide)) (Finset.subset_univ _)) $$ [HT Hs Hv]
  · isplitl [HT]; · iexact HT
    isplitl [Hs]; · iexact Hs
    iexact Hv
  iintro HF
  iapply Hk
  isplitl [HF]
  · iapply (Transfers.Flight_mono countersEmb (thr d i) ?_) $$ HF
    iintro ⟨Hs, HT⟩
    isplitl [Hs]
    · iapply (Entails.of_eq (congrArg (fun w => (sT.view.loc (thr d i) ↦{fullShare} w : sProp 𝕄)) ?_)) $$ Hs
      exact (View.write_whole_univ _ _ _).trans (read_tRow i t Tt)
    · iexact HT
  · iexact Hrest

theorem wp_fetch_wait (t : Fin k0_t1_loop.trips)
    {h1 : tZero.view.WordExact} {h2 : sT.view.WordExact}
    {α : Type} {k : PUnit → Prog (TpuEff nD τ sig (Elt F) Λ₀ (.scVector ((i 0).castLE hcore0) ((i 1).castLE hsub0))) α} {Q : α → sProp 𝕄} :
    iprop(Transfers.MayWaits (thr d i) (none : HIx 1) O ∗ Fetching d i q Tt t ∗ Ow d i O W)
      ⊢ (iprop((iprop((tM.view.loc (thr d i) ↦{q} Tt) ∗ (sT.view.loc (thr d i) ↦{fullShare} trow Tt (row0 i + t.val))
              ∗ semVal (thr d i, SemLoc.dma sst) 0 ∗ Ow d i O W)
            -∗ wp frame (wpE (defs₀ (F := F)) 𝒱₀ (thr d i) none) Set.univ (k ⟨⟩) Q)
          -∗ wp frame (wpE (defs₀ (F := F)) 𝒱₀ (thr d i) none) Set.univ (.op (.waitDma2 sst tZero sT h1 h2) k) Q) : sProp 𝕄) := by
  unfold Fetching Ow
  iintro ⟨#Hmw, ⟨HF, Hrest⟩, ⟨%W', %hW', HO⟩⟩ Hk
  iapply (Transfers.wp_waitLocalO countersEmb 𝒱₀ (thr d i) none (none : HIx 1) (N := nT) rfl (O := O) (W := W')) $$ [HF HO]
  · isplitl [HF]; · iexact HF
    isplitl [HO]; · iexact HO
    iapply (Transfers.MayWaits.elim (SemLoc.dma sst)) $$ Hmw
  iintro ⟨⟨Hs, HT⟩, Hv, HO⟩
  iapply Hk
  isplitl [HT Hrest]
  · iapply (pointsTo_split_subset (ℓ := tM.view.loc (thr d i)) (S := Finset.univ) (I := (tRow i t).view.set) (Finset.subset_univ _)).2
    isplitl [HT]; · iexact HT
    iexact Hrest
  isplitl [Hs]; · iexact Hs
  isplitl [Hv]; · iexact Hv
  iexists (insert (SemLoc.dma sst, none) W'); isplitr
  · ipureintro; intro p hp
    rcases Finset.mem_insert.mp hp with rfl | hp
    · exact .inr rfl
    · exact hW' p hp
  iexact HO

/-- The index row of pair `t`: fetched, or already there from the pair before. -/
theorem wp_fetch_index (t : Fin k0_t1_loop.trips) (f : S16384.Idx → Elt F .i32) (hf : 0 < t.val → f = xrow X (row0 i + (t.val - 1)))
    {h1 : ∀ h, (xRow i t h).view.WordExact} {h2 : sX.view.WordExact}
    {h3 : DmaTarget.Typed (nD := nD) (τ := τ) (p := .scVector (cV i) (jV i)) .hbm (SemLoc.dma ssx) (.here sX)} {h4 : xZero.view.WordExact}
    {α : Type} {p : Prog (TpuEff nD τ sig (Elt F) Λ₀ (.scVector ((i 0).castLE hcore0) ((i 1).castLE hsub0))) α} {Q : α → sProp 𝕄} :
    iprop(Transfers.MayWaits (thr d i) (none : HIx 1) O ∗ (xM.view.loc (thr d i) ↦{q} X) ∗ (sX.view.loc (thr d i) ↦{fullShare} f)
        ∗ semVal (thr d i, SemLoc.dma ssx) 0 ∗ Ow d i O W)
      ⊢ (iprop((iprop((xM.view.loc (thr d i) ↦{q} X) ∗ (sX.view.loc (thr d i) ↦{fullShare} xrow X (row0 i + t.val))
              ∗ semVal (thr d i, SemLoc.dma ssx) 0 ∗ Ow d i O W)
            -∗ wp frame (wpE (defs₀ (F := F)) 𝒱₀ (thr d i) none) Set.univ p Q)
          -∗ wp frame (wpE (defs₀ (F := F)) 𝒱₀ (thr d i) none) Set.univ
              (if h : k0_cond1 i t = 1#1 then (.op (.enqueueDma (xRow i t h) (.here sX) (.dma ssx) (h1 h) h2 h3) fun _ =>
                  .op (.waitDma2 ssx xZero sX h4 h2) fun _ => p) else p) Q) : sProp 𝕄) := by
  by_cases hc : k0_cond1 i t = 1#1
  · rw [dif_pos hc]
    unfold Ow
    iintro ⟨#Hmw, HX, Hs, Hv, ⟨%W', %hW', HO⟩⟩ Hk
    ihave HX := (pointsTo_split_subset (ℓ := xM.view.loc (thr d i)) (S := Finset.univ) (I := (xRow i t hc).view.set) (Finset.subset_univ _)).1 $$ HX
    icases HX with ⟨HX, Hrest⟩
    iapply (Transfers.wp_dmaLocal countersEmb 𝒱₀ (thr d i) none (src := xRow i t hc) (dst := sX) (q := q) (fs := X) (fd := f) (Sd := Finset.univ)
        (none : HIx 1) nX rfl (View.amount_pos _ (SemLoc.dma ssx) (show 0 < S16384.numel by decide)) (Finset.subset_univ _)) $$ [HX Hs Hv]
    · isplitl [HX]; · iexact HX
      isplitl [Hs]; · iexact Hs
      iexact Hv
    iintro HF
    iapply (Transfers.wp_waitLocalO countersEmb 𝒱₀ (thr d i) none (none : HIx 1) (N := nX) rfl (O := O) (W := W')) $$ [HF HO]
    · isplitl [HF]; · iexact HF
      isplitl [HO]; · iexact HO
      iapply (Transfers.MayWaits.elim (SemLoc.dma ssx)) $$ Hmw
    iintro ⟨⟨Hs, HX⟩, Hv, HO⟩
    iapply Hk
    isplitl [HX Hrest]
    · iapply (pointsTo_split_subset (ℓ := xM.view.loc (thr d i)) (S := Finset.univ) (I := (xRow i t hc).view.set) (Finset.subset_univ _)).2
      isplitl [HX]; · iexact HX
      iexact Hrest
    isplitl [Hs]
    · iapply (Entails.of_eq (congrArg (fun w => (sX.view.loc (thr d i) ↦{fullShare} w : sProp 𝕄)) ?_)) $$ Hs
      exact (View.write_whole_univ _ _ _).trans (read_xRow i t hc X)
    isplitl [Hv]; · iexact Hv
    iexists (insert (SemLoc.dma ssx, none) W'); isplitr
    · ipureintro; intro p hp
      rcases Finset.mem_insert.mp hp with rfl | hp
      · exact .inr rfl
      · exact hW' p hp
    iexact HO
  · rw [dif_neg hc]
    obtain ⟨ht, he⟩ := same_field i t hc
    have hx : f = xrow X (row0 i + t.val) := (hf ht).trans (by unfold xrow; rw [he])
    subst hx
    iintro ⟨-, HX, Hs, Hv, HO⟩ Hk
    iapply Hk
    isplitl [HX]; · iexact HX
    isplitl [Hs]; · iexact Hs
    isplitl [Hv]; · iexact Hv
    iexact HO

end Cert.Proof.KI
-- ==== Proof.KI.Tile.lean ====
/-
  One tile's run: a pair (a table row against an index row) in eight gathered chunks, and the 26 pairs of the tile.
-/
module

public import proofs.«01_k».proof.Proof.KI.Fetch

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-- The tables and the indices a tile reads, at its shares. -/
abbrev Inputs (qx qt : PosShare TreeShare) (X : S26x16384.Idx → Elt F .i32) (Tt : S26x32x100000.Idx → Elt F .f32) : sProp 𝕄 :=
  iprop((xM.view.loc (thr d i) ↦{qx} X) ∗ (tM.view.loc (thr d i) ↦{qt} Tt))

/-- At the head of pair `t`: what was sent before the last two chunks is written, those two are under way, the index row
    is that of the pair before. -/
def PairInv (O : CellTallies nD τ sig (HIx 1)) (W : Waits sig (HIx 1)) (qx qt : PosShare TreeShare)
    (X : S26x16384.Idx → Elt F .i32) (Tt : S26x32x100000.Idx → Elt F .f32) (fo : S832x16384.Idx → Elt F .f32) (t : ℕ) : sProp 𝕄 :=
  iprop((xM.view.loc (thr d i) ↦{qx} X) ∗ (tM.view.loc (thr d i) ↦{qt} Tt)
    ∗ (∃ f, sT.view.loc (thr d i) ↦{fullShare} f)
    ∗ (∃ f : S16384.Idx → Elt F .i32, ⌜0 < t → f = xrow X (row0 i + (t - 1))⌝ ∗ (sX.view.loc (thr d i) ↦{fullShare} f))
    ∗ semVal (thr d i, SemLoc.dma sst) 0 ∗ semVal (thr d i, SemLoc.dma ssx) 0
    ∗ Side d i sA ssa (outW X Tt) t (8 * t - 2) ∗ Side d i sB ssb (outW X Tt) t (8 * t - 1)
    ∗ Ow d i O W ∗ oPts d i (doneSet (row0 i) (8 * t - 2)) (outW X Tt) ∗ oPts d i (todoSet (row0 i) (8 * t)) fo)

variable {O : CellTallies nD τ sig (HIx 1)} {W : Waits sig (HIx 1)} {X : S26x16384.Idx → Elt F .i32} {Tt : S26x32x100000.Idx → Elt F .f32}
  {fo : S832x16384.Idx → Elt F .f32} {qx qt : PosShare TreeShare}

theorem xrow_inRange (hX : ∀ y, (X y).toNat < 100000) (p : ℕ) : InRange (F := F) (xrow X p) := fun _ => hX _

theorem set_sA : sA.view.set = Finset.univ := View.set_whole _
theorem set_sB : sB.view.set = Finset.univ := View.set_whole _

/-- The rows of pair `t` in the tile's scratch. -/
abbrev Rows (X : S26x16384.Idx → Elt F .i32) (Tt : S26x32x100000.Idx → Elt F .f32) (t : ℕ) : sProp 𝕄 :=
  iprop((sT.view.loc (thr d i) ↦{fullShare} trow Tt (row0 i + t)) ∗ (sX.view.loc (thr d i) ↦{fullShare} xrow X (row0 i + t)))

/-- The pair's head: the table row started, the index row at hand. -/
theorem wp_part25 (t : Fin k0_t1_loop.trips) (v2 : BitVec 32) (fT : S100000.Idx → Elt F .f32) (fX : S16384.Idx → Elt F .i32)
    (hfX : 0 < t.val → fX = xrow X (row0 i + (t.val - 1)))
    {α : Type} {k : BitVec 32 → Prog (TpuEff nD τ sig (Elt F) Λ₀ (.scVector ((i 0).castLE hcore0) ((i 1).castLE hsub0))) α} {Q : α → sProp 𝕄} :
    iprop(Transfers.MayWaits (thr d i) (none : HIx 1) O ∗ Inputs d i qx qt X Tt ∗ (sT.view.loc (thr d i) ↦{fullShare} fT) ∗ (sX.view.loc (thr d i) ↦{fullShare} fX)
        ∗ semVal (thr d i, SemLoc.dma sst) 0 ∗ semVal (thr d i, SemLoc.dma ssx) 0 ∗ Ow d i O W)
      ⊢ (iprop((iprop(Fetching d i qt Tt t ∗ (xM.view.loc (thr d i) ↦{qx} X) ∗ (sX.view.loc (thr d i) ↦{fullShare} xrow X (row0 i + t.val))
              ∗ semVal (thr d i, SemLoc.dma ssx) 0 ∗ Ow d i O W)
            -∗ wp frame (wpE (defs₀ (F := F)) 𝒱₀ (thr d i) none) Set.univ (k (Scf.iv 0#32 1#32 t)) Q)
          -∗ wp frame (wpE (defs₀ (F := F)) 𝒱₀ (thr d i) none) Set.univ (k0_part25 i xM (Memref.isWhole_whole _) tM (Memref.isWhole_whole _) oM (Memref.isWhole_whole _) sT (Memref.isWhole_whole _)
            sX (Memref.isWhole_whole _) sA (Memref.isWhole_whole _) sB (Memref.isWhole_whole _) cc0_scratch4 cc0_scratch5 cc0_scratch6 cc0_scratch7 v2 0#32 1#32 t >>= k) Q) : sProp 𝕄) := by
  rw [wp_bind]
  simp only [k0_part25_eq_skeleton, k0_part25_skel]
  simp only [Prog.lift, Prog.bind_op, Prog.bind_ret, Prog.pure_eq_ret, Prog.bind_assoc]
  iintro ⟨#Hmw, ⟨HX, HT⟩, HsT, HsX, Hvt, Hvx, HO⟩ Hk
  iapply (wp_fetch_start d i t fT) $$ [HT HsT Hvt]
  · isplitl [HT]; · iexact HT
    isplitl [HsT]; · iexact HsT
    iexact Hvt
  iintro HF
  iapply (wp_fetch_index d i t fX hfX) $$ [HX HsX Hvx HO]
  · isplitr; · iexact Hmw
    isplitl [HX]; · iexact HX
    isplitl [HsX]; · iexact HsX
    isplitl [Hvx]; · iexact Hvx
    iexact HO
  iintro ⟨HX, HsX, Hvx, HO⟩
  rw [wp_ret]; imodintro
  iapply Hk
  isplitl [HF]; · iexact HF
  isplitl [HX]; · iexact HX
  isplitl [HsX]; · iexact HsX
  isplitl [Hvx]; · iexact Hvx
  iexact HO

/-- The table row waited for, the pair's first two chunks sent, and the first one's copy waited for. -/
theorem wp_part26 (hX : ∀ y, (X y).toNat < 100000) (t : Fin k0_t1_loop.trips)
    {α : Type} {k : (Σ' (_ : BitVec 32), BitVec 32) → Prog (TpuEff nD τ sig (Elt F) Λ₀ (.scVector ((i 0).castLE hcore0) ((i 1).castLE hsub0))) α} {Q : α → sProp 𝕄} :
    iprop(Transfers.MayWaits (thr d i) (none : HIx 1) O ∗ Fetching d i qt Tt t ∗ (sX.view.loc (thr d i) ↦{fullShare} xrow X (row0 i + t.val)) ∗ Ow d i O W
        ∗ Side d i sA ssa (outW X Tt) t.val (8 * t.val - 2) ∗ Side d i sB ssb (outW X Tt) t.val (8 * t.val - 1)
        ∗ oPts d i (doneSet (row0 i) (8 * t.val - 2)) (outW X Tt) ∗ oPts d i (todoSet (row0 i) (8 * t.val)) fo)
      ⊢ (iprop((∀ r, iprop((tM.view.loc (thr d i) ↦{qt} Tt) ∗ semVal (thr d i, SemLoc.dma sst) 0 ∗ Rows d i X Tt t.val ∗ Ow d i O W
              ∗ Idle d i sA ssa ∗ Pend d i sB ssb (outW X Tt) (8 * t.val + 1)
              ∗ oPts d i (doneSet (row0 i) (8 * t.val + 1)) (outW X Tt) ∗ oPts d i (todoSet (row0 i) (8 * t.val + 2)) fo)
            -∗ wp frame (wpE (defs₀ (F := F)) 𝒱₀ (thr d i) none) Set.univ (k r) Q)
          -∗ wp frame (wpE (defs₀ (F := F)) 𝒱₀ (thr d i) none) Set.univ (k0_part26 i xM (Memref.isWhole_whole _) tM (Memref.isWhole_whole _) oM (Memref.isWhole_whole _) sT (Memref.isWhole_whole _)
            sX (Memref.isWhole_whole _) sA (Memref.isWhole_whole _) sB (Memref.isWhole_whole _) cc0_scratch4 cc0_scratch5 cc0_scratch6 cc0_scratch7 t (Scf.iv 0#32 1#32 t) >>= k) Q) : sProp 𝕄) := by
  rw [wp_bind]
  simp only [k0_part26_eq_skeleton, k0_part26_skel, trip0_eq, trip1_eq]
  simp only [Prog.lift, Prog.bind_op, Prog.bind_ret, Prog.pure_eq_ret, Prog.bind_assoc]
  iintro ⟨#Hmw, HF, HsX, HO, HA, HB, Hd, Ho⟩ Hk
  iapply (wp_fetch_wait d i t) $$ [HF HO]
  · isplitr; · iexact Hmw
    isplitl [HF]; · iexact HF
    iexact HO
  iintro ⟨HT, HsT, Hvt, HO⟩
  iapply (wp_drainIf d i t (8 * t.val - 2) (8 * t.val - 1) (waits_iff t) (by omega) (by omega)) $$ [HA HO Hd]
  · isplitr; · iexact Hmw
    isplitl [HA]; · iexact HA
    isplitl [HO]; · iexact HO
    iexact Hd
  iintro ⟨HA, HO, Hd⟩
  iapply (wp_fill d i set_sA t 0 (by omega) (xrow_inRange hX _) rfl (fun u => (follow u).1) (fun _ => rfl) (k0_off35_eq i t)) $$ [HA HsT HsX Ho]
  · isplitl [HA]; · iexact HA
    isplitl [HsT]; · iexact HsT
    isplitl [HsX]; · iexact HsX
    iexact Ho
  iintro ⟨HA, HsT, HsX, Ho⟩
  iapply (wp_drainIf d i t (8 * t.val - 1) (8 * t.val) (waits_iff t) (by omega) (by omega)) $$ [HB HO Hd]
  · isplitr; · iexact Hmw
    isplitl [HB]; · iexact HB
    isplitl [HO]; · iexact HO
    iexact Hd
  iintro ⟨HB, HO, Hd⟩
  iapply (wp_fill d i set_sB t 1 (by omega) (xrow_inRange hX _) rfl (fun u => (follow u).2.1) (fun _ => rfl) (k0_off68_eq i t)) $$ [HB HsT HsX Ho]
  · isplitl [HB]; · iexact HB
    isplitl [HsT]; · iexact HsT
    isplitl [HsX]; · iexact HsX
    iexact Ho
  iintro ⟨HB, HsT, HsX, Ho⟩
  iapply (wp_drain d i (8 * t.val)) $$ [HA HO Hd]
  · isplitr; · iexact Hmw
    isplitl [HA]; · iexact HA
    isplitl [HO]; · iexact HO
    iexact Hd
  iintro ⟨HA, HO, Hd⟩
  rw [wp_ret]; imodintro
  iapply Hk
  isplitl [HT]; · iexact HT
  isplitl [Hvt]; · iexact Hvt
  isplitl [HsT HsX]
  · isplitl [HsT]; · iexact HsT
    iexact HsX
  isplitl [HO]; · iexact HO
  isplitl [HA]; · iexact HA
  isplitl [HB]; · iexact HB
  isplitl [Hd]; · iexact Hd
  iexact Ho

/-- The pair's third to fifth chunks sent, and the second and third ones' copies waited for. -/
theorem wp_part27 (hX : ∀ y, (X y).toNat < 100000) (t : Fin k0_t1_loop.trips) (x y : BitVec 32)
    {α : Type} {k : PUnit → Prog (TpuEff nD τ sig (Elt F) Λ₀ (.scVector ((i 0).castLE hcore0) ((i 1).castLE hsub0))) α} {Q : α → sProp 𝕄} :
    iprop(Transfers.MayWaits (thr d i) (none : HIx 1) O ∗ Rows d i X Tt t.val ∗ Ow d i O W
        ∗ Idle d i sA ssa ∗ Pend d i sB ssb (outW X Tt) (8 * t.val + 1)
        ∗ oPts d i (doneSet (row0 i) (8 * t.val + 1)) (outW X Tt) ∗ oPts d i (todoSet (row0 i) (8 * t.val + 2)) fo)
      ⊢ (iprop((iprop(Rows d i X Tt t.val ∗ Ow d i O W
              ∗ Pend d i sA ssa (outW X Tt) (8 * t.val + 4) ∗ Pend d i sB ssb (outW X Tt) (8 * t.val + 3)
              ∗ oPts d i (doneSet (row0 i) (8 * t.val + 3)) (outW X Tt) ∗ oPts d i (todoSet (row0 i) (8 * t.val + 5)) fo)
            -∗ wp frame (wpE (defs₀ (F := F)) 𝒱₀ (thr d i) none) Set.univ (k ⟨⟩) Q)
          -∗ wp frame (wpE (defs₀ (F := F)) 𝒱₀ (thr d i) none) Set.univ (k0_part27 i xM (Memref.isWhole_whole _) tM (Memref.isWhole_whole _) oM (Memref.isWhole_whole _) sT (Memref.isWhole_whole _)
            sX (Memref.isWhole_whole _) sA (Memref.isWhole_whole _) sB (Memref.isWhole_whole _) cc0_scratch4 cc0_scratch5 cc0_scratch6 cc0_scratch7 t x y >>= k) Q) : sProp 𝕄) := by
  rw [wp_bind]
  simp only [k0_part27_eq_skeleton, k0_part27_skel, trip2_eq, trip3_eq, trip4_eq]
  simp only [Prog.lift, Prog.bind_op, Prog.bind_ret, Prog.pure_eq_ret, Prog.bind_assoc]
  iintro ⟨#Hmw, ⟨HsT, HsX⟩, HO, HA, HB, Hd, Ho⟩ Hk
  iapply (wp_fill d i set_sA t 2 (by omega) (xrow_inRange hX _) rfl (fun u => (follow u).2.2.1) (fun _ => rfl) (k0_off101_eq i t)) $$ [HA HsT HsX Ho]
  · isplitl [HA]; · iexact HA
    isplitl [HsT]; · iexact HsT
    isplitl [HsX]; · iexact HsX
    iexact Ho
  iintro ⟨HA, HsT, HsX, Ho⟩
  iapply (wp_drain d i (8 * t.val + 1)) $$ [HB HO Hd]
  · isplitr; · iexact Hmw
    isplitl [HB]; · iexact HB
    isplitl [HO]; · iexact HO
    iexact Hd
  iintro ⟨HB, HO, Hd⟩
  iapply (wp_fill d i set_sB t 3 (by omega) (xrow_inRange hX _) rfl (fun u => (follow u).2.2.2.1) (fun _ => rfl) (k0_off134_eq i t)) $$ [HB HsT HsX Ho]
  · isplitl [HB]; · iexact HB
    isplitl [HsT]; · iexact HsT
    isplitl [HsX]; · iexact HsX
    iexact Ho
  iintro ⟨HB, HsT, HsX, Ho⟩
  iapply (wp_drain d i (8 * t.val + 2)) $$ [HA HO Hd]
  · isplitr; · iexact Hmw
    isplitl [HA]; · iexact HA
    isplitl [HO]; · iexact HO
    iexact Hd
  iintro ⟨HA, HO, Hd⟩
  iapply (wp_fill d i set_sA t 4 (by omega) (xrow_inRange hX _) rfl (fun u => (follow u).2.2.2.2.1) (fun _ => rfl) (k0_off167_eq i t)) $$ [HA HsT HsX Ho]
  · isplitl [HA]; · iexact HA
    isplitl [HsT]; · iexact HsT
    isplitl [HsX]; · iexact HsX
    iexact Ho
  iintro ⟨HA, HsT, HsX, Ho⟩
  rw [wp_ret]; imodintro
  iapply Hk
  isplitl [HsT HsX]
  · isplitl [HsT]; · iexact HsT
    iexact HsX
  isplitl [HO]; · iexact HO
  isplitl [HA]; · iexact HA
  isplitl [HB]; · iexact HB
  isplitl [Hd]; · iexact Hd
  iexact Ho

/-- One pair: from its head to the next one's. -/
theorem wp_pair (hX : ∀ y, (X y).toNat < 100000) (t : Fin k0_t1_loop.trips) (v2 : BitVec 32) :
    iprop(Transfers.MayWaits (thr d i) (none : HIx 1) O ∗ PairInv d i O W qx qt X Tt fo t.val)
      ⊢ (wp frame (wpE (defs₀ (F := F)) 𝒱₀ (thr d i) none) Set.univ
          (k0_t1_body i xM (Memref.isWhole_whole _) tM (Memref.isWhole_whole _) oM (Memref.isWhole_whole _) sT (Memref.isWhole_whole _)
            sX (Memref.isWhole_whole _) sA (Memref.isWhole_whole _) sB (Memref.isWhole_whole _) cc0_scratch4 cc0_scratch5 cc0_scratch6 cc0_scratch7 v2 t ⟨⟩)
          fun _ => PairInv d i O W qx qt X Tt fo (t.val + 1) : sProp 𝕄) := by
  simp only [k0_t1_body, k0_part28_eq_skeleton, k0_part28_skel, trip5_eq, trip6_eq, trip7_eq]
  simp only [Prog.lift, Prog.bind_op, Prog.bind_ret, Prog.pure_eq_ret, Prog.bind_assoc]
  unfold PairInv
  iintro ⟨#Hmw, HX, HT, ⟨%fT, HsT⟩, ⟨%fX, %hfX, HsX⟩, Hvt, Hvx, HA, HB, HO, Hd, Ho⟩
  iapply (wp_part25 d i t v2 fT fX hfX) $$ [HX HT HsT HsX Hvt Hvx HO]
  · isplitr; · iexact Hmw
    isplitl [HX HT]
    · isplitl [HX]; · iexact HX
      iexact HT
    isplitl [HsT]; · iexact HsT
    isplitl [HsX]; · iexact HsX
    isplitl [Hvt]; · iexact Hvt
    isplitl [Hvx]; · iexact Hvx
    iexact HO
  iintro ⟨HF, HX, HsX, Hvx, HO⟩
  iapply (wp_part26 d i hX t) $$ [HF HsX HO HA HB Hd Ho]
  · isplitr; · iexact Hmw
    isplitl [HF]; · iexact HF
    isplitl [HsX]; · iexact HsX
    isplitl [HO]; · iexact HO
    isplitl [HA]; · iexact HA
    isplitl [HB]; · iexact HB
    isplitl [Hd]; · iexact Hd
    iexact Ho
  iintro %r ⟨HT, Hvt, HR, HO, HA, HB, Hd, Ho⟩
  iapply (wp_part27 d i hX t _ _) $$ [HR HO HA HB Hd Ho]
  · isplitr; · iexact Hmw
    isplitl [HR]; · iexact HR
    isplitl [HO]; · iexact HO
    isplitl [HA]; · iexact HA
    isplitl [HB]; · iexact HB
    isplitl [Hd]; · iexact Hd
    iexact Ho
  iintro ⟨⟨HsT, HsX⟩, HO, HA, HB, Hd, Ho⟩
  iapply (wp_drain d i (8 * t.val + 3)) $$ [HB HO Hd]
  · isplitr; · iexact Hmw
    isplitl [HB]; · iexact HB
    isplitl [HO]; · iexact HO
    iexact Hd
  iintro ⟨HB, HO, Hd⟩
  iapply (wp_fill d i set_sB t 5 (by omega) (xrow_inRange hX _) rfl (fun u => (follow u).2.2.2.2.2.1) (fun _ => rfl) (k0_off200_eq i t)) $$ [HB HsT HsX Ho]
  · isplitl [HB]; · iexact HB
    isplitl [HsT]; · iexact HsT
    isplitl [HsX]; · iexact HsX
    iexact Ho
  iintro ⟨HB, HsT, HsX, Ho⟩
  iapply (wp_drain d i (8 * t.val + 4)) $$ [HA HO Hd]
  · isplitr; · iexact Hmw
    isplitl [HA]; · iexact HA
    isplitl [HO]; · iexact HO
    iexact Hd
  iintro ⟨HA, HO, Hd⟩
  iapply (wp_fill d i set_sA t 6 (by omega) (xrow_inRange hX _) rfl (fun u => (follow u).2.2.2.2.2.2.1) (fun _ => rfl) (k0_off233_eq i t)) $$ [HA HsT HsX Ho]
  · isplitl [HA]; · iexact HA
    isplitl [HsT]; · iexact HsT
    isplitl [HsX]; · iexact HsX
    iexact Ho
  iintro ⟨HA, HsT, HsX, Ho⟩
  iapply (wp_drain d i (8 * t.val + 5)) $$ [HB HO Hd]
  · isplitr; · iexact Hmw
    isplitl [HB]; · iexact HB
    isplitl [HO]; · iexact HO
    iexact Hd
  iintro ⟨HB, HO, Hd⟩
  iapply (wp_fill d i set_sB t 7 (by omega) (xrow_inRange hX _) rfl (fun u => (follow u).2.2.2.2.2.2.2) (fun _ => rfl) (k0_off266_eq i t)) $$ [HB HsT HsX Ho]
  · isplitl [HB]; · iexact HB
    isplitl [HsT]; · iexact HsT
    isplitl [HsX]; · iexact HsX
    iexact Ho
  iintro ⟨HB, HsT, HsX, Ho⟩
  rw [wp_ret]; imodintro
  unfold Side
  rw [if_pos (Nat.succ_pos _), if_pos (Nat.succ_pos _)]
  rw [show 8 * (t.val + 1) - 2 = 8 * t.val + 6 by omega, show 8 * (t.val + 1) - 1 = 8 * t.val + 7 by omega, show 8 * (t.val + 1) = 8 * t.val + 8 by omega]
  isplitl [HX]; · iexact HX
  isplitl [HT]; · iexact HT
  isplitl [HsT]; · iexists _; iexact HsT
  isplitl [HsX]
  · iexists _; isplitr
    rotate_left
    · iexact HsX
    · ipureintro; intro _; rfl
  isplitl [Hvt]; · iexact Hvt
  isplitl [Hvx]; · iexact Hvx
  isplitl [HA]; · iexact HA
  isplitl [HB]; · iexact HB
  isplitl [HO]; · iexact HO
  isplitl [Hd]; · iexact Hd
  iexact Ho

end Cert.Proof.KI
-- ==== Proof.KI.Run.lean ====
/-
  A tile's task: its buffers and semaphores out of those the launch hands it, the 26 pairs, and the two waits that bring
  the last chunks home.
-/
module

public import proofs.«01_k».proof.Proof.KI.Tile

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-! ## What the launch hands a tile -/

abbrev cell (s : DmaSem sig) : GSem nD τ sig := (thr d i, SemLoc.dma s)

theorem cell_ne {s s' : DmaSem sig} (h : s ≠ s') : cell d i s ≠ cell d i s' := fun e =>
  h (SemLoc.dma.inj (Prod.ext_iff.mp e).2)

theorem cell_own {s : DmaSem sig} (h : (SemLoc.dma s : SemLoc sig).isScoped .scVector = true) : cell d i s ∈ ownCells (thr d i) :=
  mem_ownCells.mpr ⟨rfl, h⟩

theorem ownSems0_tile :
    (ownSems0 (Val := Elt F) (thr d i) : sProp 𝕄)
      = iprop(semVal (thr d i, SemLoc.dma sst) 0 ∗ semVal (thr d i, SemLoc.dma ssx) 0 ∗ semVal (thr d i, SemLoc.dma ssa) 0 ∗ semVal (thr d i, SemLoc.dma ssb) 0
          ∗ bigSep (((((ownCells (thr d i)).erase (cell d i sst)).erase (cell d i ssx)).erase (cell d i ssa)).erase (cell d i ssb)) fun g => semVal g 0) := by
  unfold SparseCore.Cfg.ownSems0
  have hm : ∀ {s : DmaSem sig}, (SemLoc.dma s : SemLoc sig).isScoped .scVector = true → cell d i s ∈ ownCells (thr d i) := fun h => cell_own d i h
  rw [SparseCore.bigSep_erase' (hm (s := sst) (by decide)),
    SparseCore.bigSep_erase' (Finset.mem_erase.mpr ⟨cell_ne d i (s := ssx) (s' := sst) (by decide), hm (by decide)⟩),
    SparseCore.bigSep_erase' (Finset.mem_erase.mpr ⟨cell_ne d i (s := ssa) (s' := ssx) (by decide),
      Finset.mem_erase.mpr ⟨cell_ne d i (s' := sst) (by decide), hm (by decide)⟩⟩),
    SparseCore.bigSep_erase' (Finset.mem_erase.mpr ⟨cell_ne d i (s := ssb) (s' := ssa) (by decide),
      Finset.mem_erase.mpr ⟨cell_ne d i (s' := ssx) (by decide), Finset.mem_erase.mpr ⟨cell_ne d i (s' := sst) (by decide), hm (by decide)⟩⟩⟩)]

abbrev bref (b : Ref sig .scVector) : DevRef τ sig := (Proc.scVector (cV i) (jV i)).devRef b

theorem bref_ne {b b' : Ref sig .scVector} (h : b ≠ b') : bref i b ≠ bref i b' := fun e => h (Proc.devRef_injective _ e)

theorem ownBufs_tile :
    (ownBufs (thr d i) : sProp 𝕄)
      = iprop((∃ f, sT.view.loc (thr d i) ↦{fullShare} f) ∗ (∃ f, sX.view.loc (thr d i) ↦{fullShare} f)
          ∗ (∃ f, sA.view.loc (thr d i) ↦{fullShare} f) ∗ (∃ f, sB.view.loc (thr d i) ↦{fullShare} f)
          ∗ bigSep (((((ownRefs (τ := τ) (.scVector (cV i) (jV i))).erase (bref i cc0_scratch0)).erase (bref i cc0_scratch1)).erase (bref i cc0_scratch2)).erase
              (bref i cc0_scratch3)) fun b => iprop(∃ f, ((d, b) : Loc nD τ sig) ↦{fullShare} f)) := by
  unfold SparseCore.Cfg.ownBufs
  have hm : ∀ b : Ref sig .scVector, (bref i b).owner = .proc (Proc.scVector (cV i) (jV i)) → bref i b ∈ ownRefs (τ := τ) (.scVector (cV i) (jV i)) :=
    fun b h => SparseCore.Cfg.mem_ownRefs_of_owner (p := Proc.scVector (cV i) (jV i)) (b := bref i b) h
  refine (SparseCore.bigSep_erase' (hm cc0_scratch0 rfl)).trans ?_
  rw [SparseCore.bigSep_erase' (Finset.mem_erase.mpr ⟨bref_ne i (b := cc0_scratch1) (b' := cc0_scratch0) (by decide), hm _ rfl⟩),
    SparseCore.bigSep_erase' (Finset.mem_erase.mpr ⟨bref_ne i (b := cc0_scratch2) (b' := cc0_scratch1) (by decide),
      Finset.mem_erase.mpr ⟨bref_ne i (b' := cc0_scratch0) (by decide), hm _ rfl⟩⟩),
    SparseCore.bigSep_erase' (Finset.mem_erase.mpr ⟨bref_ne i (b := cc0_scratch3) (b' := cc0_scratch2) (by decide),
      Finset.mem_erase.mpr ⟨bref_ne i (b' := cc0_scratch1) (by decide), Finset.mem_erase.mpr ⟨bref_ne i (b' := cc0_scratch0) (by decide), hm _ rfl⟩⟩⟩)]

/-! ## The task -/

theorem trips_eq : k0_t1_loop.trips = 26 := by decide +kernel

/-- No output word. -/
theorem oPts_none (r : ℕ) (f : S832x16384.Idx → Elt F .f32) : (oPts d i (doneSet r 0) f : sProp 𝕄) = iprop(emp) := by
  rw [doneSet_zero]; exact pointsTo_empty ..

variable {qx qt : PosShare TreeShare} {X : S26x16384.Idx → Elt F .i32} {Tt : S26x32x100000.Idx → Elt F .f32} {fo : S832x16384.Idx → Elt F .f32}

/-- What a tile is handed and what it hands back: the inputs at its shares, its 26 output rows. -/
abbrev TileGo (qx qt : PosShare TreeShare) (X : S26x16384.Idx → Elt F .i32) (Tt : S26x32x100000.Idx → Elt F .f32) (f : S832x16384.Idx → Elt F .f32) : sProp 𝕄 :=
  iprop((xM.view.loc (thr d i) ↦{qx} X) ∗ (tM.view.loc (thr d i) ↦{qt} Tt) ∗ oPts d i (tileSet (row0 i)) f)

/-- The task on a tile: from its rows at any contents, its rows at the output. -/
theorem tile_body (hX : ∀ y, (X y).toNat < 100000) (O : CellTallies nD τ sig (HIx 1)) (W : Waits sig (HIx 1)) (hO : ∀ g, O g none = 0) :
    iprop(levAts (K (F := F)).L (K (F := F)).lev ∗ TileGo d i qx qt X Tt fo ∗ scopedBufs (thr d i) ∗ scopedSems0 (thr d i) ∗ owes (thr d i) O W)
      ⊢ wp frame (wpE (defs₀ (F := F)) 𝒱₀ (thr d i) none) Set.univ
          (cc0__embed_gather i xM (Memref.isWhole_whole _) tM (Memref.isWhole_whole _) oM (Memref.isWhole_whole _) sT (Memref.isWhole_whole _)
            sX (Memref.isWhole_whole _) sA (Memref.isWhole_whole _) sB (Memref.isWhole_whole _) cc0_scratch4 cc0_scratch5 cc0_scratch6 cc0_scratch7)
          fun _ => (iprop(TileGo d i qx qt X Tt (outW X Tt) ∗ scopedBufs (thr d i) ∗ scopedSems0 (thr d i)
            ∗ ∃ W', ⌜∀ p ∈ W', p ∈ W ∨ p.2 = none⌝ ∗ owes (thr d i) O W') : sProp 𝕄) := by
  rw [(K (F := F)).scopedBufs_V facts d (cV i) (jV i), SparseCore.Cfg.scopedSems0_V (Val := Elt F) d (cV i) (jV i), ownSems0_tile, ownBufs_tile]
  simp only [cc0__embed_gather_eq_skeleton]; unfold cc0__embed_gather_skel
  simp only [Prog.lift, Prog.bind_op, Prog.bind_ret, Prog.pure_eq_ret]
  iintro ⟨#Hlv, ⟨HX, HT, Ho⟩, ⟨HsT, ⟨%fX, HsX⟩, HsA, HsB, Hbufs⟩, ⟨Hvt, Hvx, Hva, Hvb, Hsems⟩, HO⟩
  ihave #Hmw := ((K (F := F)).mayWaits_none (thr := thr d i) hO) $$ Hlv
  iapply (Scf.wp_for_bind frame (wpE (defs₀ (F := F)) 𝒱₀ (thr d i) none) Set.univ _ _ _ k0_t1_ok ⟨⟩ (k0_t1_body i xM _ tM _ oM _ sT _ sX _ sA _ sB _ cc0_scratch4 cc0_scratch5 cc0_scratch6 cc0_scratch7 _)
    (fun t _ => iprop(Transfers.MayWaits (thr d i) (none : HIx 1) O ∗ PairInv d i O W qx qt X Tt fo t)) ?region) $$ [HX HT Ho HsT HsX HsA HsB Hvt Hvx Hva Hvb HO]
  case region =>
    intro t _
    have hdup : iprop(Transfers.MayWaits (thr d i) (none : HIx 1) O ∗ PairInv d i O W qx qt X Tt fo t.val)
        ⊢ iprop(Transfers.MayWaits (thr d i) (none : HIx 1) O ∗ Transfers.MayWaits (thr d i) (none : HIx 1) O ∗ PairInv d i O W qx qt X Tt fo t.val) := by
      iintro ⟨#Hmw, HP⟩
      isplitr; · iexact Hmw
      isplitr; · iexact Hmw
      iexact HP
    exact hdup.trans ((sep_mono_right (wp_pair d i hX t _)).trans (wp_frame_l frame _ _))
  · isplitr; · iexact Hmw
    unfold PairInv Side Idle Ow
    rw [if_neg (Nat.lt_irrefl 0), if_neg (Nat.lt_irrefl 0), show 8 * 0 - 2 = 0 from rfl, Nat.mul_zero, oPts_none, todoSet_zero]
    isplitl [HX]; · iexact HX
    isplitl [HT]; · iexact HT
    isplitl [HsT]; · iexact HsT
    isplitl [HsX]
    · iexists fX; isplitr
      · ipureintro; intro h; exact absurd h (Nat.lt_irrefl 0)
      iexact HsX
    isplitl [Hvt]; · iexact Hvt
    isplitl [Hvx]; · iexact Hvx
    isplitl [HsA Hva]
    · isplitl [HsA]; · iexact HsA
      iexact Hva
    isplitl [HsB Hvb]
    · isplitl [HsB]; · iexact HsB
      iexact Hvb
    isplitl [HO]
    · iexists W; isplitr
      · ipureintro; exact fun p hp => .inl hp
      iexact HO
    isplitr; · iempintro
    iexact Ho
  rw [show Scf.trips k0_t1_loop.lb k0_t1_loop.ub k0_t1_loop.st = 26 from trips_eq]
  iintro %_ ⟨-, HP⟩
  unfold PairInv Side
  rw [if_pos (by decide), if_pos (by decide)]
  icases HP with ⟨HX, HT, HsT, ⟨%fX', -, HsX⟩, Hvt, Hvx, HA, HB, HO, Hd, -⟩
  iapply (wp_drain d i 206) $$ [HA HO Hd]
  · isplitr; · iexact Hmw
    isplitl [HA]; · iexact HA
    isplitl [HO]; · iexact HO
    iexact Hd
  iintro ⟨HA, HO, Hd⟩
  iapply (wp_drain d i 207) $$ [HB HO Hd]
  · isplitr; · iexact Hmw
    isplitl [HB]; · iexact HB
    isplitl [HO]; · iexact HO
    iexact Hd
  iintro ⟨HB, HO, Hd⟩
  unfold Idle Ow
  icases HA with ⟨HsA, Hva⟩
  icases HB with ⟨HsB, Hvb⟩
  rw [wp_ret]; imodintro
  isplitl [HX HT Hd]
  · isplitl [HX]; · iexact HX
    isplitl [HT]; · iexact HT
    rw [← doneSet_all]; iexact Hd
  isplitl [HsT HsX HsA HsB Hbufs]
  · isplitl [HsT]; · iexact HsT
    isplitl [HsX]; · iexists _; iexact HsX
    isplitl [HsA]; · iexact HsA
    isplitl [HsB]; · iexact HsB
    iexact Hbufs
  isplitl [Hvt Hvx Hva Hvb Hsems]
  · isplitl [Hvt]; · iexact Hvt
    isplitl [Hvx]; · iexact Hvx
    isplitl [Hva]; · iexact Hva
    isplitl [Hvb]; · iexact Hvb
    iexact Hsems
  iexact HO

end Cert.Proof.KI
-- ==== Proof.KI.Launch.lean ====
/-
  The launch: how the arrays are dealt to the two SparseCores and on to their tiles, the program's run on every thread,
  and what it leaves: the arguments as they were, the result the transpose of the gathered rows.
-/
module

public import proofs.«01_k».proof.Proof.KI.Run

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays -/

abbrev a0Loc (d : Dev nD) : Loc nD τ sig := (SparseCore.T d).loc main_arg0
abbrev a1Loc (d : Dev nD) : Loc nD τ sig := (SparseCore.T d).loc main_arg1
abbrev xLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-- The indices transposed, the tables transposed, and the result. -/
def XT (d : Dev nD) : S26x16384.Idx → Elt F .i32 := transpose S26x16384 [1, 0] (m (a0Loc d)) transposes_S16384x26_S26x16384_1_0
def TT (d : Dev nD) : S26x32x100000.Idx → Elt F .f32 := transpose S26x32x100000 [0, 2, 1] (m (a1Loc d)) transposes_S26x100000x32_S26x32x100000_0_2_1
def RT (d : Dev nD) : S16384x832.Idx → Elt F .f32 := transpose S16384x832 [1, 0] (outW (XT m d) (TT m d)) transposes_S832x16384_S16384x832_1_0

/-- Every index names a table row. -/
def PreOK : Prop := ∀ d y, (XT m d y).toNat < 100000

/-! ## The deal -/

/-- SparseCore `c`'s output rows. -/
def coreSet (c : Fin 2) : Finset S832x16384.Idx := Finset.univ.filter fun z => 416 * c.val ≤ (z 0).val ∧ (z 0).val < 416 * c.val + 416

/-- The share of the inputs a SparseCore reads at, and a tile of it. -/
def qC (c : Fin 2) : PosShare TreeShare := Transfers.dealOf fullShare Finset.univ c
def qT (c : Fin 2) (s : Fin 16) : PosShare TreeShare := Transfers.dealOf (qC c) Finset.univ s

theorem cores_disjoint : ∀ c ∈ (Finset.univ : Finset (Fin 2)), ∀ c' ∈ (Finset.univ : Finset (Fin 2)), c ≠ c' → Disjoint (coreSet c) (coreSet c') := by
  intro c _ c' _ h
  refine Finset.disjoint_left.mpr fun z h1 h2 => h (Fin.ext ?_)
  have h1 := (Finset.mem_filter.mp h1).2
  have h2 := (Finset.mem_filter.mp h2).2
  omega

theorem cores_cover : (Finset.univ : Finset (Fin 2)).biUnion coreSet = Finset.univ := by
  ext z
  simp only [Finset.mem_biUnion, Finset.mem_univ, true_and, iff_true]
  have hz : (z 0).val < 832 := (z 0).isLt
  exact ⟨⟨(z 0).val / 416, by omega⟩, Finset.mem_filter.mpr ⟨Finset.mem_univ _, by dsimp only; omega⟩⟩

theorem tiles_disjoint (c : Fin 2) : ∀ s ∈ (Finset.univ : Finset (Fin 16)), ∀ s' ∈ (Finset.univ : Finset (Fin 16)), s ≠ s' →
    Disjoint (tileSet (416 * c.val + 26 * s.val)) (tileSet (416 * c.val + 26 * s'.val)) := by
  intro s _ s' _ h
  refine Finset.disjoint_left.mpr fun z h1 h2 => h (Fin.ext ?_)
  have h1 := (Finset.mem_filter.mp h1).2
  have h2 := (Finset.mem_filter.mp h2).2
  omega

theorem tiles_cover (c : Fin 2) : (Finset.univ : Finset (Fin 16)).biUnion (fun s => tileSet (416 * c.val + 26 * s.val)) = coreSet c := by
  ext z
  simp only [Finset.mem_biUnion, Finset.mem_univ, true_and]
  constructor
  · rintro ⟨s, hs⟩
    have hs := (Finset.mem_filter.mp hs).2
    exact Finset.mem_filter.mpr ⟨Finset.mem_univ _, by omega⟩
  · intro hz
    have hz := (Finset.mem_filter.mp hz).2
    exact ⟨⟨((z 0).val - 416 * c.val) / 26, by omega⟩, Finset.mem_filter.mpr ⟨Finset.mem_univ _, by dsimp only; omega⟩⟩

/-- What a SparseCore, and a tile of it, holds: the inputs at its share, its output rows at `f`. -/
abbrev corePts (d : Dev nD) (c : Fin 2) (f : Buf (Elt F) (oLoc d)) : sProp 𝕄 :=
  iprop((xLoc d ↦{qC c} XT m d) ∗ (tLoc d ↦{qC c} TT m d) ∗ (oLoc d ↦[coreSet c]{fullShare} f))
abbrev tilePts (d : Dev nD) (c : Fin 2) (s : Fin 16) (f : Buf (Elt F) (oLoc d)) : sProp 𝕄 :=
  iprop((xLoc d ↦{qT c s} XT m d) ∗ (tLoc d ↦{qT c s} TT m d) ∗ (oLoc d ↦[tileSet (416 * c.val + 26 * s.val)]{fullShare} f))

/-- The three arrays are the two SparseCores' parts of them. -/
theorem cores_deal (d : Dev nD) (f : Buf (Elt F) (oLoc d)) :
    (iprop((xLoc d ↦{fullShare} XT m d) ∗ (tLoc d ↦{fullShare} TT m d) ∗ (oLoc d ↦{fullShare} f)) : sProp 𝕄)
      = bigSep Finset.univ fun c : Fin 2 => corePts m d c f := by
  rw [bigSep_sep', bigSep_sep', ← pointsTo_biUnion Finset.univ (ℓ := oLoc d) coreSet cores_disjoint, cores_cover,
    Transfers.pointsTo_deal (ℓ := xLoc d) (Finset.univ : Finset (Fin 2)) Finset.univ_nonempty fullShare,
    Transfers.pointsTo_deal (ℓ := tLoc d) (Finset.univ : Finset (Fin 2)) Finset.univ_nonempty fullShare]
  rfl

/-- A SparseCore's part is its tiles' parts of it. -/
theorem tiles_deal (d : Dev nD) (c : Fin 2) (f : Buf (Elt F) (oLoc d)) :
    (corePts m d c f : sProp 𝕄) = bigSep Finset.univ fun s : Fin 16 => tilePts m d c s f := by
  unfold corePts
  rw [bigSep_sep', bigSep_sep', ← pointsTo_biUnion Finset.univ (ℓ := oLoc d) (fun s : Fin 16 => tileSet (416 * c.val + 26 * s.val)) (tiles_disjoint c),
    tiles_cover, Transfers.pointsTo_deal (ℓ := xLoc d) (Finset.univ : Finset (Fin 16)) Finset.univ_nonempty (qC c),
    Transfers.pointsTo_deal (ℓ := tLoc d) (Finset.univ : Finset (Fin 16)) Finset.univ_nonempty (qC c)]
  rfl

theorem nCore_zero : (K (F := F)).nCore 0 = 2 := rfl
theorem nSub_zero : (K (F := F)).nSub 0 = 16 := rfl

/-- What the call hands each SparseCore and each tile, and what comes back: the output rows at the gathered words. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (outW (XT m d) (TT m d))
  go := fun q d c s => match q with | 0 => tilePts m d (Fin.cast nCore_zero c) (Fin.cast nSub_zero s) (m (oLoc d))
  td := fun q d c s => match q with | 0 => tilePts m d (Fin.cast nCore_zero c) (Fin.cast nSub_zero s) (outW (XT m d) (TT m d))
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (outW (XT m d) (TT m d))))
  go q d c s := match q with
    | 0 => (inferInstance : BI.Storable (upEmb : UEmb _ 𝕄) (tilePts m d (Fin.cast nCore_zero c) (Fin.cast nSub_zero s) (m (oLoc d))))
  td q d c s := match q with
    | 0 => (inferInstance : BI.Storable (upEmb : UEmb _ 𝕄) (tilePts m d (Fin.cast nCore_zero c) (Fin.cast nSub_zero s) (outW (XT m d) (TT m d))))

/-! ## The launch theorem's obligations -/

theorem defs₀_vector (c : Fin τ.nSC) (s : Fin τ.nSub) :
    defs₀ (F := F) (.scVector c s) 0 ()
      = SparseCore.onTile hcore0 hsub0 (fun c s => cc0__embed_gather (coordsV c s)
          xM (Memref.isWhole_whole _) tM (Memref.isWhole_whole _) oM (Memref.isWhole_whole _) sT (Memref.isWhole_whole _)
          sX (Memref.isWhole_whole _) sA (Memref.isWhole_whole _) sB (Memref.isWhole_whole _) cc0_scratch4 cc0_scratch5 cc0_scratch6 cc0_scratch7) ⟨⟩ c s := rfl

/-- A task that waited on its own transfers alone waited on nothing it may not wait on. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl_pre {A B : sProp 𝕄} : iprop(A ∗ emp ∗ B) ⊢ iprop(A ∗ B) := by
  iintro ⟨HA, -, HB⟩
  isplitl [HA]; · iexact HA
  iexact HB

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_pre.trans ((tile_body d (coordsV ⟨_, hc.1⟩ ⟨_, hc.2⟩) (qx := qT (Fin.cast nCore_zero c) (Fin.cast nSub_zero i))
    (qt := qT (Fin.cast nCore_zero c) (Fin.cast nSub_zero i)) (fo := m (oLoc d)) (hpre d) O W hO).trans (wp_mono frame _ _ fun _ => obl_post))

theorem vecSplit : (K (F := F)).VecSplit' (P m) 0 := by
  intro d c
  have hgo : ∀ f : Buf (Elt F) (oLoc d), (bigSep Finset.univ fun i : Fin ((K (F := F)).nSub 0) => tilePts m d (Fin.cast nCore_zero c) (Fin.cast nSub_zero i) f)
      = corePts m d (Fin.cast nCore_zero c) f := fun f => (tiles_deal m d (Fin.cast nCore_zero c) f).symm
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (outW (XT m d) (TT m d)))
          -∗ corePts m d (Fin.cast nCore_zero c) (outW (XT m d) (TT m d))))
  rw [hgo, hgo]
  iintro H; imodintro
  isplitl [H]; · iexact H
  iintro H; iexact H

/-! ## The launch element -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  show _ ⊢ bigSep Finset.univ fun _ : Thread nD τ => bigSep Finset.univ fun _ : Fin 1 => (iprop(emp) : sProp 𝕄)
  rw [bigSep_congr fun _ _ => emps _, emps]

/-! ## The program on the TensorCore -/

abbrev dref (b : Ref sig .tc) : DevRef τ sig := Proc.devRef .tc b
abbrev S6 : Finset (DevRef τ sig) := {dref main_arg0, dref main_arg1, dref main_v0, dref main_v1, dref main_v2, dref main_v3}

theorem held_S6 (d : Dev nD) (W : Valuation τ sig (Elt F)) :
    (held (SparseCore.T d) S6 W : sProp 𝕄) = iprop((a0Loc d ↦{fullShare} W (dref main_arg0)) ∗ (a1Loc d ↦{fullShare} W (dref main_arg1))
      ∗ (xLoc d ↦{fullShare} W (dref main_v0)) ∗ (tLoc d ↦{fullShare} W (dref main_v1)) ∗ (oLoc d ↦{fullShare} W (dref main_v2))
      ∗ (rLoc d ↦{fullShare} W (dref main_v3))) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : Valuation τ sig (Elt F)) :
    (unscopedBufs d (fun b => W (dref b)) : sProp 𝕄) = held (SparseCore.T d) S6 W := by
  rw [held_S6]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

abbrev op0 : HloOp τ sig (Elt F) := StableHlo.unary main_arg0 main_v0 ((transpose S26x16384 [1, 0] · transposes_S16384x26_S26x16384_1_0) : (⟨S16384x26, .i32⟩ : BufTy).Contents (Elt F) → (⟨S26x16384, .i32⟩ : BufTy).Contents (Elt F))
abbrev op1 : HloOp τ sig (Elt F) := StableHlo.unary main_arg1 main_v1 ((transpose S26x32x100000 [0, 2, 1] · transposes_S26x100000x32_S26x32x100000_0_2_1) : (⟨S26x100000x32, .f32⟩ : BufTy).Contents (Elt F) → (⟨S26x32x100000, .f32⟩ : BufTy).Contents (Elt F))
abbrev op2 : HloOp τ sig (Elt F) := StableHlo.unary main_v2 main_v3 ((transpose S16384x832 [1, 0] · transposes_S832x16384_S16384x832_1_0) : (⟨S832x16384, .f32⟩ : BufTy).Contents (Elt F) → (⟨S16384x832, .f32⟩ : BufTy).Contents (Elt F))

/-- The arrays at the launch, before the call, after it, and at the end. -/
def V0 (d : Dev nD) : Valuation τ sig (Elt F) := fun b => m (d, b)
def V1 (d : Dev nD) : Valuation τ sig (Elt F) := (op1 (F := F)).result ((op0 (F := F)).result (V0 m d))
def V2 (d : Dev nD) : Valuation τ sig (Elt F) := Function.update (V1 m d) (dref main_v2) (outW (XT m d) (TT m d))
def V3 (d : Dev nD) : Valuation τ sig (Elt F) := (op2 (F := F)).result (V2 m d)

/-- Neither transpose before the call writes `b`. -/
theorem V1_ne (d : Dev nD) (b : Ref sig .tc) (h0 : b ≠ main_v0) (h1 : b ≠ main_v1) : V1 m d (dref b) = m ((SparseCore.T d).loc b) :=
  (StableHlo.unary_result_ne _ _ _ _ _ _ h1).trans (StableHlo.unary_result_ne _ _ _ _ _ _ h0)
theorem V1_x (d : Dev nD) : V1 m d (dref main_v0) = XT m d :=
  (StableHlo.unary_result_ne _ _ _ _ _ _ (by decide)).trans (StableHlo.unary_result _ _ _ _ _ _)
theorem V1_t (d : Dev nD) : V1 m d (dref main_v1) = TT m d :=
  (StableHlo.unary_result _ _ _ _ _ _).trans (congrArg (transpose S26x32x100000 [0, 2, 1] · transposes_S26x100000x32_S26x32x100000_0_2_1)
    (StableHlo.unary_result_ne _ _ _ _ _ _ (by decide)))
theorem V2_o (d : Dev nD) : V2 m d (dref main_v2) = outW (XT m d) (TT m d) := Function.update_self _ _ _
theorem V2_ne (d : Dev nD) (b : Ref sig .tc) (h : dref b ≠ dref main_v2) : V2 m d (dref b) = V1 m d (dref b) := Function.update_of_ne h _ _
theorem V3_ne (d : Dev nD) (b : Ref sig .tc) (h : b ≠ main_v3) : V3 m d (dref b) = V2 m d (dref b) := StableHlo.unary_result_ne _ _ _ _ _ _ h
theorem V3_r (d : Dev nD) : V3 m d (dref main_v3) = RT m d :=
  (StableHlo.unary_result _ _ _ _ _ _).trans (congrArg (transpose S16384x832 [1, 0] · transposes_S832x16384_S16384x832_1_0) (V2_o m d))

/-- What the program leaves the claim: the arguments at their launch contents, the result. -/
abbrev FIN (d : Dev nD) : sProp 𝕄 :=
  iprop((a0Loc d ↦{fullShare} m (a0Loc d)) ∗ (a1Loc d ↦{fullShare} m (a1Loc d)) ∗ (rLoc d ↦{fullShare} RT m d))

theorem held_V1 (d : Dev nD) :
    (held (SparseCore.T d) S6 (V1 m d) : sProp 𝕄) = iprop((a0Loc d ↦{fullShare} m (a0Loc d)) ∗ (a1Loc d ↦{fullShare} m (a1Loc d))
      ∗ (xLoc d ↦{fullShare} XT m d) ∗ (tLoc d ↦{fullShare} TT m d) ∗ (oLoc d ↦{fullShare} m (oLoc d)) ∗ (rLoc d ↦{fullShare} m (rLoc d))) := by
  rw [held_S6, V1_ne m d main_arg0 (by decide) (by decide), V1_ne m d main_arg1 (by decide) (by decide), V1_x, V1_t,
    V1_ne m d main_v2 (by decide) (by decide), V1_ne m d main_v3 (by decide) (by decide)]

theorem held_V2 (d : Dev nD) :
    (held (SparseCore.T d) S6 (V2 m d) : sProp 𝕄) = iprop((a0Loc d ↦{fullShare} m (a0Loc d)) ∗ (a1Loc d ↦{fullShare} m (a1Loc d))
      ∗ (xLoc d ↦{fullShare} XT m d) ∗ (tLoc d ↦{fullShare} TT m d) ∗ (oLoc d ↦{fullShare} outW (XT m d) (TT m d)) ∗ (rLoc d ↦{fullShare} m (rLoc d))) := by
  rw [held_S6, V2_ne m d main_arg0 (by decide), V2_ne m d main_arg1 (by decide), V2_ne m d main_v0 (by decide), V2_ne m d main_v1 (by decide),
    V2_o, V2_ne m d main_v3 (by decide), V1_ne m d main_arg0 (by decide) (by decide), V1_ne m d main_arg1 (by decide) (by decide), V1_x, V1_t,
    V1_ne m d main_v3 (by decide) (by decide)]

theorem held_V3 (d : Dev nD) : (held (SparseCore.T d) S6 (V3 m d) : sProp 𝕄) ⊢ FIN m d := by
  rw [held_S6, V3_ne m d main_arg0 (by decide), V3_ne m d main_arg1 (by decide), V3_r, V2_ne m d main_arg0 (by decide), V2_ne m d main_arg1 (by decide),
    V1_ne m d main_arg0 (by decide) (by decide), V1_ne m d main_arg1 (by decide) (by decide)]
  iintro ⟨H0, H1, -, -, -, Hr⟩
  isplitl [H0]; · iexact H0
  isplitl [H1]; · iexact H1
  iexact Hr

theorem st_eq (d : Dev nD) : (bigSep Finset.univ fun c : Fin ((K (F := F)).nCore 0) => (P m).st 0 d c)
    = iprop((xLoc d ↦{fullShare} XT m d) ∗ (tLoc d ↦{fullShare} TT m d) ∗ (oLoc d ↦{fullShare} m (oLoc d))) :=
  (cores_deal m d (m (oLoc d))).symm
theorem dn_eq (d : Dev nD) : (bigSep Finset.univ fun c : Fin ((K (F := F)).nCore 0) => (P m).dn 0 d c)
    = iprop((xLoc d ↦{fullShare} XT m d) ∗ (tLoc d ↦{fullShare} TT m d) ∗ (oLoc d ↦{fullShare} outW (XT m d) (TT m d))) :=
  (cores_deal m d (outW (XT m d) (TT m d))).symm

theorem h0 : (op0 (F := F)).bufs ⊆ S6 := show ({dref main_arg0, dref main_v0} : Finset (DevRef τ sig)) ⊆ S6 by decide
theorem h1 : (op1 (F := F)).bufs ⊆ S6 := show ({dref main_arg1, dref main_v1} : Finset (DevRef τ sig)) ⊆ S6 by decide
theorem h2 : (op2 (F := F)).bufs ⊆ S6 := show ({dref main_v2, dref main_v3} : Finset (DevRef τ sig)) ⊆ S6 by decide

/-- The program on device `d`'s TensorCore: two transposes, the call, the transpose of what it gathered. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (fun b => m ((SparseCore.T d).loc b)) = (fun b : Ref sig .tc => V0 m d (dref b)) from rfl, unscopedBufs_eq]
  simp only [main, wp_bind, wp_pure]
  iintro ⟨#Hctx, Hst, ⟨Hb, Hheld, Hts, -⟩, -⟩
  iapply (wp_hlo_within 𝒱 (SparseCore.T d) none Set.univ (op := op0) (S := S6) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S6) h1 (V := (op0 (F := F)).result (V0 m d))) $$ [Hb Hheld]
  · isplitl [Hb]; · iexact Hb
    iexact Hheld
  iintro ⟨Hb, Hheld⟩
  rw [wp_ret]; imodintro
  ihave Hh := (Entails.of_eq (show (held (SparseCore.T d) S6 ((op1 (F := F)).result ((op0 (F := F)).result (V0 m d))) : sProp 𝕄) = _ from held_V1 m d)) $$ Hheld
  icases Hh with ⟨H0, H1, Hx, Ht, Ho, Hr⟩
  iapply ((K (F := F)).wp_run (D (F := F)) 𝒱 (EH := EH) (P := P m) κ d 0) $$ [Hst Hx Ht Ho H0 H1 Hr Hb Hts]
  isplitr; · iexact Hctx
  isplitl [Hst]; · iexact Hst
  isplitl [Hx Ht Ho]
  · rw [st_eq]
    isplitl [Hx]; · iexact Hx
    isplitl [Ht]; · iexact Ht
    iexact Ho
  iintro ⟨Hst, Hdn⟩
  ihave Hdn' := (Entails.of_eq (dn_eq m d)) $$ Hdn
  icases Hdn' with ⟨Hx, Ht, Ho⟩
  iapply (wp_hlo_within 𝒱 (SparseCore.T d) none Set.univ (op := op2) (S := S6) h2 (V := V2 m d)) $$ [Hb H0 H1 Hx Ht Ho Hr]
  · isplitl [Hb]; · iexact Hb
    rw [held_V2]
    isplitl [H0]; · iexact H0
    isplitl [H1]; · iexact H1
    isplitl [Hx]; · iexact Hx
    isplitl [Ht]; · iexact Ht
    isplitl [Ho]; · iexact Ho
    iexact Hr
  iintro ⟨Hb, Hheld⟩
  rw [wp_ret]; imodintro; imodintro
  isplitl [Hst]; · iexact Hst
  isplitr [Hb Hts]
  · iapply (held_V3 m d); iexact Hheld
  isplitl [Hb] <;> iassumption

/-- What the final memory holds on device `d`. -/
def fq (d : Dev nD) (s' : Phys nD τ sig (Elt F)) : Prop :=
  s'.mem.mem (a0Loc d) = m (a0Loc d) ∧ s'.mem.mem (a1Loc d) = m (a1Loc d) ∧ s'.mem.mem (rLoc d) = RT m d

theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%e0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%e1, HSI, -⟩
  ihave H := (SI_pointsTo_agree (st := s') (ℓ := rLoc d) (I := Finset.univ) (q := fullShare) (f := RT m d)) $$ [HSI Hr]
  · isplitl [HSI] <;> iassumption
  icases H with %e2
  ipureintro
  exact ⟨funext fun i => e0 i (Finset.mem_univ i), funext fun i => e1 i (Finset.mem_univ i), funext fun i => e2 i (Finset.mem_univ i)⟩

/-! ## The run -/

def QC : PUnit × MemSt nD τ sig (Elt F) → Prop := fun r =>
  (∀ c : Dev nD, r.2.mem (a0Loc c) = m (a0Loc c) ∧ r.2.mem (a1Loc c) = m (a1Loc c) ∧ r.2.mem (rLoc c) = RT m c) ∧ r.2.sem = fun _ => 0

/-- The program, its indices in range: it ends, its arguments are as they were, its result is the transpose of the gathered
    rows, and every semaphore reads zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KI
-- ==== Proof.Ref.Take.lean ====
/-
  One field of the reference: a table and a column of indices cut out of the arguments, and the rows of the one that the
  other names. The operations are a list over the buffers they use; what they leave is read once, for any buffers that are
  numbered one after the other.
-/
module

public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal Cert.ReferenceIdeal.Gen Cert.ReferenceIdeal.Facts
open Idealize.ShloMosaic Idealize.ShloMosaic.TcCoe Idealize.SL.Sem Idealize.ShloMosaic.StableHlo

variable {F : FTy → Type} [FloatOps F]

/-! ## Reading a typed buffer -/

/-- The number of a buffer within its memory. -/
def key (r : Ref sig .tc) : ℕ := r.idx.val

/-- Buffers with different numbers differ. -/
theorem ne_of_key {a b : Ref sig .tc} (h : key a ≠ key b) : a ≠ b := fun e => h (congrArg key e)

variable {Val : EltTy → Type} {T Tx Ta Tb Tc Ty : BufTy}

/-- The contents of a typed buffer. -/
def get (V : Valuation τ sig Val) (t : TRef sig T) : T.Contents Val := t.ofBuf (V (Proc.devRef .tc t.ref))

theorem get_nullary (y : TRef sig Ty) (v : Ty.Contents Val) (V : Valuation τ sig Val) :
    get ((TRef.nullary y v : HloOp τ sig Val).result V) y = v := by
  unfold get; rw [nullary_result]; exact TRef.ofBuf_toBuf y v

theorem get_unary (x : TRef sig Tx) (y : TRef sig Ty) (f : Tx.Contents Val → Ty.Contents Val) (V : Valuation τ sig Val) :
    get ((TRef.unary x y f : HloOp τ sig Val).result V) y = f (get V x) := by
  unfold get; rw [unary_result]; exact TRef.ofBuf_toBuf y _

theorem get_binary (a : TRef sig Ta) (b : TRef sig Tb) (y : TRef sig Ty) (f : Ta.Contents Val → Tb.Contents Val → Ty.Contents Val)
    (V : Valuation τ sig Val) : get ((TRef.binary a b y f : HloOp τ sig Val).result V) y = f (get V a) (get V b) := by
  unfold get; rw [binary_result]; exact TRef.ofBuf_toBuf y _

theorem get_ternary (c : TRef sig Tc) (a : TRef sig Ta) (b : TRef sig Tb) (y : TRef sig Ty)
    (f : Tc.Contents Val → Ta.Contents Val → Tb.Contents Val → Ty.Contents Val) (V : Valuation τ sig Val) :
    get ((TRef.ternary c a b y f : HloOp τ sig Val).result V) y = f (get V c) (get V a) (get V b) := by
  unfold get; rw [ternary_result]; exact TRef.ofBuf_toBuf y _

theorem get_reshape' (x : TRef sig Tx) (y : TRef sig Ty) (he : Tx.elt = Ty.elt) (hn : Tx.shape.ShapeCasts Ty.shape) (V : Valuation τ sig Val) :
    get ((TRef.reshape x y he hn : HloOp τ sig Val).result V) y = fun i => he ▸ shapeCast Ty.shape (get V x) hn i := by
  obtain ⟨x, rfl, _, _⟩ := x
  obtain ⟨y, rfl, _, _⟩ := y
  exact reshape_result x y _ _ _ _ V

theorem get_reshape {s t : Shape} {e : EltTy} (x : TRef sig ⟨s, e⟩) (y : TRef sig ⟨t, e⟩) (hn : s.ShapeCasts t) (V : Valuation τ sig Val) :
    get ((TRef.reshape x y rfl hn : HloOp τ sig Val).result V) y = shapeCast t (get V x) hn :=
  get_reshape' x y rfl hn V

/-- An operation that writes one buffer leaves another typed buffer's contents. -/
theorem get_other (op : HloOp τ sig Val) (y : Ref sig .tc) (hw : op.writes = {Proc.devRef .tc y}) (t : TRef sig T) (h : key t.ref ≠ key y)
    (V : Valuation τ sig Val) : get (op.result V) t = get V t :=
  congrArg t.ofBuf (result_of_writes_ne op V y t.ref hw (ne_of_key h))

/-- Each operation writes one buffer, and these are numbered from `b` on. -/
def Wr : List (HloOp τ sig Val) → ℕ → Prop
  | [], _ => True
  | op :: l, b => (∃ r : Ref sig .tc, op.writes = {Proc.devRef .tc r} ∧ key r = b) ∧ Wr l (b + 1)

/-- A buffer that such a line does not write is as it was. -/
theorem Wr.keep : ∀ {l : List (HloOp τ sig Val)} {b : ℕ}, Wr l b → ∀ (t : TRef sig T), key t.ref < b ∨ b + l.length ≤ key t.ref →
    ∀ V : Valuation τ sig Val, get (after l V) t = get V t
  | [], _, _, _, _, _ => rfl
  | op :: l, b, ⟨⟨r, hw, hr⟩, hl⟩, t, h, V => by
    rw [List.length_cons] at h
    rw [after_cons, hl.keep t (by omega), get_other op r hw t (by omega)]

/-- A buffer numbered before another. -/
theorem below {r : Ref sig .tc} {b k n : ℕ} (h : key r = b + k) (hk : k < n) : key r < b + n := by omega

/-- What the line's operation `n` wrote stands at the end, and so do the buffers it read. -/
theorem Wr.final : ∀ {l : List (HloOp τ sig Val)} {b : ℕ}, Wr l b → ∀ (n : ℕ) (op : HloOp τ sig Val), l[n]? = some op →
    ∀ V : Valuation τ sig Val, ∃ V' : Valuation τ sig Val,
      (∀ (T : BufTy) (y : TRef sig T), key y.ref = b + n → get (after l V) y = get (op.result V') y)
      ∧ ∀ (T : BufTy) (t : TRef sig T), key t.ref < b + n → get (after l V) t = get V' t
  | [], _, _, _, _, h, _ => by cases h
  | op :: l, b, ⟨⟨r, hw, hr⟩, hl⟩, 0, op', h, V => by
    obtain rfl : op = op' := by simpa using h
    exact ⟨V, fun T y hy => by rw [after_cons, hl.keep y (by omega)], fun T t ht => by
      rw [after_cons, hl.keep t (by omega), get_other op r hw t (by omega)]⟩
  | op :: l, b, ⟨⟨r, hw, hr⟩, hl⟩, n + 1, op', h, V => by
    obtain ⟨V', h1, h2⟩ := hl.final n op' (by simpa using h) (op.result V)
    exact ⟨V', fun T y hy => h1 T y (by omega), fun T t ht => h2 T t (by omega)⟩

section Final

variable {l : List (HloOp τ sig Val)} {b : ℕ} (hl : Wr l b) (n : ℕ) (V : Valuation τ sig Val)

include hl

theorem Wr.nullary {y : TRef sig Ty} {v : Ty.Contents Val} (h : l[n]? = some (TRef.nullary y v)) (hy : key y.ref = b + n) :
    get (after l V) y = v := by
  obtain ⟨V', h1, -⟩ := hl.final n _ h V
  rw [h1 _ y hy, get_nullary]

theorem Wr.unary {x : TRef sig Tx} {y : TRef sig Ty} {f : Tx.Contents Val → Ty.Contents Val} (h : l[n]? = some (TRef.unary x y f))
    (hy : key y.ref = b + n) (hx : key x.ref < b + n) : get (after l V) y = f (get (after l V) x) := by
  obtain ⟨V', h1, h2⟩ := hl.final n _ h V
  rw [h1 _ y hy, get_unary, h2 _ x hx]

theorem Wr.binary {a : TRef sig Ta} {c : TRef sig Tb} {y : TRef sig Ty} {f : Ta.Contents Val → Tb.Contents Val → Ty.Contents Val}
    (h : l[n]? = some (TRef.binary a c y f)) (hy : key y.ref = b + n) (ha : key a.ref < b + n) (hc : key c.ref < b + n) :
    get (after l V) y = f (get (after l V) a) (get (after l V) c) := by
  obtain ⟨V', h1, h2⟩ := hl.final n _ h V
  rw [h1 _ y hy, get_binary, h2 _ a ha, h2 _ c hc]

theorem Wr.ternary {p : TRef sig Tc} {a : TRef sig Ta} {c : TRef sig Tb} {y : TRef sig Ty}
    {f : Tc.Contents Val → Ta.Contents Val → Tb.Contents Val → Ty.Contents Val}
    (h : l[n]? = some (TRef.ternary p a c y f)) (hy : key y.ref = b + n) (hp : key p.ref < b + n) (ha : key a.ref < b + n) (hc : key c.ref < b + n) :
    get (after l V) y = f (get (after l V) p) (get (after l V) a) (get (after l V) c) := by
  obtain ⟨V', h1, h2⟩ := hl.final n _ h V
  rw [h1 _ y hy, get_ternary, h2 _ p hp, h2 _ a ha, h2 _ c hc]

theorem Wr.reshape {s t : Shape} {e : EltTy} {x : TRef sig ⟨s, e⟩} {y : TRef sig ⟨t, e⟩} {hn : s.ShapeCasts t}
    (h : l[n]? = some (TRef.reshape x y rfl hn)) (hy : key y.ref = b + n) (hx : key x.ref < b + n) :
    get (after l V) y = shapeCast t (get (after l V) x) hn := by
  obtain ⟨V', h1, h2⟩ := hl.final n _ h V
  rw [h1 _ y hy, get_reshape, h2 _ x hx]

end Final

/-! ## The rows that a column of indices names -/

/-- The operations of one lookup, over the table, the indices and the buffers of its values. -/
def takeOps (x : TRef sig ⟨S100000x32, .f32⟩) (i : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary i φ.v0 φ.v1 (cmpi .slt),
    TRef.nullary φ.c_0 (constantI S_ 32 100000#32),
    TRef.unary φ.c_0 φ.v2 (broadcastInDim S16384 ![] bcast_S_S16384),
    TRef.binary i φ.v2 φ.v3 addi,
    TRef.ternary φ.v1 φ.v3 i φ.call0.v0 select,
    TRef.unary φ.call0.v0 φ.v5 (broadcastInDim S16384x1 ![0] bcast_S16384_S16384x1_0),
    TRef.nullary φ.c_1 (constantI S1 32 99999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary x φ.v5 φ.v13 (fun x i => Host.gather gather_S100000x32_S16384x1_S16384x32_1_0_n_n_0_1_132 x i),
    TRef.unary φ.v12 φ.v14 (broadcastInDim S16384x32 ![0] bcast_S16384_S16384x32_0),
    TRef.nullary φ.cst (constant S_ .f32 0x7FC00000#32),
    TRef.unary φ.cst φ.v15 (broadcastInDim S16384x32 ![] bcast_S_S16384x32),
    TRef.ternary φ.v14 φ.v13 φ.v15 φ.v16 select ]

/-- The printed lookup is these operations in order. -/
theorem take_eq (x : TRef sig ⟨S100000x32, .f32⟩) (i : TRef sig ⟨S16384, .i32⟩) (φ : fn_take.Bufs) :
    fn_take.body (F := F) x i φ = seq (takeOps x i φ) := rfl

/-- The start of each row: a negative index counts from the end. -/
def starts (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 100000#32))) i)

/-- Whether each row's start lies in the table. -/
def inTable (j : IVec S16384x1 32) : IVec S16384 1 :=
  Host.reduce IntOp.andi
    (andi (cmpi .sge j (broadcastInDim S16384x1 ![] bcast_S_S16384x1 (constantI S_ 32 0#32)))
      (cmpi .sle j (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- What one lookup leaves: the rows in the table, and a constant in place of the others. -/
def rows (x : FVec F S100000x32 .f32) (i : IVec S16384 32) : FVec F S16384x32 .f32 :=
  select (broadcastInDim S16384x32 ![0] bcast_S16384_S16384x32_0 (inTable (starts i)))
    (Host.gather gather_S100000x32_S16384x1_S16384x32_1_0_n_n_0_1_132 x (starts i))
    (broadcastInDim S16384x32 ![] bcast_S_S16384x32 (constant S_ .f32 0x7FC00000#32))

/-! ## One field -/

/-- One field's number and buffers; its table and its column of indices lie in the arguments. -/
structure Fld where
  n : ℕ
  s₁ : TRef sig ⟨S1x100000x32, .f32⟩
  r₁ : TRef sig ⟨S100000x32, .f32⟩
  s₂ : TRef sig ⟨S16384x1, .i32⟩
  r₂ : TRef sig ⟨S16384, .i32⟩
  φ : fn_take.Bufs
  h₁ : S26x100000x32.Slices ![n, 0, 0] S1x100000x32
  h₂ : S16384x26.Slices ![0, n] S16384x1

/-- The field's table, a slab of the tables. -/
def Fld.tab (f : Fld) (t : FVec F S26x100000x32 .f32) : FVec F S1x100000x32 .f32 := extractStridedSlice S1x100000x32 ![f.n, 0, 0] t f.h₁

/-- The field's indices, a column of the indices. -/
def Fld.col (f : Fld) (t : IVec S16384x26 32) : IVec S16384x1 32 := extractStridedSlice S16384x1 ![0, f.n] t f.h₂

/-- The rows that the field's indices name in its table. -/
def Fld.rows (f : Fld) (x : FVec F S26x100000x32 .f32) (i : IVec S16384x26 32) : FVec F S16384x32 .f32 :=
  Ref.rows (shapeCast S100000x32 (f.tab x) shapeCasts_S1x100000x32_S100000x32) (shapeCast S16384 (f.col i) shapeCasts_S16384x1_S16384)

variable (x : TRef sig ⟨S26x100000x32, .f32⟩) (i : TRef sig ⟨S16384x26, .i32⟩)

/-- One field's operations, on the tables `x` and the indices `i`. -/
def Fld.ops (f : Fld) : List (HloOp τ sig (Elt F)) :=
  TRef.unary x f.s₁ f.tab :: TRef.reshape f.s₁ f.r₁ rfl shapeCasts_S1x100000x32_S100000x32 ::
  TRef.unary i f.s₂ f.col :: TRef.reshape f.s₂ f.r₂ rfl shapeCasts_S16384x1_S16384 :: takeOps f.r₁ f.r₂ f.φ

/-- The field's buffers are numbered from `b` on, in the order they are written. -/
def Fld.Laid (f : Fld) (b : ℕ) : Prop :=
  key f.s₁.ref = b + 0 ∧ key f.r₁.ref = b + 1 ∧ key f.s₂.ref = b + 2 ∧ key f.r₂.ref = b + 3 ∧ key f.φ.c.ref = b + 4 ∧ key f.φ.v0.ref = b + 5
  ∧ key f.φ.v1.ref = b + 6 ∧ key f.φ.c_0.ref = b + 7 ∧ key f.φ.v2.ref = b + 8 ∧ key f.φ.v3.ref = b + 9 ∧ key f.φ.call0.v0.ref = b + 10
  ∧ key f.φ.v5.ref = b + 11 ∧ key f.φ.c_1.ref = b + 12 ∧ key f.φ.c_2.ref = b + 13 ∧ key f.φ.v6.ref = b + 14 ∧ key f.φ.v7.ref = b + 15
  ∧ key f.φ.v8.ref = b + 16 ∧ key f.φ.v9.ref = b + 17 ∧ key f.φ.v10.ref = b + 18 ∧ key f.φ.v11.ref = b + 19 ∧ key f.φ.c_3.ref = b + 20
  ∧ key f.φ.v12.ref = b + 21 ∧ key f.φ.v13.ref = b + 22 ∧ key f.φ.v14.ref = b + 23 ∧ key f.φ.cst.ref = b + 24 ∧ key f.φ.v15.ref = b + 25
  ∧ key f.φ.v16.ref = b + 26

/-- A field's operations write its buffers in order. -/
theorem Fld.wr (f : Fld) (b : ℕ) (hf : f.Laid b) : Wr (f.ops x i : List (HloOp τ sig (Elt F))) b := by
  obtain ⟨h0, h1, h2, h3, h4, h5, h6, h7, h8, h9, h10, h11, h12, h13, h14, h15, h16, h17, h18, h19, h20, h21, h22, h23, h24, h25, h26⟩ := hf
  exact ⟨⟨_, rfl, h0⟩, ⟨_, rfl, h1⟩, ⟨_, rfl, h2⟩, ⟨_, rfl, h3⟩, ⟨_, rfl, h4⟩, ⟨_, rfl, h5⟩, ⟨_, rfl, h6⟩, ⟨_, rfl, h7⟩, ⟨_, rfl, h8⟩, ⟨_, rfl, h9⟩, ⟨_, rfl, h10⟩, ⟨_, rfl, h11⟩, ⟨_, rfl, h12⟩, ⟨_, rfl, h13⟩, ⟨_, rfl, h14⟩, ⟨_, rfl, h15⟩, ⟨_, rfl, h16⟩, ⟨_, rfl, h17⟩, ⟨_, rfl, h18⟩, ⟨_, rfl, h19⟩, ⟨_, rfl, h20⟩, ⟨_, rfl, h21⟩, ⟨_, rfl, h22⟩, ⟨_, rfl, h23⟩, ⟨_, rfl, h24⟩, ⟨_, rfl, h25⟩, ⟨_, rfl, h26⟩, trivial⟩

/-- A buffer outside the field's is as it was. -/
theorem Fld.keep (f : Fld) (b : ℕ) (hf : f.Laid b) (t : TRef sig T) (h : key t.ref < b ∨ b + 27 ≤ key t.ref) (V : Valuation τ sig (Elt F)) :
    get (after (f.ops x i) V) t = get V t := (f.wr (F := F) x i b hf).keep t h V

/-- The field's last buffer holds the rows its indices name. -/
theorem Fld.value (f : Fld) (b : ℕ) (hf : f.Laid b) (hx : key x.ref < b) (hi : key i.ref < b) (V : Valuation τ sig (Elt F)) :
    get (after (f.ops x i) V) f.φ.v16 = f.rows (get V x) (get V i) := by
  have w := f.wr (F := F) x i b hf
  rw [← f.keep x i b hf x (.inl hx) V, ← f.keep x i b hf i (.inl hi) V]
  obtain ⟨h0, h1, h2, h3, h4, h5, h6, h7, h8, h9, h10, h11, h12, h13, h14, h15, h16, h17, h18, h19, h20, h21, h22, h23, h24, h25, h26⟩ := hf
  have e0 := w.unary 0 V rfl h0 (Nat.lt_add_right 0 hx)
  have e1 := w.reshape 1 V rfl h1 (below h0 (by decide))
  have e2 := w.unary 2 V rfl h2 (Nat.lt_add_right 2 hi)
  have e3 := w.reshape 3 V rfl h3 (below h2 (by decide))
  have e4 := w.nullary 4 V rfl h4
  have e5 := w.unary 5 V rfl h5 (below h4 (by decide))
  have e6 := w.binary 6 V rfl h6 (below h3 (by decide)) (below h5 (by decide))
  have e7 := w.nullary 7 V rfl h7
  have e8 := w.unary 8 V rfl h8 (below h7 (by decide))
  have e9 := w.binary 9 V rfl h9 (below h3 (by decide)) (below h8 (by decide))
  have e10 := w.ternary 10 V rfl h10 (below h6 (by decide)) (below h9 (by decide)) (below h3 (by decide))
  have e11 := w.unary 11 V rfl h11 (below h10 (by decide))
  have e12 := w.nullary 12 V rfl h12
  have e13 := w.nullary 13 V rfl h13
  have e14 := w.unary 14 V rfl h14 (below h13 (by decide))
  have e15 := w.binary 15 V rfl h15 (below h11 (by decide)) (below h14 (by decide))
  have e16 := w.unary 16 V rfl h16 (below h12 (by decide))
  have e17 := w.unary 17 V rfl h17 (below h16 (by decide))
  have e18 := w.binary 18 V rfl h18 (below h11 (by decide)) (below h17 (by decide))
  have e19 := w.binary 19 V rfl h19 (below h15 (by decide)) (below h18 (by decide))
  have e20 := w.nullary 20 V rfl h20
  have e21 := w.binary 21 V rfl h21 (below h19 (by decide)) (below h20 (by decide))
  have e22 := w.binary 22 V rfl h22 (below h1 (by decide)) (below h11 (by decide))
  have e23 := w.unary 23 V rfl h23 (below h21 (by decide))
  have e24 := w.nullary 24 V rfl h24
  have e25 := w.unary 25 V rfl h25 (below h24 (by decide))
  have e26 := w.ternary 26 V rfl h26 (below h23 (by decide)) (below h22 (by decide)) (below h25 (by decide))
  generalize after (f.ops x i) V = V' at *
  rw [e26, e25, e24, e23, e22, e21, e20, e19, e18, e17, e16, e15, e14, e13, e12, e11, e10, e9, e8, e7, e6, e5, e4, e3, e2, e1, e0]
  rfl

end Cert.Proof.Ref

end
-- ==== Proof.Ref.Run.lean ====
/-
  The reference's run: its operations as a list, field by field and then the joining of the fields' rows, and what they leave.
-/
module

public import proofs.«01_k».proof.Proof.Ref.Take

@[expose] public section

noncomputable section

namespace Cert.Proof.Ref

open Cert.ReferenceIdeal Cert.ReferenceIdeal.Gen Cert.ReferenceIdeal.Facts
open Idealize.ShloMosaic Idealize.ShloMosaic.TcCoe Idealize.SL.Sem Idealize.ShloMosaic.StableHlo

variable {F : FTy → Type} [FloatOps F]

/-! ## The fields -/

/-- The fields of the printed program's three parts. -/
def fldsA : List Fld := [
  ⟨0, .of main_v0, .of main_v1, .of main_v2, .of main_v3, main_call0, slices_S26x100000x32_S1x100000x32_0_0_0, slices_S16384x26_S16384x1_0_0⟩,
  ⟨1, .of main_v5, .of main_v6, .of main_v7, .of main_v8, main_call1, slices_S26x100000x32_S1x100000x32_1_0_0, slices_S16384x26_S16384x1_0_1⟩,
  ⟨2, .of main_v10, .of main_v11, .of main_v12, .of main_v13, main_call2, slices_S26x100000x32_S1x100000x32_2_0_0, slices_S16384x26_S16384x1_0_2⟩,
  ⟨3, .of main_v15, .of main_v16, .of main_v17, .of main_v18, main_call3, slices_S26x100000x32_S1x100000x32_3_0_0, slices_S16384x26_S16384x1_0_3⟩,
  ⟨4, .of main_v20, .of main_v21, .of main_v22, .of main_v23, main_call4, slices_S26x100000x32_S1x100000x32_4_0_0, slices_S16384x26_S16384x1_0_4⟩,
  ⟨5, .of main_v25, .of main_v26, .of main_v27, .of main_v28, main_call5, slices_S26x100000x32_S1x100000x32_5_0_0, slices_S16384x26_S16384x1_0_5⟩,
  ⟨6, .of main_v30, .of main_v31, .of main_v32, .of main_v33, main_call6, slices_S26x100000x32_S1x100000x32_6_0_0, slices_S16384x26_S16384x1_0_6⟩,
  ⟨7, .of main_v35, .of main_v36, .of main_v37, .of main_v38, main_call7, slices_S26x100000x32_S1x100000x32_7_0_0, slices_S16384x26_S16384x1_0_7⟩,
  ⟨8, .of main_v40, .of main_v41, .of main_v42, .of main_v43, main_call8, slices_S26x100000x32_S1x100000x32_8_0_0, slices_S16384x26_S16384x1_0_8⟩,
  ⟨9, .of main_v45, .of main_v46, .of main_v47, .of main_v48, main_call9, slices_S26x100000x32_S1x100000x32_9_0_0, slices_S16384x26_S16384x1_0_9⟩,
  ⟨10, .of main_v50, .of main_v51, .of main_v52, .of main_v53, main_call10, slices_S26x100000x32_S1x100000x32_10_0_0, slices_S16384x26_S16384x1_0_10⟩,
  ⟨11, .of main_v55, .of main_v56, .of main_v57, .of main_v58, main_call11, slices_S26x100000x32_S1x100000x32_11_0_0, slices_S16384x26_S16384x1_0_11⟩ ]
def fldsB : List Fld := [
  ⟨12, .of main_v60, .of main_v61, .of main_v62, .of main_v63, main_call12, slices_S26x100000x32_S1x100000x32_12_0_0, slices_S16384x26_S16384x1_0_12⟩,
  ⟨13, .of main_v65, .of main_v66, .of main_v67, .of main_v68, main_call13, slices_S26x100000x32_S1x100000x32_13_0_0, slices_S16384x26_S16384x1_0_13⟩,
  ⟨14, .of main_v70, .of main_v71, .of main_v72, .of main_v73, main_call14, slices_S26x100000x32_S1x100000x32_14_0_0, slices_S16384x26_S16384x1_0_14⟩,
  ⟨15, .of main_v75, .of main_v76, .of main_v77, .of main_v78, main_call15, slices_S26x100000x32_S1x100000x32_15_0_0, slices_S16384x26_S16384x1_0_15⟩,
  ⟨16, .of main_v80, .of main_v81, .of main_v82, .of main_v83, main_call16, slices_S26x100000x32_S1x100000x32_16_0_0, slices_S16384x26_S16384x1_0_16⟩,
  ⟨17, .of main_v85, .of main_v86, .of main_v87, .of main_v88, main_call17, slices_S26x100000x32_S1x100000x32_17_0_0, slices_S16384x26_S16384x1_0_17⟩,
  ⟨18, .of main_v90, .of main_v91, .of main_v92, .of main_v93, main_call18, slices_S26x100000x32_S1x100000x32_18_0_0, slices_S16384x26_S16384x1_0_18⟩,
  ⟨19, .of main_v95, .of main_v96, .of main_v97, .of main_v98, main_call19, slices_S26x100000x32_S1x100000x32_19_0_0, slices_S16384x26_S16384x1_0_19⟩,
  ⟨20, .of main_v100, .of main_v101, .of main_v102, .of main_v103, main_call20, slices_S26x100000x32_S1x100000x32_20_0_0, slices_S16384x26_S16384x1_0_20⟩,
  ⟨21, .of main_v105, .of main_v106, .of main_v107, .of main_v108, main_call21, slices_S26x100000x32_S1x100000x32_21_0_0, slices_S16384x26_S16384x1_0_21⟩,
  ⟨22, .of main_v110, .of main_v111, .of main_v112, .of main_v113, main_call22, slices_S26x100000x32_S1x100000x32_22_0_0, slices_S16384x26_S16384x1_0_22⟩,
  ⟨23, .of main_v115, .of main_v116, .of main_v117, .of main_v118, main_call23, slices_S26x100000x32_S1x100000x32_23_0_0, slices_S16384x26_S16384x1_0_23⟩ ]
def fldsC : List Fld := [
  ⟨24, .of main_v120, .of main_v121, .of main_v122, .of main_v123, main_call24, slices_S26x100000x32_S1x100000x32_24_0_0, slices_S16384x26_S16384x1_0_24⟩,
  ⟨25, .of main_v125, .of main_v126, .of main_v127, .of main_v128, main_call25, slices_S26x100000x32_S1x100000x32_25_0_0, slices_S16384x26_S16384x1_0_25⟩ ]

/-- All fields, in order. -/
def flds : List Fld := fldsA ++ fldsB ++ fldsC

/-- The arguments, typed. -/
abbrev idxs : TRef sig ⟨S16384x26, .i32⟩ := .of main_arg0
abbrev tabs : TRef sig ⟨S26x100000x32, .f32⟩ := .of main_arg1

/-- The operations of a list of fields. -/
def fieldOps (l : List Fld) : List (HloOp τ sig (Elt F)) := l.flatMap (Fld.ops tabs idxs)

/-- The joining of the fields' rows: sixteen of them, the other ten, the two together. -/
def tailOps : List (HloOp τ sig (Elt F)) := [
  nary ![main_v4, main_v9, main_v14, main_v19, main_v24, main_v29, main_v34, main_v39, main_v44, main_v49, main_v54, main_v59, main_v64, main_v69, main_v74, main_v79] main_v130 (fun u => (concatenate S16384x512 1 [⟨S16384x32, (u 0 : (⟨S16384x32, .f32⟩ : BufTy).Contents (Elt F))⟩, ⟨S16384x32, (u 1 : (⟨S16384x32, .f32⟩ : BufTy).Contents (Elt F))⟩, ⟨S16384x32, (u 2 : (⟨S16384x32, .f32⟩ : BufTy).Contents (Elt F))⟩, ⟨S16384x32, (u 3 : (⟨S16384x32, .f32⟩ : BufTy).Contents (Elt F))⟩, ⟨S16384x32, (u 4 : (⟨S16384x32, .f32⟩ : BufTy).Contents (Elt F))⟩, ⟨S16384x32, (u 5 : (⟨S16384x32, .f32⟩ : BufTy).Contents (Elt F))⟩, ⟨S16384x32, (u 6 : (⟨S16384x32, .f32⟩ : BufTy).Contents (Elt F))⟩, ⟨S16384x32, (u 7 : (⟨S16384x32, .f32⟩ : BufTy).Contents (Elt F))⟩, ⟨S16384x32, (u 8 : (⟨S16384x32, .f32⟩ : BufTy).Contents (Elt F))⟩, ⟨S16384x32, (u 9 : (⟨S16384x32, .f32⟩ : BufTy).Contents (Elt F))⟩, ⟨S16384x32, (u 10 : (⟨S16384x32, .f32⟩ : BufTy).Contents (Elt F))⟩, ⟨S16384x32, (u 11 : (⟨S16384x32, .f32⟩ : BufTy).Contents (Elt F))⟩, ⟨S16384x32, (u 12 : (⟨S16384x32, .f32⟩ : BufTy).Contents (Elt F))⟩, ⟨S16384x32, (u 13 : (⟨S16384x32, .f32⟩ : BufTy).Contents (Elt F))⟩, ⟨S16384x32, (u 14 : (⟨S16384x32, .f32⟩ : BufTy).Contents (Elt F))⟩, ⟨S16384x32, (u 15 : (⟨S16384x32, .f32⟩ : BufTy).Contents (Elt F))⟩] concatenates_S16384x32_S16384x32_S16384x32_S16384x32_S16384x32_S16384x32_S16384x32_S16384x32_S16384x32_S16384x32_S16384x32_S16384x32_S16384x32_S16384x32_S16384x32_S16384x32_S16384x512_d1 : (⟨S16384x512, .f32⟩ : BufTy).Contents (Elt F))),
  nary ![main_v84, main_v89, main_v94, main_v99, main_v104, main_v109, main_v114, main_v119, main_v124, main_v129] main_v131 (fun u => (concatenate S16384x320 1 [⟨S16384x32, (u 0 : (⟨S16384x32, .f32⟩ : BufTy).Contents (Elt F))⟩, ⟨S16384x32, (u 1 : (⟨S16384x32, .f32⟩ : BufTy).Contents (Elt F))⟩, ⟨S16384x32, (u 2 : (⟨S16384x32, .f32⟩ : BufTy).Contents (Elt F))⟩, ⟨S16384x32, (u 3 : (⟨S16384x32, .f32⟩ : BufTy).Contents (Elt F))⟩, ⟨S16384x32, (u 4 : (⟨S16384x32, .f32⟩ : BufTy).Contents (Elt F))⟩, ⟨S16384x32, (u 5 : (⟨S16384x32, .f32⟩ : BufTy).Contents (Elt F))⟩, ⟨S16384x32, (u 6 : (⟨S16384x32, .f32⟩ : BufTy).Contents (Elt F))⟩, ⟨S16384x32, (u 7 : (⟨S16384x32, .f32⟩ : BufTy).Contents (Elt F))⟩, ⟨S16384x32, (u 8 : (⟨S16384x32, .f32⟩ : BufTy).Contents (Elt F))⟩, ⟨S16384x32, (u 9 : (⟨S16384x32, .f32⟩ : BufTy).Contents (Elt F))⟩] concatenates_S16384x32_S16384x32_S16384x32_S16384x32_S16384x32_S16384x32_S16384x32_S16384x32_S16384x32_S16384x32_S16384x320_d1 : (⟨S16384x320, .f32⟩ : BufTy).Contents (Elt F))),
  binary main_v130 main_v131 main_v132 ((fun a b => concatenate S16384x832 1 [⟨S16384x512, a⟩, ⟨S16384x320, b⟩] concatenates_S16384x512_S16384x320_S16384x832_d1) : (⟨S16384x512, .f32⟩ : BufTy).Contents (Elt F) → (⟨S16384x320, .f32⟩ : BufTy).Contents (Elt F) → (⟨S16384x832, .f32⟩ : BufTy).Contents (Elt F)) ]

/-- The whole program's operations. -/
def ops : List (HloOp τ sig (Elt F)) := fieldOps flds ++ tailOps

set_option maxRecDepth 8192 in
set_option maxHeartbeats 2000000 in
theorem partA_eq (c : Dev nD) : main_part0 (F := F) c = seq (fieldOps fldsA) := by
  simp only [main_part0, take_eq, fieldOps, fldsA, List.flatMap_cons, List.flatMap_nil, List.append_nil, seq_append, Fld.ops, seq, bind_assoc]
  rfl

set_option maxRecDepth 8192 in
set_option maxHeartbeats 2000000 in
theorem partB_eq (c : Dev nD) : main_part1 (F := F) c = seq (fieldOps fldsB) := by
  simp only [main_part1, take_eq, fieldOps, fldsB, List.flatMap_cons, List.flatMap_nil, List.append_nil, seq_append, Fld.ops, seq, bind_assoc]
  rfl

set_option maxRecDepth 8192 in
set_option maxHeartbeats 2000000 in
theorem partC_eq (c : Dev nD) : main_part2 (F := F) c = seq (fieldOps fldsC ++ tailOps) := by
  simp only [main_part2, take_eq, fieldOps, fldsC, List.flatMap_cons, List.flatMap_nil, List.append_nil, seq_append, Fld.ops, tailOps, seq, bind_assoc]
  rfl

theorem main_eq (c : Dev nD) : main (F := F) c = seq ops := by
  have e : (ops : List (HloOp τ sig (Elt F))) = fieldOps fldsA ++ (fieldOps fldsB ++ (fieldOps fldsC ++ tailOps)) := by
    simp only [ops, flds, fieldOps, List.flatMap_append, List.append_assoc]
  rw [e, seq_append, seq_append, ← partA_eq c, ← partB_eq c, ← partC_eq c]
  rfl

end Cert.Proof.Ref

end
-- ==== Proof.Ref.Fields.lean ====
/-
  What the reference leaves: each field's rows stand in its last buffer, and the result joins them along the second axis.
-/
module

public import proofs.«01_k».proof.Proof.Ref.Run
public import Idealize.ShloMosaic.Lib.Pipeline.Value
public import Idealize.ShloMosaic.Lib.Pipeline.Frame

@[expose] public section

noncomputable section

namespace Cert.Proof.Ref

open Cert.ReferenceIdeal Cert.ReferenceIdeal.Gen Cert.ReferenceIdeal.Facts
open Idealize.ShloMosaic Idealize.ShloMosaic.TcCoe Idealize.SL.Sem Idealize.ShloMosaic.StableHlo

variable {F : FTy → Type} [FloatOps F]

/-! ## The fields one after another -/

instance (f : Fld) (b : ℕ) : Decidable (f.Laid b) := by unfold Fld.Laid; infer_instance

/-- The fields' buffers follow one another from the buffer numbered `b`, their numbers from `n`. -/
def LaidAll : List Fld → ℕ → ℕ → Prop
  | [], _, _ => True
  | f :: l, b, n => f.Laid b ∧ f.n = n ∧ LaidAll l (b + 27) (n + 1)

/-- The layout of a list of fields can be decided. -/
def decLaidAll : (l : List Fld) → (b n : ℕ) → Decidable (LaidAll l b n)
  | [], _, _ => .isTrue trivial
  | f :: l, b, n => @instDecidableAnd (f.Laid b) (f.n = n ∧ LaidAll l (b + 27) (n + 1)) _ (@instDecidableAnd _ _ _ (decLaidAll l (b + 27) (n + 1)))

instance (l : List Fld) (b n : ℕ) : Decidable (LaidAll l b n) := decLaidAll l b n

set_option maxRecDepth 8192 in
theorem laid : LaidAll flds 2 0 := by decide

theorem flds_length : flds.length = 26 := rfl

/-- A buffer before the fields' is as it was. -/
theorem keep_all {T : BufTy} (l : List Fld) (b n : ℕ) (h : LaidAll l b n) (t : TRef sig T) (ht : key t.ref < b) (V : Valuation τ sig (Elt F)) :
    get (after (fieldOps l) V) t = get V t := by
  induction l generalizing b n V with
  | nil => rfl
  | cons f l ih =>
    obtain ⟨hf, -, hl⟩ := h
    show get (after (Fld.ops tabs idxs f ++ fieldOps l) V) t = _
    rw [after_append, ih _ _ hl (Nat.lt_add_right 27 ht), f.keep tabs idxs b hf t (.inl ht)]

/-- Each field's last buffer holds its rows. -/
theorem value_all (l : List Fld) (b n : ℕ) (h : LaidAll l b n) (hb : 2 ≤ b) (V : Valuation τ sig (Elt F)) (k : ℕ) (hk : k < l.length) :
    get (after (fieldOps l) V) (l[k]).φ.v16 = (l[k]).rows (get V tabs) (get V idxs) := by
  induction l generalizing b n V k with
  | nil => exact absurd hk (Nat.not_lt_zero _)
  | cons f l ih =>
    obtain ⟨hf, -, hl⟩ := h
    have hx : key tabs.ref < b := Nat.lt_of_lt_of_le (by decide) hb
    have hi : key idxs.ref < b := Nat.lt_of_lt_of_le (by decide) hb
    show get (after (Fld.ops tabs idxs f ++ fieldOps l) V) _ = _
    rw [after_append]
    cases k with
    | zero =>
      refine Eq.trans ?_ (f.value tabs idxs b hf hx hi V)
      exact keep_all l _ _ hl _ (below hf.2.2.2.2.2.2.2.2.2.2.2.2.2.2.2.2.2.2.2.2.2.2.2.2.2.2 (by decide)) _
    | succ k =>
      have e := ih _ _ hl (Nat.le_add_right_of_le hb) (after (Fld.ops tabs idxs f) V) k (Nat.lt_of_succ_lt_succ hk)
      rw [f.keep tabs idxs b hf tabs (.inl hx), f.keep tabs idxs b hf idxs (.inl hi)] at e
      exact e

/-- The `k`-th field has number `k`. -/
theorem number_all (l : List Fld) (b n : ℕ) (h : LaidAll l b n) (k : ℕ) (hk : k < l.length) : (l[k]).n = n + k := by
  induction l generalizing b n k with
  | nil => exact absurd hk (Nat.not_lt_zero _)
  | cons f l ih =>
    obtain ⟨-, hn, hl⟩ := h
    cases k with
    | zero => exact hn
    | succ k => exact (ih _ _ hl k (Nat.lt_of_succ_lt_succ hk)).trans (by omega)

/-! ## The joining -/

/-- Field `k`. -/
def fld (k : Fin 26) : Fld := flds.get k

theorem fld_n (k : Fin 26) : (fld k).n = k.val := (number_all flds 2 0 laid k.val k.isLt).trans (Nat.zero_add _)

theorem joins16 (f : Fin 16 → FVec F S16384x32 .f32) :
    Shape.Concatenates ((List.ofFn fun k => (⟨S16384x32, f k⟩ : (s : Shape) × (s.Idx → F .f32))).map (·.1)) S16384x512 1 :=
  concatenates_S16384x32_S16384x32_S16384x32_S16384x32_S16384x32_S16384x32_S16384x32_S16384x32_S16384x32_S16384x32_S16384x32_S16384x32_S16384x32_S16384x32_S16384x32_S16384x32_S16384x512_d1

theorem joins10 (f : Fin 10 → FVec F S16384x32 .f32) :
    Shape.Concatenates ((List.ofFn fun k => (⟨S16384x32, f k⟩ : (s : Shape) × (s.Idx → F .f32))).map (·.1)) S16384x320 1 :=
  concatenates_S16384x32_S16384x32_S16384x32_S16384x32_S16384x32_S16384x32_S16384x32_S16384x32_S16384x32_S16384x32_S16384x320_d1

/-- The fields' rows side by side: sixteen fields, then ten. -/
def joined (r : Fin 26 → FVec F S16384x32 .f32) : FVec F S16384x832 .f32 :=
  concatenate S16384x832 1
    [⟨S16384x512, concatenate S16384x512 1 (List.ofFn fun k : Fin 16 => ⟨S16384x32, r (k.castAdd 10)⟩) (joins16 fun k => r (k.castAdd 10))⟩,
     ⟨S16384x320, concatenate S16384x320 1 (List.ofFn fun k : Fin 10 => ⟨S16384x32, r (k.natAdd 16)⟩) (joins10 fun k => r (k.natAdd 16))⟩]
    concatenates_S16384x512_S16384x320_S16384x832_d1

/-- The joining leaves in the result the fields' last buffers side by side. -/
theorem tail_value (V : Valuation τ sig (Elt F)) :
    get (after tailOps V) (.of main_v132 : TRef sig ⟨S16384x832, .f32⟩) = joined fun k => get V (fld k).φ.v16 := by
  show after tailOps V (Proc.devRef .tc main_v132) = _
  simp only [tailOps, after_cons, after_nil]
  rw [binary_result, nary_result, nary_result_ne _ _ _ _ _ _ (by decide), nary_result]
  rfl

/-- The joining keeps the arguments. -/
theorem tail_keep (V : Valuation τ sig (Elt F)) (r : Ref sig .tc) (h0 : r ≠ main_v130) (h1 : r ≠ main_v131) (h2 : r ≠ main_v132) :
    after tailOps V (Proc.devRef .tc r) = V (Proc.devRef .tc r) := by
  simp only [tailOps, after_cons, after_nil]
  rw [binary_result_ne (h := h2), nary_result_ne (h := h1), nary_result_ne (h := h0)]

/-! ## The whole program -/

/-- The reference's result of its arguments. -/
def result (X : IVec S16384x26 32) (T : FVec F S26x100000x32 .f32) : FVec F S16384x832 .f32 := joined fun k => (fld k).rows T X

theorem ops_value (V : Valuation τ sig (Elt F)) :
    after ops V (Proc.devRef .tc main_v132) = result (V (Proc.devRef .tc main_arg0)) (V (Proc.devRef .tc main_arg1)) := by
  unfold ops result
  rw [after_append]
  refine (tail_value _).trans (congrArg (joined (F := F)) (funext fun k => ?_))
  exact value_all flds 2 0 laid (le_refl 2) V k.val k.isLt

theorem ops_arg0 (V : Valuation τ sig (Elt F)) : after ops V (Proc.devRef .tc main_arg0) = V (Proc.devRef .tc main_arg0) := by
  unfold ops
  rw [after_append, tail_keep _ _ (by decide) (by decide) (by decide)]
  have e := keep_all flds 2 0 laid idxs (by decide) V
  generalize after (fieldOps flds) V = W at e ⊢
  exact e

theorem ops_arg1 (V : Valuation τ sig (Elt F)) : after ops V (Proc.devRef .tc main_arg1) = V (Proc.devRef .tc main_arg1) := by
  unfold ops
  rw [after_append, tail_keep _ _ (by decide) (by decide) (by decide)]
  have e := keep_all flds 2 0 laid tabs (by decide) V
  generalize after (fieldOps flds) V = W at e ⊢
  exact e

theorem scopedRefs_eq : (Finset.univ.filter fun b : Ref sig .tc => b.isScoped) = ∅ := by decide
theorem scopedSems_eq : (Finset.univ.filter fun sm : SemLoc sig => sm.isScoped .tc) = ∅ := by decide

/-- A field's operations touch the core's buffers only. -/
theorem Fld.ops_sub (x : TRef sig ⟨S26x100000x32, .f32⟩) (i : TRef sig ⟨S16384x26, .i32⟩) (f : Fld) :
    (f.ops x i : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub .., binary_bufs_sub .., unary_bufs_sub ..,
    nullary_bufs_sub .., unary_bufs_sub .., ternary_bufs_sub ..⟩

theorem Fld.ops_fresh (x : TRef sig ⟨S26x100000x32, .f32⟩) (i : TRef sig ⟨S16384x26, .i32⟩) (f : Fld) :
    (f.ops x i : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- What holds of every field's operations and of the joining's holds of all. -/
theorem ops_all (P : HloOp τ sig (Elt F) → Prop) (hf : ∀ f : Fld, (f.ops tabs idxs).Forall P) (ht : tailOps.Forall P) : ∀ op ∈ ops, P op := by
  intro op h
  rcases List.mem_append.1 h with h | h
  · obtain ⟨f, -, h⟩ := List.mem_flatMap.1 h
    exact List.forall_iff_forall_mem.1 (hf f) op h
  · exact List.forall_iff_forall_mem.1 ht op h

theorem ops_sub : (ops : List (HloOp τ sig (Elt F))).Forall fun op => op.bufs ⊆ tcRefs τ sig :=
  List.forall_iff_forall_mem.2 (ops_all _ (Fld.ops_sub tabs idxs) ⟨nary_bufs_sub .., nary_bufs_sub .., binary_bufs_sub ..⟩)

theorem ops_fresh : ∀ op ∈ (ops : List (HloOp τ sig (Elt F))), op.fresh = ∅ :=
  ops_all _ (Fld.ops_fresh tabs idxs) ⟨rfl, rfl, rfl⟩

/-- The reference runs to its result; the arguments stay and the semaphores are zero. -/
theorem run (m : (ℓ : Loc nD τ sig) → Buf (Elt F) ℓ) (ρ : Dev nD → PrngReg) :
    θ_run (defs (F := F)) (onTc (τ := τ) main) ⟨m, fun _ => 0, ρ⟩ fun r =>
      (∀ c : Dev nD, r.2.mem (c.tc.loc main_v132) = result (m (c.tc.loc main_arg0)) (m (c.tc.loc main_arg1))
        ∧ r.2.mem (c.tc.loc main_arg0) = m (c.tc.loc main_arg0) ∧ r.2.mem (c.tc.loc main_arg1) = m (c.tc.loc main_arg1))
      ∧ r.2.sem = fun _ => 0 :=
  (θ_run _ _ _).mono
    (fun r h => ⟨fun c => ⟨(h c main_v132).trans (ops_value _), (h c main_arg0).trans (ops_arg0 _), (h c main_arg1).trans (ops_arg1 _)⟩,
      sem_eq_zero_of_no_sems (by decide) r.2⟩)
    (StableHlo.run_seq scopedRefs_eq scopedSems_eq defs main (fun _ => ops) main_eq (fun _ => ops_sub) m ρ (fun _ => ops_fresh))

end Cert.Proof.Ref

end
-- ==== Proof.Ref.Value.lean ====
/-
  The reference's result, element by element: with every index naming a row of its table, the element at batch row `b` and
  column `32 k + e` is element `e` of the row of table `k` that index `(b, k)` names.
-/
module

public import proofs.«01_k».proof.Proof.Ref.Fields
public import Idealize.ShloMosaic.Lib.Pointwise.Index
public import Idealize.ShloMosaic.Lib.Routing.Ops
public import Idealize.ShloMosaic.Lib.WordCmp
public import Idealize.ShloMosaic.Lib.ReduceAll

@[expose] public section

noncomputable section

namespace Cert.Proof.Ref

open Cert.ReferenceIdeal Cert.ReferenceIdeal.Gen Cert.ReferenceIdeal.Facts
open Idealize.ShloMosaic Idealize.ShloMosaic.WordCmp

variable {F : FTy → Type} [FloatOps F]

/-! ## One lookup -/

/-- An index that names a row is the row's start. -/
theorem starts_apply (i : IVec S16384 32) (b : Fin 16384) (h : (i (ix1 b)).toNat < 100000) : starts i (ix2 b (0 : Fin 1)) = i (ix1 b) := by
  unfold starts
  rw [broadcastInDim_apply _ _ _ _ (ix1 b) (fun a => match a with | ⟨0, _⟩ => rfl)]
  have e : cmpi .slt i (broadcastInDim S16384 ![] bcast_S_S16384 (constantI S_ 32 0#32)) (ix1 b) = 0#1 := by
    show IntOp.cmpi .slt (i (ix1 b)) 0#32 = 0#1
    rw [cmpi_slt_zero, decide_eq_false (by omega)]; rfl
  show Scalar.select (cmpi .slt i (broadcastInDim S16384 ![] bcast_S_S16384 (constantI S_ 32 0#32)) (ix1 b)) _ _ = _
  rw [e]; rfl

/-- Then each of those lies in the table. -/
theorem inTable_one (i : IVec S16384 32) (h : ∀ b : Fin 16384, (i (ix1 b)).toNat < 100000) (j : S16384.Idx) : inTable (starts i) j = 1#1 := by
  refine Host.reduce_andi_one _ _ _ _ j rfl fun y => ?_
  obtain ⟨a, rfl⟩ : ∃ a : Fin 16384, y = ix2 a (0 : Fin 1) :=
    ⟨y 0, funext fun k => match k with | ⟨0, _⟩ => rfl | ⟨1, _⟩ => Subsingleton.elim (α := Fin 1) _ _⟩
  have hb := h a
  have hs := starts_apply i a hb
  show IntOp.andi (IntOp.cmpi .sge (starts i (ix2 a 0)) 0#32) (IntOp.cmpi .sle (starts i (ix2 a 0)) 99999#32) = 1#1
  rw [hs, cmpi_sge_zero, cmpi_sle_of_lt (by omega) (by decide), decide_eq_true (by omega : (i (ix1 a)).toNat < 2 ^ (32 - 1)),
    decide_eq_true (by show _ ≤ 99999; omega : (i (ix1 a)).toNat ≤ (99999#32 : BitVec 32).toNat)]
  rfl

/-- A lookup reads the table at its indices. -/
theorem rows_apply (x : FVec F S100000x32 .f32) (i : IVec S16384 32) (h : ∀ b : Fin 16384, (i (ix1 b)).toNat < 100000) (b : Fin 16384) (e : Fin 32) :
    rows x i (ix2 b e) = x (ix2 (⟨(i (ix1 b)).toNat, h b⟩ : Fin 100000) e) := by
  unfold rows
  show Scalar.select (broadcastInDim S16384x32 ![0] bcast_S16384_S16384x32_0 (inTable (starts i)) (ix2 b e)) _ _ = _
  rw [broadcastInDim_apply _ _ _ _ (ix1 b) (fun a => match a with | ⟨0, _⟩ => rfl), inTable_one i h]
  refine Eq.trans (b := Host.gather gather_S100000x32_S16384x1_S16384x32_1_0_n_n_0_1_132 x (starts i) (ix2 b e)) rfl (Routing.gather_row _ rfl rfl rfl rfl rfl x _ b e _ ?_ (by decide))
  refine (show _ = starts i (ix2 b 0) from congrArg (starts i) (funext fun k => match k with | ⟨0, _⟩ => rfl | ⟨1, _⟩ => rfl)).trans ((starts_apply i b (h b)).trans ?_)
  exact BitVec.eq_of_toNat_eq (by simp)

/-! ## One field -/

/-- A field's indices are its column. -/
theorem col_apply (f : Fld) (k : Fin 26) (hk : f.n = k.val) (X : IVec S16384x26 32) (b : Fin 16384) :
    shapeCast S16384 (f.col X) shapeCasts_S16384x1_S16384 (ix1 b) = X (ix2 b k) := by
  rw [shapeCast_apply _ _ _ (ix2 b (0 : Fin 1)) (by rw [Shape.rowMajor_val_one, Shape.rowMajor_val_two]; exact (Nat.add_zero _).trans (Nat.mul_one _))]
  exact extractStridedSlice_apply _ _ _ _ _ fun a => match a with
    | ⟨0, _⟩ => (Nat.zero_add _).symm
    | ⟨1, _⟩ => hk.symm

/-- A field's table is its slab. -/
theorem tab_apply (f : Fld) (k : Fin 26) (hk : f.n = k.val) (T : FVec F S26x100000x32 .f32) (v : Fin 100000) (e : Fin 32) :
    shapeCast S100000x32 (f.tab T) shapeCasts_S1x100000x32_S100000x32 (ix2 v e) = T (ix3 k v e) := by
  rw [shapeCast_apply _ _ _ (ix3 (0 : Fin 1) v e) (by
    rw [Shape.rowMajor_val_two, Shape.rowMajor_val_three]
    show ((0 * 100000 + v.val) * 32 + e.val) = v.val * 32 + e.val
    rw [Nat.zero_mul, Nat.zero_add])]
  exact extractStridedSlice_apply _ _ _ _ _ fun a => match a with
    | ⟨0, _⟩ => hk.symm
    | ⟨1, _⟩ => (Nat.zero_add _).symm
    | ⟨2, _⟩ => (Nat.zero_add _).symm

/-- A field's rows are those its column names in its slab. -/
theorem fld_rows_apply (k : Fin 26) (X : IVec S16384x26 32) (T : FVec F S26x100000x32 .f32) (h : ∀ y, (X y).toNat < 100000) (b : Fin 16384) (e : Fin 32) :
    (fld k).rows T X (ix2 b e) = T (ix3 k (⟨(X (ix2 b k)).toNat, h _⟩ : Fin 100000) e) := by
  have hc := col_apply (fld k) k (fld_n k) X
  unfold Fld.rows
  rw [rows_apply _ _ (fun b => by rw [hc b]; exact h _), tab_apply _ k (fld_n k)]
  exact congrArg (fun v => T (ix3 k v e)) (Fin.ext (congrArg BitVec.toNat (hc b)))

/-! ## The joining -/

/-- Column `q` of the joined rows is column `q mod 32` of the `q / 32`-th. -/
theorem joined_apply (r : Fin 26 → FVec F S16384x32 .f32) (b : Fin 16384) (q : Fin 832) :
    joined r (ix2 b q) = r ⟨q.val / 32, by omega⟩ (ix2 b (⟨q.val % 32, by omega⟩ : Fin 32)) := by
  have off : ∀ a : Fin 2, a ≠ 1 → a = 0 := by decide
  unfold joined
  by_cases hq : q.val < 512
  · rw [concatenate_pair_apply_left (s₁ := S16384x512) (s₂ := S16384x320) (t := S16384x832) 1 _ _ _ (ix2 b q) rfl (ix2 b (⟨q.val, hq⟩ : Fin 512)) (fun a => match a with | ⟨0, _⟩ => rfl | ⟨1, _⟩ => rfl)]
    rw [concatenate_ofFn_apply (t := S16384x512) (s₁ := S16384x32) 1 (fun k : Fin 16 => r (k.castAdd 10)) _ rfl 32 rfl _ ⟨q.val / 32, by omega⟩ rfl (ix2 b (⟨q.val % 32, by omega⟩ : Fin 32)) rfl
      (fun a ha => by rw [off a ha]; rfl)]
    rfl
  · rw [concatenate_pair_apply_right (s₁ := S16384x512) (s₂ := S16384x320) (t := S16384x832) 1 _ _ _ (ix2 b q) rfl rfl (ix2 b (⟨q.val - 512, by omega⟩ : Fin 320)) (fun a ha => by rw [off a ha]; rfl)
      (by show q.val - 512 + 512 = q.val; omega)]
    rw [concatenate_ofFn_apply (t := S16384x320) (s₁ := S16384x32) 1 (fun k : Fin 10 => r (k.natAdd 16)) _ rfl 32 rfl _ ⟨(q.val - 512) / 32, by omega⟩ rfl (ix2 b (⟨q.val % 32, by omega⟩ : Fin 32))
      (by show q.val % 32 = (q.val - 512) % 32; omega) (fun a ha => by rw [off a ha]; rfl)]
    exact congrArg (fun k => r k _) (Fin.ext (by show 16 + (q.val - 512) / 32 = q.val / 32; omega))

/-- The reference's result at batch row `b`, column `q`. -/
theorem result_apply (X : IVec S16384x26 32) (T : FVec F S26x100000x32 .f32) (h : ∀ y, (X y).toNat < 100000) (b : Fin 16384) (q : Fin 832) :
    result X T (ix2 b q) = T (ix3 (⟨q.val / 32, by omega⟩ : Fin 26)
      (⟨(X (ix2 b (⟨q.val / 32, by omega⟩ : Fin 26))).toNat, h _⟩ : Fin 100000) (⟨q.val % 32, by omega⟩ : Fin 32)) :=
  (joined_apply _ b q).trans (fld_rows_apply _ X T h b _)

end Cert.Proof.Ref

end
-- ==== Proof.Range.lean ====
/-
  What the precondition says of one index: it names a row of its table.
-/
module

public import proofs.«01_k».proof.Defs
public import proofs.«01_k».proof.Proof.Gen.Pre_in_vocabulary
public import Idealize.ShloMosaic.Lib.ReduceAll

@[expose] public section

noncomputable section

namespace Cert.Proof.Range

open Cert.Pre_in_vocabulary
open Idealize.ShloMosaic

variable {F : FTy → Type} [FloatOps F]

/-- A word between 0 and 99999, read signed, is below 100000. -/
theorem toNat_lt_of_toInt {v : BitVec 32} (h0 : (0#32).toInt ≤ v.toInt) (h1 : v.toInt < (100000#32).toInt) : v.toNat < 100000 := by
  rw [show (0#32 : BitVec 32).toInt = 0 from by decide] at h0
  rw [show (100000#32 : BitVec 32).toInt = 100000 from by decide] at h1
  rw [BitVec.toInt_eq_toNat_cond] at h0 h1
  have := v.isLt
  split at h0 <;> omega

/-- If the predicate holds of the arguments, every index is below the number of a table's rows. -/
theorem index_lt (x : IVec S16384x26 32) (t : FVec F S26x100000x32 .f32) (h : fn (F := F) x t = fun _ => 1#1) (y : S16384x26.Idx) :
    (x y).toNat < 100000 := by
  have hs : Subsingleton S_.Idx := ⟨fun a b => funext fun k => k.elim0⟩
  have e : IntOp.andi (IntOp.cmpi .sge (x y) 0#32) (IntOp.cmpi .slt (x y) 100000#32) = 1#1 :=
    Host.reduce_andi_all _ _ _ _ (fun k => k.elim0) (congrFun h fun k => k.elim0) y
  obtain ⟨e0, e1⟩ := IntOp.andi_eq_one.1 e
  exact toNat_lt_of_toInt (IntOp.cmpi_sge.1 e0) (IntOp.cmpi_slt.1 e1)

end Cert.Proof.Range

end
-- ==== Proof.lean ====
/-
  The certificate. The kernel's run (Proof/K, Proof/KI) ends with the transpose of the gathered rows, and the reference's run
  (Proof/Ref) with the same element by element; the precondition puts every index within its table (Proof/Range.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocabulary
public import proofs.«01_k».proof.Proof.K.Launch
public import proofs.«01_k».proof.Proof.KI.Launch
public import proofs.«01_k».proof.Proof.Ref.Value
public import proofs.«01_k».proof.Proof.Range
public import Idealize.ShloMosaic.Adequacy
public import Idealize.ShloMosaic.Init

@[expose] public section

noncomputable section

namespace Cert.Proof

open Idealize.ShloMosaic Idealize.SL.Sem

instance (e : EltTy) : Nonempty (Elt Bits e) := by cases e <;> exact ⟨(0 : BitVec _)⟩
instance (e : EltTy) : Nonempty (Elt Ideal e) := by
  cases e with
  | _ => first | exact ⟨(0 : BitVec _)⟩ | exact ⟨(0 : EReal)⟩

/-- The precondition puts the kernel's transposed indices in range. -/
theorem preK (m : (ℓ : Loc Cert.Kernel.nD Cert.Kernel.τ Cert.Kernel.sig) → Buf (Elt Bits) ℓ)
    (h : Cert.Pre_Kernel m) : K.PreOK m := fun d _ => Range.index_lt _ _ (h d) _

/-- The same of the idealized kernel. -/
theorem preKI (m : (ℓ : Loc Cert.KernelIdeal.nD Cert.KernelIdeal.τ Cert.KernelIdeal.sig) → Buf (Elt Ideal) ℓ)
    (h : Cert.Pre_KernelIdeal m) : KI.PreOK m := fun d _ => Range.index_lt _ _ (h d) _

/-- The kernel's result and the reference's, of the same arguments, are one array. -/
theorem result_eq (m : (ℓ : Loc Cert.KernelIdeal.nD Cert.KernelIdeal.τ Cert.KernelIdeal.sig) → Buf (Elt Ideal) ℓ) (c : Dev Cert.KernelIdeal.nD)
    (h : ∀ y : Cert.KernelIdeal.S16384x26.Idx, ((m (KI.a0Loc c) : Cert.KernelIdeal.S16384x26.Idx → BitVec 32) y).toNat < 100000) :
    Ref.result (F := Ideal) (m (KI.a0Loc c)) (m (KI.a1Loc c)) = KI.RT m c := by
  funext y
  obtain ⟨b, q, rfl⟩ : ∃ (b : Fin 16384) (q : Fin 832), y = ix2 b q := ⟨y 0, y 1, eq_ix2 y⟩
  rw [Ref.result_apply _ _ h]
  unfold KI.RT
  rw [transpose_apply _ _ _ _ (ix2 q b) (fun a => match a with | ⟨0, _⟩ => rfl | ⟨1, _⟩ => rfl)]
  have hf : q.val / 32 < 26 := by omega
  have he : q.val % 32 < 32 := by omega
  have hX : KI.XT m c (KI.atX (q.val / 32) b.val) = m (KI.a0Loc c) (ix2 b (⟨q.val / 32, by omega⟩ : Fin 26)) :=
    transpose_apply _ _ _ _ _ fun a => match a with
      | ⟨0, _⟩ => (Nat.mod_eq_of_lt hf).symm
      | ⟨1, _⟩ => (Nat.mod_eq_of_lt b.isLt).symm
  show _ = KI.TT m c (KI.atT (q.val / 32) (q.val % 32) (KI.XT m c (KI.atX (q.val / 32) b.val)).toNat)
  rw [hX]
  exact (transpose_apply _ _ _ _ _ fun a => match a with
      | ⟨0, _⟩ => (Nat.mod_eq_of_lt hf).symm
      | ⟨1, _⟩ => (Nat.mod_eq_of_lt he).symm
      | ⟨2, _⟩ => (Nat.mod_eq_of_lt (h _)).symm).symm

/-- The reference ends with its arguments as they were. -/
theorem refFrame : Cert.quiescent_ReferenceIdeal (hReferenceIdeal := Cert.ReferenceIdeal.Gen.facts) := fun m g _ =>
  (θ_run _ _ _).mono (fun _ h => ⟨fun c => (h.1 c).2, h.2⟩) (Ref.run (F := Ideal) m g)

/-- The kernel and the reference end with equal results. -/
theorem algebraic : Cert.algebraic_KernelIdeal_ReferenceIdeal (hKernelIdeal := Cert.KernelIdeal.Gen.facts)
    (hReferenceIdeal := Cert.ReferenceIdeal.Gen.facts) (hPre_in_vocabulary := Cert.Pre_in_vocabulary.Gen.facts) := by
  intro m g m' g' hpre hm
  refine ⟨fun c => KI.RT m c, (θ_run _ _ _).mono (fun r h c => ⟨(h.1 c).2.2, (h.1 c).1, (h.1 c).2.1⟩) (KI.run_main m g (preKI m hpre)),
    (θ_run _ _ _).mono (fun r h c => ⟨(h.1 c).1.trans ?_, (h.1 c).2⟩) (Ref.run (F := Ideal) m' g')⟩
  have e := result_eq m c fun y => Range.index_lt _ _ (hpre c) y
  rw [(hm c).1, (hm c).2]
  exact e

theorem claim : Cert.Claim := ⟨Cert.Kernel.Gen.facts, Cert.KernelIdeal.Gen.facts, Cert.ReferenceIdeal.Gen.facts, Cert.Pre_in_vocabulary.Gen.facts,
  fun m g h => (θ_run _ _ _).mono (fun _ h => ⟨fun c => ⟨(h.1 c).1, (h.1 c).2.1⟩, h.2⟩) (K.run_main m g (preK m h)),
  fun m g h => (θ_run _ _ _).mono (fun _ h => ⟨fun c => ⟨(h.1 c).1, (h.1 c).2.1⟩, h.2⟩) (KI.run_main m g (preKI m h)),
  refFrame,
  fun m g _ => refFrame m g trivial,
  trivial,
  algebraic⟩

end Cert.Proof

end
